-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x1024 : Shape := ⟨2, ![1024, 1024]⟩
abbrev S1024x512 : Shape := ⟨2, ![1024, 512]⟩
abbrev S8192x512 : Shape := ⟨2, ![8192, 512]⟩
abbrev S2x2x512x1024 : Shape := ⟨4, ![2, 2, 512, 1024]⟩
abbrev S2x512x1024 : Shape := ⟨3, ![2, 512, 1024]⟩
abbrev S4x2x256x1024 : Shape := ⟨4, ![4, 2, 256, 1024]⟩
abbrev S2 : Shape := ⟨1, ![2]⟩
abbrev S_ : Shape := ⟨0, ![]⟩
abbrev S1 : Shape := ⟨1, ![1]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x256x1024 : Shape := ⟨3, ![1, 256, 1024]⟩
abbrev S256x1024 : Shape := ⟨2, ![256, 1024]⟩
abbrev S1x1x256x1024 : Shape := ⟨4, ![1, 1, 256, 1024]⟩
abbrev S256x512 : Shape := ⟨2, ![256, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x512, .f32⟩
  | .hbm, ⟨3, _⟩ => ⟨S8192x512, .f32⟩
  | .local _ .vmem, ⟨0, _⟩ => ⟨S1024x1024, .f32⟩
  | .local _ .vmem, ⟨1, _⟩ => ⟨S1024x512, .f32⟩
  | .local _ .vmem, ⟨2, _⟩ => ⟨S8192x512, .f32⟩
  | .local _ .vmem, ⟨3, _⟩ => ⟨S2x2x512x1024, .f32⟩
  | .local _ .vmem, ⟨4, _⟩ => ⟨S2x512x1024, .f32⟩
  | .local _ .vmem, ⟨5, _⟩ => ⟨S4x2x256x1024, .bf16⟩
  | .local _ .vmem, ⟨6, _⟩ => ⟨S4x2x256x1024, .bf16⟩
  | .local _ .vmem, ⟨7, _⟩ => ⟨S1024x1024, .bf16⟩
  | .local _ .vmem, ⟨8, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_13 : BitVec 32 := 1#32
  let v21 : BitVec 32 := Scalar.muli v5 c1_i32_13
  let v22 : BitVec 32 := Scalar.addi c0_i32 v21
  v22.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_15 : BitVec 32 := 1#32
  let v23 : BitVec 32 := Scalar.muli v7 c1_i32_15
  let v24 : BitVec 32 := Scalar.addi c0_i32_16 v23
  v24.toNat
def k0_off1 (d0 : Dev nD) (c0_i32_27 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v35 : BitVec 32 := Scalar.muli v2 c1024_i32
  let v36 : BitVec 32 := Scalar.addi v35 c0_i32_27
  let c0_i32_33 : BitVec 32 := 0#32
  ![v36.toNat, 0]
def k0_off2 (d0 : Dev nD) (c0_i32_42 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_41 : BitVec 32 := 8#32
  let v49 : BitVec 32 := Scalar.addi v2 c8_i32_41
  let v50 : BitVec 32 := Scalar.subi v49 c0_i32_42
  let c1_i32_43 : BitVec 32 := 1#32
  let v51 : BitVec 32 := Scalar.subi v50 c1_i32_43
  let c8_i32_44 : BitVec 32 := 8#32
  let v52 : BitVec 32 := Scalar.remsi v51 c8_i32_44
  let c1024_i32_51 : BitVec 32 := 1024#32
  let v58 : BitVec 32 := Scalar.muli v52 c1024_i32_51
  let c0_i32_52 : BitVec 32 := 0#32
  let v59 : BitVec 32 := Scalar.addi v58 c0_i32_52
  let c0_i32_58 : BitVec 32 := 0#32
  ![v59.toNat, 0]
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_81 : BitVec 32 := 1#32
  let v79 : BitVec 32 := Scalar.muli v7 c1_i32_81
  let v80 : BitVec 32 := Scalar.addi c0_i32_82 v79
  v80.toNat
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_98 : BitVec 32 := 1#32
  let v95 : BitVec 32 := Scalar.muli v7 c1_i32_98
  let v96 : BitVec 32 := Scalar.addi c0_i32_99 v95
  v96.toNat
def k0_off3 (d0 : Dev nD) (c0_i32_104 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : BitVec 32 := Scalar.addi v2 c0_i32_104
  let c1_i32_105 : BitVec 32 := 1#32
  let v106 : BitVec 32 := Scalar.addi v105 c1_i32_105
  let c8_i32_106 : BitVec 32 := 8#32
  let v107 : BitVec 32 := Scalar.remsi v106 c8_i32_106
  let c1024_i32_113 : BitVec 32 := 1024#32
  let v113 : BitVec 32 := Scalar.muli v107 c1024_i32_113
  let c512_i32_114 : BitVec 32 := 512#32
  let v114 : BitVec 32 := Scalar.addi v113 c512_i32_114
  let c0_i32_120 : BitVec 32 := 0#32
  ![v114.toNat, 0]
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_143 : BitVec 32 := 1#32
  let v134 : BitVec 32 := Scalar.muli v5 c1_i32_143
  let v135 : BitVec 32 := Scalar.addi c0_i32_144 v134
  v135.toNat
def k0_dev6 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_160 : BitVec 32 := 1#32
  let v150 : BitVec 32 := Scalar.muli v5 c1_i32_160
  let v151 : BitVec 32 := Scalar.addi c0_i32_161 v150
  v151.toNat
def k0_dev7 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_245 : BitVec 32 := 1#32
  let v225 : BitVec 32 := Scalar.muli v5 c1_i32_245
  let v226 : BitVec 32 := Scalar.addi c0_i32_246 v225
  v226.toNat
def k0_dev8 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_253 : BitVec 32 := 1#32
  let v227 : BitVec 32 := Scalar.muli v7 c1_i32_253
  let v228 : BitVec 32 := Scalar.addi c0_i32_254 v227
  v228.toNat
def k0_dev9 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_283 : BitVec 32 := 1#32
  let v255 : BitVec 32 := Scalar.muli v7 c1_i32_283
  let v256 : BitVec 32 := Scalar.addi c0_i32_284 v255
  v256.toNat
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_291 : BitVec 32 := 1#32
  let v257 : BitVec 32 := Scalar.muli v5 c1_i32_291
  let v258 : BitVec 32 := Scalar.addi c0_i32_292 v257
  v258.toNat
def k0_dev11 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_321 : BitVec 32 := 1#32
  let v285 : BitVec 32 := Scalar.muli v5 c1_i32_321
  let v286 : BitVec 32 := Scalar.addi c0_i32_322 v285
  v286.toNat
def k0_dev12 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_329 : BitVec 32 := 1#32
  let v287 : BitVec 32 := Scalar.muli v7 c1_i32_329
  let v288 : BitVec 32 := Scalar.addi c0_i32_330 v287
  v288.toNat
def k0_dev13 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_359 : BitVec 32 := 1#32
  let v315 : BitVec 32 := Scalar.muli v7 c1_i32_359
  let v316 : BitVec 32 := Scalar.addi c0_i32_360 v315
  v316.toNat
def k0_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_367 : BitVec 32 := 1#32
  let v317 : BitVec 32 := Scalar.muli v5 c1_i32_367
  let v318 : BitVec 32 := Scalar.addi c0_i32_368 v317
  v318.toNat
def k0_dev15 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_463 : BitVec 32 := 1#32
  let v398 : BitVec 32 := Scalar.muli v5 c1_i32_463
  let v399 : BitVec 32 := Scalar.addi c0_i32_464 v398
  v399.toNat
def k0_dev16 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_473 : BitVec 32 := 1#32
  let v400 : BitVec 32 := Scalar.muli v7 c1_i32_473
  let v401 : BitVec 32 := Scalar.addi c0_i32_474 v400
  v401.toNat
def k0_dev17 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_514 : BitVec 32 := 1#32
  let v434 : BitVec 32 := Scalar.muli v7 c1_i32_514
  let v435 : BitVec 32 := Scalar.addi c0_i32_515 v434
  v435.toNat
def k0_dev18 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_524 : BitVec 32 := 1#32
  let v436 : BitVec 32 := Scalar.muli v5 c1_i32_524
  let v437 : BitVec 32 := Scalar.addi c0_i32_525 v436
  v437.toNat
def k0_dev19 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_565 : BitVec 32 := 1#32
  let v470 : BitVec 32 := Scalar.muli v5 c1_i32_565
  let v471 : BitVec 32 := Scalar.addi c0_i32_566 v470
  v471.toNat
def k0_dev20 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_575 : BitVec 32 := 1#32
  let v472 : BitVec 32 := Scalar.muli v7 c1_i32_575
  let v473 : BitVec 32 := Scalar.addi c0_i32_576 v472
  v473.toNat
def k0_dev21 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_616 : BitVec 32 := 1#32
  let v506 : BitVec 32 := Scalar.muli v7 c1_i32_616
  let v507 : BitVec 32 := Scalar.addi c0_i32_617 v506
  v507.toNat
def k0_dev22 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_626 : BitVec 32 := 1#32
  let v508 : BitVec 32 := Scalar.muli v5 c1_i32_626
  let v509 : BitVec 32 := Scalar.addi c0_i32_627 v508
  v509.toNat
def k0_dev23 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_722 : BitVec 32 := 1#32
  let v589 : BitVec 32 := Scalar.muli v5 c1_i32_722
  let v590 : BitVec 32 := Scalar.addi c0_i32_723 v589
  v590.toNat
def k0_dev24 (d0 : Dev nD) : Nat :=
  let c0_i32_733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_732 : BitVec 32 := 1#32
  let v591 : BitVec 32 := Scalar.muli v7 c1_i32_732
  let v592 : BitVec 32 := Scalar.addi c0_i32_733 v591
  v592.toNat
def k0_dev25 (d0 : Dev nD) : Nat :=
  let c0_i32_774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_773 : BitVec 32 := 1#32
  let v625 : BitVec 32 := Scalar.muli v7 c1_i32_773
  let v626 : BitVec 32 := Scalar.addi c0_i32_774 v625
  v626.toNat
def k0_dev26 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_783 : BitVec 32 := 1#32
  let v627 : BitVec 32 := Scalar.muli v5 c1_i32_783
  let v628 : BitVec 32 := Scalar.addi c0_i32_784 v627
  v628.toNat
def k0_dev27 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_824 : BitVec 32 := 1#32
  let v661 : BitVec 32 := Scalar.muli v5 c1_i32_824
  let v662 : BitVec 32 := Scalar.addi c0_i32_825 v661
  v662.toNat
def k0_dev28 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_834 : BitVec 32 := 1#32
  let v663 : BitVec 32 := Scalar.muli v7 c1_i32_834
  let v664 : BitVec 32 := Scalar.addi c0_i32_835 v663
  v664.toNat
def k0_dev29 (d0 : Dev nD) : Nat :=
  let c0_i32_876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_875 : BitVec 32 := 1#32
  let v697 : BitVec 32 := Scalar.muli v7 c1_i32_875
  let v698 : BitVec 32 := Scalar.addi c0_i32_876 v697
  v698.toNat
def k0_dev30 (d0 : Dev nD) : Nat :=
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_885 : BitVec 32 := 1#32
  let v699 : BitVec 32 := Scalar.muli v5 c1_i32_885
  let v700 : BitVec 32 := Scalar.addi c0_i32_886 v699
  v700.toNat
def k0_dev31 (d0 : Dev nD) : Nat :=
  let c0_i32_981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_980 : BitVec 32 := 1#32
  let v780 : BitVec 32 := Scalar.muli v5 c1_i32_980
  let v781 : BitVec 32 := Scalar.addi c0_i32_981 v780
  v781.toNat
def k0_dev32 (d0 : Dev nD) : Nat :=
  let c0_i32_991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_990 : BitVec 32 := 1#32
  let v782 : BitVec 32 := Scalar.muli v7 c1_i32_990
  let v783 : BitVec 32 := Scalar.addi c0_i32_991 v782
  v783.toNat
def k0_dev33 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1031 : BitVec 32 := 1#32
  let v816 : BitVec 32 := Scalar.muli v7 c1_i32_1031
  let v817 : BitVec 32 := Scalar.addi c0_i32_1032 v816
  v817.toNat
def k0_dev34 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1041 : BitVec 32 := 1#32
  let v818 : BitVec 32 := Scalar.muli v5 c1_i32_1041
  let v819 : BitVec 32 := Scalar.addi c0_i32_1042 v818
  v819.toNat
def k0_dev35 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1082 : BitVec 32 := 1#32
  let v852 : BitVec 32 := Scalar.muli v5 c1_i32_1082
  let v853 : BitVec 32 := Scalar.addi c0_i32_1083 v852
  v853.toNat
def k0_dev36 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1092 : BitVec 32 := 1#32
  let v854 : BitVec 32 := Scalar.muli v7 c1_i32_1092
  let v855 : BitVec 32 := Scalar.addi c0_i32_1093 v854
  v855.toNat
def k0_dev37 (d0 : Dev nD) : Nat :=
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1133 : BitVec 32 := 1#32
  let v888 : BitVec 32 := Scalar.muli v7 c1_i32_1133
  let v889 : BitVec 32 := Scalar.addi c0_i32_1134 v888
  v889.toNat
def k0_dev38 (d0 : Dev nD) : Nat :=
  let c0_i32_1144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1143 : BitVec 32 := 1#32
  let v890 : BitVec 32 := Scalar.muli v5 c1_i32_1143
  let v891 : BitVec 32 := Scalar.addi c0_i32_1144 v890
  v891.toNat
def k0_dev39 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1238 : BitVec 32 := 1#32
  let v971 : BitVec 32 := Scalar.muli v5 c1_i32_1238
  let v972 : BitVec 32 := Scalar.addi c0_i32_1239 v971
  v972.toNat
def k0_dev40 (d0 : Dev nD) : Nat :=
  let c0_i32_1249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1248 : BitVec 32 := 1#32
  let v973 : BitVec 32 := Scalar.muli v7 c1_i32_1248
  let v974 : BitVec 32 := Scalar.addi c0_i32_1249 v973
  v974.toNat
def k0_dev41 (d0 : Dev nD) : Nat :=
  let c0_i32_1290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1289 : BitVec 32 := 1#32
  let v1007 : BitVec 32 := Scalar.muli v7 c1_i32_1289
  let v1008 : BitVec 32 := Scalar.addi c0_i32_1290 v1007
  v1008.toNat
def k0_dev42 (d0 : Dev nD) : Nat :=
  let c0_i32_1300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1299 : BitVec 32 := 1#32
  let v1009 : BitVec 32 := Scalar.muli v5 c1_i32_1299
  let v1010 : BitVec 32 := Scalar.addi c0_i32_1300 v1009
  v1010.toNat
def k0_dev43 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1340 : BitVec 32 := 1#32
  let v1043 : BitVec 32 := Scalar.muli v5 c1_i32_1340
  let v1044 : BitVec 32 := Scalar.addi c0_i32_1341 v1043
  v1044.toNat
def k0_dev44 (d0 : Dev nD) : Nat :=
  let c0_i32_1351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1350 : BitVec 32 := 1#32
  let v1045 : BitVec 32 := Scalar.muli v7 c1_i32_1350
  let v1046 : BitVec 32 := Scalar.addi c0_i32_1351 v1045
  v1046.toNat
def k0_dev45 (d0 : Dev nD) : Nat :=
  let c0_i32_1392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1391 : BitVec 32 := 1#32
  let v1079 : BitVec 32 := Scalar.muli v7 c1_i32_1391
  let v1080 : BitVec 32 := Scalar.addi c0_i32_1392 v1079
  v1080.toNat
def k0_dev46 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1401 : BitVec 32 := 1#32
  let v1081 : BitVec 32 := Scalar.muli v5 c1_i32_1401
  let v1082 : BitVec 32 := Scalar.addi c0_i32_1402 v1081
  v1082.toNat
def k0_dev47 (d0 : Dev nD) : Nat :=
  let c0_i32_1497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1496 : BitVec 32 := 1#32
  let v1162 : BitVec 32 := Scalar.muli v5 c1_i32_1496
  let v1163 : BitVec 32 := Scalar.addi c0_i32_1497 v1162
  v1163.toNat
def k0_dev48 (d0 : Dev nD) : Nat :=
  let c0_i32_1507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1506 : BitVec 32 := 1#32
  let v1164 : BitVec 32 := Scalar.muli v7 c1_i32_1506
  let v1165 : BitVec 32 := Scalar.addi c0_i32_1507 v1164
  v1165.toNat
def k0_dev49 (d0 : Dev nD) : Nat :=
  let c0_i32_1548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1547 : BitVec 32 := 1#32
  let v1198 : BitVec 32 := Scalar.muli v7 c1_i32_1547
  let v1199 : BitVec 32 := Scalar.addi c0_i32_1548 v1198
  v1199.toNat
def k0_dev50 (d0 : Dev nD) : Nat :=
  let c0_i32_1558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1557 : BitVec 32 := 1#32
  let v1200 : BitVec 32 := Scalar.muli v5 c1_i32_1557
  let v1201 : BitVec 32 := Scalar.addi c0_i32_1558 v1200
  v1201.toNat
def k0_dev51 (d0 : Dev nD) : Nat :=
  let c0_i32_1599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1598 : BitVec 32 := 1#32
  let v1234 : BitVec 32 := Scalar.muli v5 c1_i32_1598
  let v1235 : BitVec 32 := Scalar.addi c0_i32_1599 v1234
  v1235.toNat
def k0_dev52 (d0 : Dev nD) : Nat :=
  let c0_i32_1609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1608 : BitVec 32 := 1#32
  let v1236 : BitVec 32 := Scalar.muli v7 c1_i32_1608
  let v1237 : BitVec 32 := Scalar.addi c0_i32_1609 v1236
  v1237.toNat
def k0_dev53 (d0 : Dev nD) : Nat :=
  let c0_i32_1650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1649 : BitVec 32 := 1#32
  let v1270 : BitVec 32 := Scalar.muli v7 c1_i32_1649
  let v1271 : BitVec 32 := Scalar.addi c0_i32_1650 v1270
  v1271.toNat
def k0_dev54 (d0 : Dev nD) : Nat :=
  let c0_i32_1660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1659 : BitVec 32 := 1#32
  let v1272 : BitVec 32 := Scalar.muli v5 c1_i32_1659
  let v1273 : BitVec 32 := Scalar.addi c0_i32_1660 v1272
  v1273.toNat
def k0_dev55 (d0 : Dev nD) : Nat :=
  let c0_i32_1733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1732 : BitVec 32 := 1#32
  let v1332 : BitVec 32 := Scalar.muli v5 c1_i32_1732
  let v1333 : BitVec 32 := Scalar.addi c0_i32_1733 v1332
  v1333.toNat
def k0_dev56 (d0 : Dev nD) : Nat :=
  let c0_i32_1770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1769 : BitVec 32 := 1#32
  let v1358 : BitVec 32 := Scalar.muli v7 c1_i32_1769
  let v1359 : BitVec 32 := Scalar.addi c0_i32_1770 v1358
  v1359.toNat
def k0_dev57 (d0 : Dev nD) : Nat :=
  let c0_i32_1807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1806 : BitVec 32 := 1#32
  let v1384 : BitVec 32 := Scalar.muli v5 c1_i32_1806
  let v1385 : BitVec 32 := Scalar.addi c0_i32_1807 v1384
  v1385.toNat
def k0_dev58 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1843 : BitVec 32 := 1#32
  let v1410 : BitVec 32 := Scalar.muli v7 c1_i32_1843
  let v1411 : BitVec 32 := Scalar.addi c0_i32_1844 v1410
  v1411.toNat
def k0_dev59 (d0 : Dev nD) : Nat :=
  let c0_i32_1854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1853 : BitVec 32 := 1#32
  let v1412 : BitVec 32 := Scalar.muli v7 c1_i32_1853
  let v1413 : BitVec 32 := Scalar.addi c0_i32_1854 v1412
  v1413.toNat
def k0_off4 (d0 : Dev nD) (c1_i32_17 : BitVec 32) (c0_i32_1878 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.addi v2 c1_i32_17
  let c8_i32_18 : BitVec 32 := 8#32
  let v26 : BitVec 32 := Scalar.remsi v25 c8_i32_18
  let c1024_i32_1877 : BitVec 32 := 1024#32
  let v1432 : BitVec 32 := Scalar.muli v26 c1024_i32_1877
  let v1433 : BitVec 32 := Scalar.addi v1432 c0_i32_1878
  let v1434 : Index := Scalar.indexCast v1433
  let c0_1879 : Index := 0#32
  ![v1434.toNat, 0]
def k0_off4_at (r : Fin 16) : BitVec 32 × BitVec 32 :=
  if r.val < 8 then
    if r.val < 4 then
      if r.val < 2 then
        if r.val < 1 then
          (1#32, 0#32)
        else
          (1#32, 256#32)
      else
        if r.val < 3 then
          (0#32, 512#32)
        else
          (0#32, 768#32)
    else
      if r.val < 6 then
        if r.val < 5 then
          (1#32, 512#32)
        else
          (1#32, 768#32)
      else
        if r.val < 7 then
          (2#32, 512#32)
        else
          (2#32, 768#32)
  else
    if r.val < 12 then
      if r.val < 10 then
        if r.val < 9 then
          (3#32, 512#32)
        else
          (3#32, 768#32)
      else
        if r.val < 11 then
          (4#32, 512#32)
        else
          (4#32, 768#32)
    else
      if r.val < 14 then
        if r.val < 13 then
          (5#32, 512#32)
        else
          (5#32, 768#32)
      else
        if r.val < 15 then
          (6#32, 512#32)
        else
          (6#32, 768#32)
def k0_dev60 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1888 : BitVec 32 := 1#32
  let v1436 : BitVec 32 := Scalar.muli v5 c1_i32_1888
  let v1437 : BitVec 32 := Scalar.addi c0_i32_1889 v1436
  v1437.toNat
def k0_off5 (d0 : Dev nD) (c1_i32_20 : BitVec 32) (c512_i32_1913 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_19 : BitVec 32 := 8#32
  let v27 : BitVec 32 := Scalar.addi v2 c8_i32_19
  let v28 : BitVec 32 := Scalar.subi v27 c1_i32_20
  let c8_i32_21 : BitVec 32 := 8#32
  let v29 : BitVec 32 := Scalar.remsi v28 c8_i32_21
  let c1024_i32_1912 : BitVec 32 := 1024#32
  let v1456 : BitVec 32 := Scalar.muli v29 c1024_i32_1912
  let v1457 : BitVec 32 := Scalar.addi v1456 c512_i32_1913
  let v1458 : Index := Scalar.indexCast v1457
  let c0_1914 : Index := 0#32
  ![v1458.toNat, 0]
def k0_off5_at (r : Fin 16) : BitVec 32 × BitVec 32 :=
  if r.val < 8 then
    if r.val < 4 then
      if r.val < 2 then
        if r.val < 1 then
          (1#32, 512#32)
        else
          (1#32, 768#32)
      else
        if r.val < 3 then
          (0#32, 0#32)
        else
          (0#32, 256#32)
    else
      if r.val < 6 then
        if r.val < 5 then
          (1#32, 0#32)
        else
          (1#32, 256#32)
      else
        if r.val < 7 then
          (2#32, 0#32)
        else
          (2#32, 256#32)
  else
    if r.val < 12 then
      if r.val < 10 then
        if r.val < 9 then
          (3#32, 0#32)
        else
          (3#32, 256#32)
      else
        if r.val < 11 then
          (4#32, 0#32)
        else
          (4#32, 256#32)
    else
      if r.val < 14 then
        if r.val < 13 then
          (5#32, 0#32)
        else
          (5#32, 256#32)
      else
        if r.val < 15 then
          (6#32, 0#32)
        else
          (6#32, 256#32)
def k0_dev61 (d0 : Dev nD) : Nat :=
  let c0_i32_1924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1923 : BitVec 32 := 1#32
  let v1460 : BitVec 32 := Scalar.muli v7 c1_i32_1923
  let v1461 : BitVec 32 := Scalar.addi c0_i32_1924 v1460
  v1461.toNat
def k0_dev62 (d0 : Dev nD) : Nat :=
  let c0_i32_1958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1957 : BitVec 32 := 1#32
  let v1484 : BitVec 32 := Scalar.muli v5 c1_i32_1957
  let v1485 : BitVec 32 := Scalar.addi c0_i32_1958 v1484
  v1485.toNat
def k0_dev63 (d0 : Dev nD) : Nat :=
  let c0_i32_2015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2014 : BitVec 32 := 1#32
  let v1522 : BitVec 32 := Scalar.muli v7 c1_i32_2014
  let v1523 : BitVec 32 := Scalar.addi c0_i32_2015 v1522
  v1523.toNat
def k0_dev64 (d0 : Dev nD) : Nat :=
  let c0_i32_2065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2064 : BitVec 32 := 1#32
  let v1557 : BitVec 32 := Scalar.muli v5 c1_i32_2064
  let v1558 : BitVec 32 := Scalar.addi c0_i32_2065 v1557
  v1558.toNat
def k0_dev65 (d0 : Dev nD) : Nat :=
  let c0_i32_2114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2113 : BitVec 32 := 1#32
  let v1591 : BitVec 32 := Scalar.muli v7 c1_i32_2113
  let v1592 : BitVec 32 := Scalar.addi c0_i32_2114 v1591
  v1592.toNat
def k0_dev66 (d0 : Dev nD) : Nat :=
  let c0_i32_2164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2163 : BitVec 32 := 1#32
  let v1626 : BitVec 32 := Scalar.muli v5 c1_i32_2163
  let v1627 : BitVec 32 := Scalar.addi c0_i32_2164 v1626
  v1627.toNat
def k0_dev67 (d0 : Dev nD) : Nat :=
  let c0_i32_2206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2205 : BitVec 32 := 1#32
  let v1660 : BitVec 32 := Scalar.muli v5 c1_i32_2205
  let v1661 : BitVec 32 := Scalar.addi c0_i32_2206 v1660
  v1661.toNat
def k0_dev68 (d0 : Dev nD) : Nat :=
  let c0_i32_2216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2215 : BitVec 32 := 1#32
  let v1662 : BitVec 32 := Scalar.muli v7 c1_i32_2215
  let v1663 : BitVec 32 := Scalar.addi c0_i32_2216 v1662
  v1663.toNat
def k0_dev69 (d0 : Dev nD) : Nat :=
  let c0_i32_2259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2258 : BitVec 32 := 1#32
  let v1697 : BitVec 32 := Scalar.muli v7 c1_i32_2258
  let v1698 : BitVec 32 := Scalar.addi c0_i32_2259 v1697
  v1698.toNat
def k0_dev70 (d0 : Dev nD) : Nat :=
  let c0_i32_2269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2268 : BitVec 32 := 1#32
  let v1699 : BitVec 32 := Scalar.muli v5 c1_i32_2268
  let v1700 : BitVec 32 := Scalar.addi c0_i32_2269 v1699
  v1700.toNat
def k0_dev71 (d0 : Dev nD) : Nat :=
  let c0_i32_2311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2310 : BitVec 32 := 1#32
  let v1733 : BitVec 32 := Scalar.muli v5 c1_i32_2310
  let v1734 : BitVec 32 := Scalar.addi c0_i32_2311 v1733
  v1734.toNat
def k0_dev72 (d0 : Dev nD) : Nat :=
  let c0_i32_2321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2320 : BitVec 32 := 1#32
  let v1735 : BitVec 32 := Scalar.muli v7 c1_i32_2320
  let v1736 : BitVec 32 := Scalar.addi c0_i32_2321 v1735
  v1736.toNat
def k0_dev73 (d0 : Dev nD) : Nat :=
  let c0_i32_2364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2363 : BitVec 32 := 1#32
  let v1770 : BitVec 32 := Scalar.muli v7 c1_i32_2363
  let v1771 : BitVec 32 := Scalar.addi c0_i32_2364 v1770
  v1771.toNat
def k0_dev74 (d0 : Dev nD) : Nat :=
  let c0_i32_2374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2373 : BitVec 32 := 1#32
  let v1772 : BitVec 32 := Scalar.muli v5 c1_i32_2373
  let v1773 : BitVec 32 := Scalar.addi c0_i32_2374 v1772
  v1773.toNat
def k0_dev75 (d0 : Dev nD) : Nat :=
  let c0_i32_2416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2415 : BitVec 32 := 1#32
  let v1806 : BitVec 32 := Scalar.muli v5 c1_i32_2415
  let v1807 : BitVec 32 := Scalar.addi c0_i32_2416 v1806
  v1807.toNat
def k0_dev76 (d0 : Dev nD) : Nat :=
  let c0_i32_2426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2425 : BitVec 32 := 1#32
  let v1808 : BitVec 32 := Scalar.muli v7 c1_i32_2425
  let v1809 : BitVec 32 := Scalar.addi c0_i32_2426 v1808
  v1809.toNat
def k0_dev77 (d0 : Dev nD) : Nat :=
  let c0_i32_2469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2468 : BitVec 32 := 1#32
  let v1843 : BitVec 32 := Scalar.muli v7 c1_i32_2468
  let v1844 : BitVec 32 := Scalar.addi c0_i32_2469 v1843
  v1844.toNat
def k0_dev78 (d0 : Dev nD) : Nat :=
  let c0_i32_2479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2478 : BitVec 32 := 1#32
  let v1845 : BitVec 32 := Scalar.muli v5 c1_i32_2478
  let v1846 : BitVec 32 := Scalar.addi c0_i32_2479 v1845
  v1846.toNat
def k0_dev79 (d0 : Dev nD) : Nat :=
  let c0_i32_2521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2520 : BitVec 32 := 1#32
  let v1879 : BitVec 32 := Scalar.muli v5 c1_i32_2520
  let v1880 : BitVec 32 := Scalar.addi c0_i32_2521 v1879
  v1880.toNat
def k0_dev80 (d0 : Dev nD) : Nat :=
  let c0_i32_2531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2530 : BitVec 32 := 1#32
  let v1881 : BitVec 32 := Scalar.muli v7 c1_i32_2530
  let v1882 : BitVec 32 := Scalar.addi c0_i32_2531 v1881
  v1882.toNat
def k0_dev81 (d0 : Dev nD) : Nat :=
  let c0_i32_2574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2573 : BitVec 32 := 1#32
  let v1916 : BitVec 32 := Scalar.muli v7 c1_i32_2573
  let v1917 : BitVec 32 := Scalar.addi c0_i32_2574 v1916
  v1917.toNat
def k0_dev82 (d0 : Dev nD) : Nat :=
  let c0_i32_2584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2583 : BitVec 32 := 1#32
  let v1918 : BitVec 32 := Scalar.muli v5 c1_i32_2583
  let v1919 : BitVec 32 := Scalar.addi c0_i32_2584 v1918
  v1919.toNat
def k0_dev83 (d0 : Dev nD) : Nat :=
  let c0_i32_2626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2625 : BitVec 32 := 1#32
  let v1952 : BitVec 32 := Scalar.muli v5 c1_i32_2625
  let v1953 : BitVec 32 := Scalar.addi c0_i32_2626 v1952
  v1953.toNat
def k0_dev84 (d0 : Dev nD) : Nat :=
  let c0_i32_2636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2635 : BitVec 32 := 1#32
  let v1954 : BitVec 32 := Scalar.muli v7 c1_i32_2635
  let v1955 : BitVec 32 := Scalar.addi c0_i32_2636 v1954
  v1955.toNat
def k0_dev85 (d0 : Dev nD) : Nat :=
  let c0_i32_2679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2678 : BitVec 32 := 1#32
  let v1989 : BitVec 32 := Scalar.muli v7 c1_i32_2678
  let v1990 : BitVec 32 := Scalar.addi c0_i32_2679 v1989
  v1990.toNat
def k0_dev86 (d0 : Dev nD) : Nat :=
  let c0_i32_2689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2688 : BitVec 32 := 1#32
  let v1991 : BitVec 32 := Scalar.muli v5 c1_i32_2688
  let v1992 : BitVec 32 := Scalar.addi c0_i32_2689 v1991
  v1992.toNat
def k0_dev87 (d0 : Dev nD) : Nat :=
  let c0_i32_2731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2730 : BitVec 32 := 1#32
  let v2025 : BitVec 32 := Scalar.muli v5 c1_i32_2730
  let v2026 : BitVec 32 := Scalar.addi c0_i32_2731 v2025
  v2026.toNat
def k0_dev88 (d0 : Dev nD) : Nat :=
  let c0_i32_2741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2740 : BitVec 32 := 1#32
  let v2027 : BitVec 32 := Scalar.muli v7 c1_i32_2740
  let v2028 : BitVec 32 := Scalar.addi c0_i32_2741 v2027
  v2028.toNat
def k0_dev89 (d0 : Dev nD) : Nat :=
  let c0_i32_2784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2783 : BitVec 32 := 1#32
  let v2062 : BitVec 32 := Scalar.muli v7 c1_i32_2783
  let v2063 : BitVec 32 := Scalar.addi c0_i32_2784 v2062
  v2063.toNat
def k0_dev90 (d0 : Dev nD) : Nat :=
  let c0_i32_2794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2793 : BitVec 32 := 1#32
  let v2064 : BitVec 32 := Scalar.muli v5 c1_i32_2793
  let v2065 : BitVec 32 := Scalar.addi c0_i32_2794 v2064
  v2065.toNat
def k0_dev91 (d0 : Dev nD) : Nat :=
  let c0_i32_2836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2835 : BitVec 32 := 1#32
  let v2098 : BitVec 32 := Scalar.muli v5 c1_i32_2835
  let v2099 : BitVec 32 := Scalar.addi c0_i32_2836 v2098
  v2099.toNat
def k0_dev92 (d0 : Dev nD) : Nat :=
  let c0_i32_2846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2845 : BitVec 32 := 1#32
  let v2100 : BitVec 32 := Scalar.muli v7 c1_i32_2845
  let v2101 : BitVec 32 := Scalar.addi c0_i32_2846 v2100
  v2101.toNat
def k0_dev93 (d0 : Dev nD) : Nat :=
  let c0_i32_2889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2888 : BitVec 32 := 1#32
  let v2135 : BitVec 32 := Scalar.muli v7 c1_i32_2888
  let v2136 : BitVec 32 := Scalar.addi c0_i32_2889 v2135
  v2136.toNat
def k0_dev94 (d0 : Dev nD) : Nat :=
  let c0_i32_2899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2898 : BitVec 32 := 1#32
  let v2137 : BitVec 32 := Scalar.muli v5 c1_i32_2898
  let v2138 : BitVec 32 := Scalar.addi c0_i32_2899 v2137
  v2138.toNat
def k0_dev95 (d0 : Dev nD) : Nat :=
  let c0_i32_2941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2940 : BitVec 32 := 1#32
  let v2171 : BitVec 32 := Scalar.muli v5 c1_i32_2940
  let v2172 : BitVec 32 := Scalar.addi c0_i32_2941 v2171
  v2172.toNat
def k0_dev96 (d0 : Dev nD) : Nat :=
  let c0_i32_2951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2950 : BitVec 32 := 1#32
  let v2173 : BitVec 32 := Scalar.muli v7 c1_i32_2950
  let v2174 : BitVec 32 := Scalar.addi c0_i32_2951 v2173
  v2174.toNat
def k0_dev97 (d0 : Dev nD) : Nat :=
  let c0_i32_2994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2993 : BitVec 32 := 1#32
  let v2208 : BitVec 32 := Scalar.muli v7 c1_i32_2993
  let v2209 : BitVec 32 := Scalar.addi c0_i32_2994 v2208
  v2209.toNat
def k0_dev98 (d0 : Dev nD) : Nat :=
  let c0_i32_3004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3003 : BitVec 32 := 1#32
  let v2210 : BitVec 32 := Scalar.muli v5 c1_i32_3003
  let v2211 : BitVec 32 := Scalar.addi c0_i32_3004 v2210
  v2211.toNat
def k0_dev99 (d0 : Dev nD) : Nat :=
  let c0_i32_3046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3045 : BitVec 32 := 1#32
  let v2244 : BitVec 32 := Scalar.muli v5 c1_i32_3045
  let v2245 : BitVec 32 := Scalar.addi c0_i32_3046 v2244
  v2245.toNat
def k0_dev100 (d0 : Dev nD) : Nat :=
  let c0_i32_3056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3055 : BitVec 32 := 1#32
  let v2246 : BitVec 32 := Scalar.muli v7 c1_i32_3055
  let v2247 : BitVec 32 := Scalar.addi c0_i32_3056 v2246
  v2247.toNat
def k0_dev101 (d0 : Dev nD) : Nat :=
  let c0_i32_3099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3098 : BitVec 32 := 1#32
  let v2281 : BitVec 32 := Scalar.muli v7 c1_i32_3098
  let v2282 : BitVec 32 := Scalar.addi c0_i32_3099 v2281
  v2282.toNat
def k0_dev102 (d0 : Dev nD) : Nat :=
  let c0_i32_3109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3108 : BitVec 32 := 1#32
  let v2283 : BitVec 32 := Scalar.muli v5 c1_i32_3108
  let v2284 : BitVec 32 := Scalar.addi c0_i32_3109 v2283
  v2284.toNat
def k0_dev103 (d0 : Dev nD) : Nat :=
  let c0_i32_3151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3150 : BitVec 32 := 1#32
  let v2317 : BitVec 32 := Scalar.muli v5 c1_i32_3150
  let v2318 : BitVec 32 := Scalar.addi c0_i32_3151 v2317
  v2318.toNat
def k0_dev104 (d0 : Dev nD) : Nat :=
  let c0_i32_3161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3160 : BitVec 32 := 1#32
  let v2319 : BitVec 32 := Scalar.muli v7 c1_i32_3160
  let v2320 : BitVec 32 := Scalar.addi c0_i32_3161 v2319
  v2320.toNat
def k0_dev105 (d0 : Dev nD) : Nat :=
  let c0_i32_3204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3203 : BitVec 32 := 1#32
  let v2354 : BitVec 32 := Scalar.muli v7 c1_i32_3203
  let v2355 : BitVec 32 := Scalar.addi c0_i32_3204 v2354
  v2355.toNat
def k0_dev106 (d0 : Dev nD) : Nat :=
  let c0_i32_3214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3213 : BitVec 32 := 1#32
  let v2356 : BitVec 32 := Scalar.muli v5 c1_i32_3213
  let v2357 : BitVec 32 := Scalar.addi c0_i32_3214 v2356
  v2357.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S1024x4096, .f32⟩
  | .hbm, ⟨3, _⟩ => ⟨S8192x1024, .f32⟩
  | .hbm, ⟨4, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Common.lean ====
/- The setting of the proof: the ghost state, the ring of devices, the memrefs, semaphores and cells the kernel uses, and the
   contents each transfer carries. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Release
public import Idealize.ShloMosaic.Lib.ViewIndex

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost state -/

/-- A receive slot: the device that owns it, the flow, which of the two slots. -/
abbrev Key : Type := Dev nD × Fin 4 × Fin 2
abbrev UK : Type := URounds (GSem nD τ sig) ℕ × USlots Key
abbrev UU : Type := UR sig nD τ × UK

local notation "𝕄" => MT nD τ sig ℕ (Elt F) ℕ UU ℕ

abbrev EP : Emb (UR sig nD τ) (MT nD τ sig ℕ (Elt F) ℕ UU ℕ) := embL
abbrev EK : Emb UK (MT nD τ sig ℕ (Elt F) ℕ UU ℕ) := embR
abbrev ER : Emb (URounds (GSem nD τ sig) ℕ) (MT nD τ sig ℕ (Elt F) ℕ UU ℕ) := (Emb.inl : Emb (URounds (GSem nD τ sig) ℕ) UK).trans EK
abbrev ES : Emb (USlots Key) (MT nD τ sig ℕ (Elt F) ℕ UU ℕ) := (Emb.inr : Emb (USlots Key) UK).trans EK

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- The direction of a flow: 0 to the next device, 1 to the previous one. -/
def di (f : Fin 4) : Fin 2 := match f with | 0 => 0 | 1 => 1 | 2 => 0 | 3 => 1
/-- Which half of the direction's rows the flow carries. -/
def sub (f : Fin 4) : Fin 2 := match f with | 0 => 0 | 1 => 0 | 2 => 1 | 3 => 1
/-- The device a flow sends to, and the one it receives from. -/
def dst (c : Dev nD) (f : Fin 4) : Dev nD := match di f with | 0 => nxt c | 1 => prv c
def src (c : Dev nD) (f : Fin 4) : Dev nD := match di f with | 0 => prv c | 1 => nxt c
theorem dst_src (c : Dev nD) (f : Fin 4) : dst (src c f) f = c := by
  unfold dst src; split <;> simp only [nxt_prv, prv_nxt]
theorem src_dst (c : Dev nD) (f : Fin 4) : src (dst c f) f = c := by
  unfold dst src; split <;> simp only [nxt_prv, prv_nxt]

/-! ## Memrefs -/

abbrev xA : Memref sig .tc .hbm S8192x1024 .f32 := Memref.whole main_arg0
abbrev w1A : Memref sig .tc .vmem S1024x1024 .f32 := Memref.whole cc0_stg0_0
abbrev w2A : Memref sig .tc .vmem S1024x512 .f32 := Memref.whole cc0_stg1_0
abbrev oA : Memref sig .tc .vmem S8192x512 .f32 := Memref.whole cc0_stg2_0
abbrev xbA : Memref sig .tc .vmem S2x2x512x1024 .f32 := Memref.whole cc0_scratch0
abbrev ptA : Memref sig .tc .vmem S2x512x1024 .f32 := Memref.whole cc0_scratch1
abbrev sbA : Memref sig .tc .vmem S4x2x256x1024 .bf16 := Memref.whole cc0_scratch2
abbrev cmA : Memref sig .tc .vmem S4x2x256x1024 .bf16 := Memref.whole cc0_scratch3
abbrev w1bA : Memref sig .tc .vmem S1024x1024 .bf16 := Memref.whole cc0_scratch4
abbrev w2bA : Memref sig .tc .vmem S1024x512 .bf16 := Memref.whole cc0_scratch5

theorem inb_slab : ∀ (f : Fin 4) (b : Fin 2) a, (![f.val, b.val, 0, 0] : Fin 4 → Nat) a + S1x1x256x1024.size a ≤ S4x2x256x1024.size a := by decide
theorem inb_xb : ∀ (d b : Fin 2) a, (![d.val, b.val, 0, 0] : Fin 4 → Nat) a + S1x1x512x1024.size a ≤ S2x2x512x1024.size a := by decide
theorem inb_pt : ∀ (d : Fin 2) a, (![d.val, 0, 0] : Fin 3 → Nat) a + S1x512x1024.size a ≤ S2x512x1024.size a := by decide
theorem inb_pth : ∀ (d h : Fin 2) a, (![d.val, 256 * h.val, 0] : Fin 3 → Nat) a + S1x256x1024.size a ≤ S2x512x1024.size a := by decide
theorem inb_half : ∀ (h : Fin 2) a, (![0, 256 * h.val, 0] : Fin 3 → Nat) a + S1x256x1024.size a ≤ S1x512x1024.size a := by decide

/-- The rectangle of one slot of a flow. -/
abbrev slabR (f : Fin 4) (b : Fin 2) : Rect S4x2x256x1024 := Rect.unit (s := S4x2x256x1024) ![f.val, b.val, 0, 0] S1x1x256x1024.size (inb_slab f b)
abbrev xbR (d b : Fin 2) : Rect S2x2x512x1024 := Rect.unit (s := S2x2x512x1024) ![d.val, b.val, 0, 0] S1x1x512x1024.size (inb_xb d b)
abbrev ptR (d : Fin 2) : Rect S2x512x1024 := Rect.unit (s := S2x512x1024) ![d.val, 0, 0] S1x512x1024.size (inb_pt d)
abbrev pthR (d h : Fin 2) : Rect S2x512x1024 := Rect.unit (s := S2x512x1024) ![d.val, 256 * h.val, 0] S1x256x1024.size (inb_pth d h)
abbrev halfR (h : Fin 2) : Rect S1x512x1024 := Rect.unit (s := S1x512x1024) ![0, 256 * h.val, 0] S1x256x1024.size (inb_half h)

/-- A slot of the send buffer, of the receive buffer, of the loaded rows, as the transfers see them. -/
abbrev sbV (f : Fin 4) (b : Fin 2) : Memref sig .tc .vmem S256x1024 .bf16 := (sbA.slice (slabR f b) (fun _ => rfl)).squeeze S256x1024 squeezes_S1x1x256x1024_S256x1024
abbrev cmV (f : Fin 4) (b : Fin 2) : Memref sig .tc .vmem S256x1024 .bf16 := (cmA.slice (slabR f b) (fun _ => rfl)).squeeze S256x1024 squeezes_S1x1x256x1024_S256x1024
abbrev xbV (d b : Fin 2) : Memref sig .tc .vmem S512x1024 .f32 := (xbA.slice (xbR d b) (fun _ => rfl)).squeeze S512x1024 squeezes_S1x1x512x1024_S512x1024

/-! ## Semaphores and cells -/

theorem inb_sem : ∀ (b : Fin 2) a, (![b.val] : Fin 1 → Nat) a + S1.size a ≤ S2.size a := by decide
abbrev pick (a : DmaSems sig S2) (b : Fin 2) : DmaSem sig := ((a.slice (Rect.unit (s := S2) ![b.val] S1.size (inb_sem b))).squeeze S_ squeezes_S1_S_).sem
def loadArr (d : Fin 2) : DmaSems sig S2 := match d with | 0 => cc0_scratch6 | 1 => cc0_scratch7
def sendArr (f : Fin 4) : DmaSems sig S2 := match f with | 0 => cc0_scratch8 | 1 => cc0_scratch9 | 2 => cc0_scratch10 | 3 => cc0_scratch11
def recvArr (f : Fin 4) : DmaSems sig S2 := match f with | 0 => cc0_scratch12 | 1 => cc0_scratch13 | 2 => cc0_scratch14 | 3 => cc0_scratch15
def loadSem (d b : Fin 2) : DmaSem sig := pick (loadArr d) b
def sendSem (f : Fin 4) (b : Fin 2) : DmaSem sig := pick (sendArr f) b
def recvSem (f : Fin 4) (b : Fin 2) : DmaSem sig := pick (recvArr f) b
def credSem (f : Fin 4) : Sem sig := match f with | 0 => cc0_scratch16.sem | 1 => cc0_scratch17.sem | 2 => cc0_scratch18.sem | 3 => cc0_scratch19.sem
abbrev barSem : Sem sig := (SemArray.scalar (sig.barrier 0 rfl) : Sems sig S_).sem

theorem loadSem_val : ∀ d b, (loadSem d b).val = 3 + 2 * d.val + b.val := by decide
theorem sendSem_val : ∀ f b, (sendSem f b).val = 7 + 2 * f.val + b.val := by decide
theorem recvSem_val : ∀ f b, (recvSem f b).val = 15 + 2 * f.val + b.val := by decide
theorem credSem_val : ∀ f, (credSem f).val = f.val := by decide
theorem barSem_val : (barSem : Sem sig).val = 4 := by decide

/-- The credit of a transfer of one slot, and of one load. -/
@[irreducible] def NS : ℕ := (cmV 0 0).view.dmaCredit
@[irreducible] def NL : ℕ := (xbV 0 0).view.dmaCredit
theorem NS_eq (f : Fin 4) (b : Fin 2) : (cmV f b).view.dmaCredit = NS := by unfold NS; rfl
theorem NS_eq' (f : Fin 4) (b : Fin 2) : (sbV f b).view.dmaCredit = NS := by unfold NS; rfl
theorem NL_eq (d b : Fin 2) : (xbV d b).view.dmaCredit = NL := by unfold NL; rfl
theorem NS_pos : 0 < NS := by unfold NS; exact View.dmaCredit_pos _ (by decide)
theorem NL_pos : 0 < NL := by unfold NL; exact View.dmaCredit_pos _ (by decide)

end Cert.Ring
-- ==== Proof.Contents.lean ====
/- What every transfer of the kernel carries, and what every block of the result holds, as functions of the memory at launch. -/
module

public import proofs.«01_k».proof.Proof.Common

@[expose] public section

noncomputable section

namespace Cert.Ring

open Cert.KernelIdeal Cert.KernelIdeal.Gen
open Idealize.ShloMosaic
open Idealize.ShloMosaic.TcCoe

variable {F : FTy → Type} [FloatOps F]

/-- A memory, and the contents of the three arguments on a device. -/
abbrev Mem (F : FTy → Type) : Type := (ℓ : Loc nD τ sig) → Buf (Elt F) ℓ

variable (m : Mem F)

def xin (c : Dev nD) : (main_arg0 : Ref sig .tc).ty.Contents (Elt F) := m ((c : Thread nD τ).loc main_arg0)
def w1in (c : Dev nD) : (cc0_stg0_0 : Ref sig .tc).ty.Contents (Elt F) :=
  (win0_0.blk (0 : Fin 1)).view.read (Elt F) (m ((c : Thread nD τ).loc main_arg1))
def w2in (c : Dev nD) : (cc0_stg1_0 : Ref sig .tc).ty.Contents (Elt F) :=
  (win0_1.blk (0 : Fin 1)).view.read (Elt F) (m ((c : Thread nD τ).loc main_arg2))

/-- The chunk of rows that device `c` multiplies in step `s`, in direction `d`. -/
def chk (c : Dev nD) (d : Fin 2) (s : ℕ) : ℕ := match d with | 0 => (c.val + 7 * s) % 8 | 1 => (c.val + s) % 8
theorem chk_lt (c : Dev nD) (d : Fin 2) (s : ℕ) : chk c d s < 8 := by unfold chk; split <;> exact Nat.mod_lt _ (by decide)

def xOff (c : Dev nD) (d : Fin 2) (s : ℕ) : Fin 2 → ℕ := ![1024 * chk c d s + 512 * d.val, 0]
theorem xOff_inb (c : Dev nD) (d : Fin 2) (s : ℕ) : ∀ a, xOff c d s a + S512x1024.size a ≤ S8192x1024.size a := by
  have h := chk_lt c d s
  have hd := d.isLt
  intro a
  fin_cases a
  · show 1024 * chk c d s + 512 * d.val + 512 ≤ 8192; omega
  · show 0 + 1024 ≤ 1024; omega
abbrev xRd (c : Dev nD) (d : Fin 2) (s : ℕ) : Rect S8192x1024 := Rect.unit (s := S8192x1024) (xOff c d s) S512x1024.size (xOff_inb c d s)
/-- The rows loaded in step `s`, direction `d`, as the copy sees them in the argument. -/
abbrev xV (c : Dev nD) (d : Fin 2) (s : ℕ) : Memref sig .tc .hbm S512x1024 .f32 := xA.slice (xRd c d s) (fun _ => rfl)
def xch (c : Dev nD) (d : Fin 2) (s : ℕ) : S512x1024.Idx → Elt F .f32 := (xV c d s).view.read (Elt F) (xin m c)

theorem rank4 : S1x1x512x1024.numel = S512x1024.numel := by decide
theorem rankS : S1x1x256x1024.numel = S256x1024.numel := by decide

/-- The same block with two leading axes of length one. -/
def xblk (c : Dev nD) (d : Fin 2) (s : ℕ) : S1x1x512x1024.Idx → Elt F .f32 := fun y => xch m c d s ((Shape.reshapeEquiv rank4.symm).symm y)
def sq (X : S1x1x256x1024.Idx → Elt F .bf16) : S256x1024.Idx → Elt F .bf16 := fun y => X (Shape.reshapeEquiv rankS.symm y)

def w1v (c : Dev nD) : S1024x1024.Idx → Elt F .bf16 := k0_pay1 (w1in m c)
def w2v (c : Dev nD) : S1024x512.Idx → Elt F .bf16 := k0_pay2 (w2in m c)

/-- The product of the rows loaded in step `s` with the device's block of the first weights. -/
def part (c : Dev nD) (d : Fin 2) (s : ℕ) : S1x512x1024.Idx → Elt F .f32 := k0_pay3 (xblk m c d s) (w1v m c)
def half (p : S1x512x1024.Idx → Elt F .f32) (h : Fin 2) : S1x256x1024.Idx → Elt F .f32 := fun y => p ((halfR h).emb y)

/-- What flow `f` carries out of device `c` in its transfer number `s`: up to number 7 the sum so far with the device's
    own product added, after that what arrived before. -/
def X : ℕ → Dev nD → Fin 4 → S1x1x256x1024.Idx → Elt F .bf16
  | 0, c, f => k0_pay4 (half (part m c (di f) 0) (sub f))
  | s + 1, c, f => if s < 7 then k0_pay12 (X s (src c f) f) (half (part m c (di f) (s + 1)) (sub f)) else X s (src c f) f

theorem X_zero (c : Dev nD) (f : Fin 4) : X m 0 c f = k0_pay4 (half (part m c (di f) 0) (sub f)) := rfl
theorem X_sum (s : ℕ) (h : s < 7) (c : Dev nD) (f : Fin 4) :
    X m (s + 1) c f = k0_pay12 (X m s (src c f) f) (half (part m c (di f) (s + 1)) (sub f)) := if_pos h
theorem X_copy (s : ℕ) (h : ¬ s < 7) (c : Dev nD) (f : Fin 4) : X m (s + 1) c f = X m s (src c f) f := if_neg h

/-- The chunk of rows of result block `j` of flow `f`. -/
def ochk (c : Dev nD) (f : Fin 4) (j : ℕ) : ℕ := match di f with | 0 => (c.val + 9 + 7 * j) % 8 | 1 => (c.val + 7 + j) % 8
theorem ochk_lt (c : Dev nD) (f : Fin 4) (j : ℕ) : ochk c f j < 8 := by unfold ochk; split <;> exact Nat.mod_lt _ (by decide)
def oOff (c : Dev nD) (f : Fin 4) (j : ℕ) : Fin 2 → ℕ := ![1024 * ochk c f j + 512 * (di f).val + 256 * (sub f).val, 0]
theorem oOff_inb (c : Dev nD) (f : Fin 4) (j : ℕ) : ∀ a, oOff c f j a + S256x512.size a ≤ S8192x512.size a := by
  have h := ochk_lt c f j
  have h1 := (di f).isLt
  have h2 := (sub f).isLt
  intro a
  fin_cases a
  · show 1024 * ochk c f j + 512 * (di f).val + 256 * (sub f).val + 256 ≤ 8192; omega
  · show 0 + 512 ≤ 512; omega
abbrev oRd (c : Dev nD) (f : Fin 4) (j : ℕ) : Rect S8192x512 := Rect.unit (s := S8192x512) (oOff c f j) S256x512.size (oOff_inb c f j)

/-- Result block `j` of flow `f` on device `c`: the finished sum with number `7 + j` times the block of the second weights. -/
def oval (c : Dev nD) (f : Fin 4) (j : ℕ) : S256x512.Idx → Elt F .f32 := k0_pay62 (X m (7 + j) c f) (w2v m c)

end Cert.Ring
-- ==== Proof.Sched.lean ====
/- The cells of the kernel's semaphores, what each signal or transfer hands to the device that waits for it, and the order
   in which a device makes its signals. -/
module

public import proofs.«01_k».proof.Proof.Contents

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

/-- The semaphores of the ring: the barrier, the credit of a flow, the loads, the two ends of a flow's transfers. -/
inductive Kd
  | bar
  | cred (f : Fin 4)
  | load (d b : Fin 2)
  | send (f : Fin 4) (b : Fin 2)
  | recv (f : Fin 4) (b : Fin 2)
  deriving DecidableEq

def csem : Kd → SemLoc sig
  | .bar => .reg barSem
  | .cred f => .reg (credSem f)
  | .load d b => .dma (loadSem d b)
  | .send f b => .dma (sendSem f b)
  | .recv f b => .dma (recvSem f b)

def sl (n : ℕ) : Fin 2 := ⟨n % 2, Nat.mod_lt _ (by decide)⟩
def fl4 (n : ℕ) : Fin 4 := ⟨n % 4, Nat.mod_lt _ (by decide)⟩

/-- The kind of a semaphore, if it is one of the ring's. -/
def decode : SemLoc sig → Option Kd
  | .reg q => if q.val < 4 then some (.cred (fl4 q.val)) else some .bar
  | .dma q => if q.val < 3 then none else if q.val < 7 then some (.load (sl ((q.val - 3) / 2)) (sl (q.val - 3)))
      else if q.val < 15 then some (.send (fl4 ((q.val - 7) / 2)) (sl (q.val - 7))) else some (.recv (fl4 ((q.val - 15) / 2)) (sl (q.val - 15)))

theorem decode_csem (k : Kd) : decode (csem k) = some k := by
  cases k with
  | bar => decide
  | cred f => revert f; decide
  | load d b => revert d b; decide
  | send f b => revert f b; decide
  | recv f b => revert f b; decide

abbrev cell (c : Dev nD) (k : Kd) : GSem nD τ sig := ((c : Thread nD τ), csem k)

/-! ## What is handed over -/

/-- What a device hands back when a slot of its receive buffer may be written for transfer `s` of flow `f`. -/
def grant (e : Dev nD) (f : Fin 4) (s : ℕ) : sProp 𝕄 :=
  iprop(released ES ((e, f, sl s) : Key) (s / 2 + 1) ∗ reached ER (cell e (.recv f (sl s))) (s / 2))

instance grant_pers (e : Dev nD) (f : Fin 4) (s : ℕ) : BI.Persistent (grant (F := F) e f s) := by unfold grant; infer_instance
instance grant_storable (e : Dev nD) (f : Fin 4) (s : ℕ) : BI.Storable (upEmb : UEmb _ 𝕄) (grant (F := F) e f s) := by
  unfold grant; infer_instance

/-- A quarter of the argument's share for each load slot. -/
def qx (d b : Fin 2) : PosShare TreeShare := match d, b with
  | 0, 0 => fullShare.left.left | 0, 1 => fullShare.left.right | 1, 0 => fullShare.right.left | 1, 1 => fullShare.right.right

def barPay (c : Dev nD) (d : ℕ) : sProp 𝕄 := match d with
  | 0 => iprop(grant (dst c 0) 0 0 ∗ grant (dst c 0) 0 1 ∗ grant (dst c 2) 2 0 ∗ grant (dst c 2) 2 1)
  | _ => iprop(grant (dst c 1) 1 0 ∗ grant (dst c 1) 1 1 ∗ grant (dst c 3) 3 0 ∗ grant (dst c 3) 3 1)
def credPay (e : Dev nD) (f : Fin 4) (d : ℕ) : sProp 𝕄 := bigSep (Finset.range (d + 1)) (fun d' => grant (dst e f) f (d' + 2))
def recvPay (e : Dev nD) (f : Fin 4) (b : Fin 2) (s : ℕ) : sProp 𝕄 := owns (e : Thread nD τ) (cmV f b) fullShare (sq (X m s (src e f) f))
def sendPayA (e : Dev nD) (f : Fin 4) (b : Fin 2) (s : ℕ) : sProp 𝕄 := owns (e : Thread nD τ) (sbV f b) fullShare.right (sq (X m s e f))
def sendPayB (e : Dev nD) (f : Fin 4) (b : Fin 2) (s : ℕ) : sProp 𝕄 := owns (e : Thread nD τ) (cmV f b) fullShare.right (sq (X m s (src e f) f))
def sendPay (e : Dev nD) (f : Fin 4) (b : Fin 2) (s : ℕ) : sProp 𝕄 :=
  if s ≤ 7 then sendPayA m e f b s else sendPayB m e f (sl (b.val + 1)) (s - 1)
def loadPay (e : Dev nD) (d b : Fin 2) (s : ℕ) : sProp 𝕄 :=
  iprop(owns (e : Thread nD τ) (xbV d b) fullShare (xch m e d s) ∗ (xV e d s).view.loc (e : Thread nD τ) ↦[(xV e d s).view.set]{qx d b} xin m e)

def payK (e : Dev nD) (k : Option Kd) (r d : ℕ) : sProp 𝕄 := match k with
  | none => iprop(emp)
  | some .bar => barPay e d
  | some (.cred f) => credPay e f d
  | some (.load a b) => loadPay m e a b (2 * r + b.val)
  | some (.send f b) => sendPay m e f b (2 * r + b.val)
  | some (.recv f b) => recvPay m e f b (2 * r + b.val)

instance barPay_storable (c : Dev nD) (d : ℕ) : BI.Storable (upEmb : UEmb _ 𝕄) (barPay (F := F) c d) := by
  unfold barPay; split <;> infer_instance
instance credPay_storable (c : Dev nD) (f : Fin 4) (d : ℕ) : BI.Storable (upEmb : UEmb _ 𝕄) (credPay (F := F) c f d) := by
  unfold credPay; infer_instance
instance recvPay_storable (e : Dev nD) (f : Fin 4) (b : Fin 2) (s : ℕ) : BI.Storable (upEmb : UEmb _ 𝕄) (recvPay m e f b s) := by
  unfold recvPay; infer_instance
instance sendPay_storable (e : Dev nD) (f : Fin 4) (b : Fin 2) (s : ℕ) : BI.Storable (upEmb : UEmb _ 𝕄) (sendPay m e f b s) := by
  unfold sendPay sendPayA sendPayB; split <;> infer_instance
instance loadPay_storable (e : Dev nD) (d b : Fin 2) (s : ℕ) : BI.Storable (upEmb : UEmb _ 𝕄) (loadPay m e d b s) := by
  unfold loadPay; infer_instance
instance payK_storable (e : Dev nD) (k : Option Kd) (r d : ℕ) : BI.Storable (upEmb : UEmb _ 𝕄) (payK m e k r d) := by
  unfold payK; split <;> infer_instance

def dutK (k : Option Kd) (r : ℕ) : Finset ℕ := match k with
  | none => ∅
  | some .bar => if r = 0 then {0, 1} else ∅
  | some (.cred _) => if r = 0 then Finset.range 12 else ∅
  | some (.load _ _) => if r < 4 then {0} else ∅
  | some (.send _ _) => if r < 7 then {0} else ∅
  | some (.recv _ _) => if r < 7 then {0} else ∅

def amtK (k : Option Kd) : ℕ := match k with
  | none => 1
  | some .bar => 1
  | some (.cred _) => 1
  | some (.load _ _) => NL
  | some (.send _ _) => NS
  | some (.recv _ _) => NS
theorem amtK_load (d b : Fin 2) : amtK (some (.load d b)) = NL := rfl
theorem amtK_send (f : Fin 4) (b : Fin 2) : amtK (some (.send f b)) = NS := rfl
theorem amtK_recv (f : Fin 4) (b : Fin 2) : amtK (some (.recv f b)) = NS := rfl
theorem amtK_cred (f : Fin 4) : amtK (some (.cred f)) = 1 := rfl
theorem amtK_pos (k : Option Kd) : 0 < amtK k := by
  unfold amtK; split
  · exact Nat.one_pos
  · exact Nat.one_pos
  · exact Nat.one_pos
  · exact NL_pos
  · exact NS_pos
  · exact NS_pos

/-- The schedule of the ring's cells. -/
def Rd : Rounds.Schedule (GSem nD τ sig) ℕ 𝕄 where
  duties g r := if g.1.2 = .tc then dutK (decode g.2) r else ∅
  unitless _ := False
  amount g _ _ := amtK (decode g.2)
  payload g r d := payK m g.1.1 (decode g.2) r d
  amount_pos g _ _ _ := amtK_pos _

instance Rd_storable (g : GSem nD τ sig) (r d : ℕ) : BI.Storable (upEmb : UEmb _ 𝕄) ((Rd m).payload g r d) :=
  payK_storable m g.1.1 (decode g.2) r d

section
variable (c : Dev nD) (k : Kd) (r d : ℕ)
theorem duties_eq : (Rd m).duties (cell c k) r = dutK (some k) r := by
  dsimp only [Rd, cell]
  rw [if_pos rfl, decode_csem]
theorem amount_eq : (Rd m).amount (cell c k) r d = amtK (some k) := by
  show amtK (decode (csem k)) = _; rw [decode_csem]
theorem payload_eq : (Rd m).payload (cell c k) r d = payK m c (some k) r d := by
  show payK m c (decode (csem k)) r d = _; rw [decode_csem]
theorem amount_load (a b : Fin 2) : (Rd m).amount (cell c (.load a b)) r d = NL := (amount_eq m c _ r d).trans (amtK_load a b)
theorem amount_send (f : Fin 4) (b : Fin 2) : (Rd m).amount (cell c (.send f b)) r d = NS := (amount_eq m c _ r d).trans (amtK_send f b)
theorem amount_recv (f : Fin 4) (b : Fin 2) : (Rd m).amount (cell c (.recv f b)) r d = NS := (amount_eq m c _ r d).trans (amtK_recv f b)
theorem expect_eq : (Rd m).expect (cell c k) r = (dutK (some k) r).card * amtK (some k) := by
  unfold Schedule.expect Schedule.amountOf
  rw [duties_eq, Finset.sum_congr rfl fun d _ => amount_eq m c k r d, Finset.sum_const, smul_eq_mul]
theorem duties_later : ∀ r, 7 ≤ r → (Rd m).duties (cell c k) r = ∅ := fun r hr => by
  rw [duties_eq]; unfold dutK; split <;> first | rfl | exact if_neg (by omega)
end

/-! ## The signals a device makes, in order -/

inductive Ev
  | bar (i : Fin 2)
  | send (f : Fin 4) (s : ℕ)
  | cred (f : Fin 4) (d : ℕ)
  deriving DecidableEq

def evL : List Ev := [.bar 0, .bar 1, .send 0 0, .send 2 0, .send 1 0, .send 3 0, .cred 0 0, .send 0 1, .cred 1 0, .send 1 1, .cred 2 0, .send 2 1, .cred 3 0, .send 3 1, .cred 0 1, .send 0 2, .cred 1 1, .send 1 2, .cred 2 1, .send 2 2, .cred 3 1, .send 3 2, .cred 0 2, .send 0 3, .cred 1 2, .send 1 3, .cred 2 2, .send 2 3, .cred 3 2, .send 3 3, .cred 0 3, .send 0 4, .cred 1 3, .send 1 4, .cred 2 3, .send 2 4, .cred 3 3, .send 3 4, .cred 0 4, .send 0 5, .cred 1 4, .send 1 5, .cred 2 4, .send 2 5, .cred 3 4, .send 3 5, .cred 0 5, .send 0 6, .cred 1 5, .send 1 6, .cred 2 5, .send 2 6, .cred 3 5, .send 3 6, .cred 0 6, .cred 1 6, .cred 2 6, .cred 3 6, .send 0 7, .send 1 7, .send 2 7, .send 3 7, .send 0 8, .send 1 8, .send 2 8, .send 3 8, .cred 0 7, .send 0 9, .cred 1 7, .send 1 9, .cred 2 7, .send 2 9, .cred 3 7, .send 3 9, .cred 0 8, .send 0 10, .cred 1 8, .send 1 10, .cred 2 8, .send 2 10, .cred 3 8, .send 3 10, .cred 0 9, .send 0 11, .cred 1 9, .send 1 11, .cred 2 9, .send 2 11, .cred 3 9, .send 3 11, .cred 0 10, .send 0 12, .cred 1 10, .send 1 12, .cred 2 10, .send 2 12, .cred 3 10, .send 3 12, .cred 0 11, .send 0 13, .cred 1 11, .send 1 13, .cred 2 11, .send 2 13, .cred 3 11, .send 3 13]
def ev (n : ℕ) : Ev := evL.getD n (.bar 0)

def evCell (c : Dev nD) : Ev → GSem nD τ sig
  | .bar i => match i with | 0 => cell (prv c) .bar | 1 => cell (nxt c) .bar
  | .send f s => cell (dst c f) (.recv f (sl s))
  | .cred f d => cell (src c f) (.cred f)
def evAmt : Ev → ℕ
  | .bar _ => 1
  | .send _ _ => NS
  | .cred _ _ => 1

/-- The index of signal number `n`: its place in the order, the two barrier signals sharing index 1. -/
def ix (n : ℕ) : ℕ := max n 1
def ixS (f : Fin 4) (s : ℕ) : ℕ := evL.idxOf (.send f s)
def ixC (f : Fin 4) (d : ℕ) : ℕ := evL.idxOf (.cred f d)

theorem evAmt_send (f : Fin 4) (s : ℕ) : evAmt (.send f s) = NS := rfl
theorem evCell_send (c : Dev nD) (f : Fin 4) (s : ℕ) : evCell c (.send f s) = cell (dst c f) (.recv f (sl s)) := rfl
theorem evCell_cred (c : Dev nD) (f : Fin 4) (d : ℕ) : evCell c (.cred f d) = cell (src c f) (.cred f) := rfl
def evTally (c : Dev nD) (n : ℕ) : CellTallies nD τ sig ℕ := tallyAt (evCell c (ev n)) (ix n) (evAmt (ev n))
/-- What a device still owes after its first `n` signals. -/
def owedFrom (c : Dev nD) (n : ℕ) : CellTallies nD τ sig ℕ := ∑ i ∈ Finset.Ico n 106, evTally c i

theorem Ico_head {a b : ℕ} (h : a < b) : Finset.Ico a b = insert a (Finset.Ico (a + 1) b) := by
  ext x; rw [Finset.mem_insert, Finset.mem_Ico, Finset.mem_Ico]; omega
theorem Ico_notMem (a b : ℕ) : a ∉ Finset.Ico (a + 1) b := fun h => by rw [Finset.mem_Ico] at h; omega
theorem Ico_last {a b : ℕ} (h : a ≤ b) : Finset.Ico a (b + 1) = insert b (Finset.Ico a b) := by
  ext x; rw [Finset.mem_insert, Finset.mem_Ico, Finset.mem_Ico]; omega
theorem Ico_notMem' (a b : ℕ) : b ∉ Finset.Ico a b := fun h => by rw [Finset.mem_Ico] at h; omega

theorem owedFrom_succ (c : Dev nD) (n : ℕ) (h : n < 106) : owedFrom c n = owedFrom c (n + 1) + evTally c n := by
  unfold owedFrom; rw [Ico_head h, Finset.sum_insert (Ico_notMem _ _), add_comm]
theorem owedFrom_end (c : Dev nD) : owedFrom c 106 = 0 := by unfold owedFrom; rw [Finset.Ico_self, Finset.sum_empty]

def L (g : GSem nD τ sig) : Finset ℕ := if g.1.2 = .tc then Finset.range 106 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 106 := if_pos rfl

theorem evCell_tc (c : Dev nD) (e : Ev) : (evCell c e).1.2 = .tc := by
  unfold evCell; split
  · split <;> rfl
  · rfl
  · rfl

theorem owed_pos {c : Dev nD} {n : ℕ} {g : GSem nD τ sig} {i : ℕ} (h : 0 < owedFrom c n g i) :
    g.1.2 = .tc ∧ ∃ j, n ≤ j ∧ j < 106 ∧ i = ix j := by
  unfold owedFrom at h
  obtain ⟨j, hj, hp⟩ := Pipeline.sum_pos_exists h
  rw [Finset.mem_Ico] at hj
  unfold evTally at hp
  rw [tallyAt_apply] at hp
  by_cases hg : g = evCell c (ev j) ∧ i = ix j
  · exact ⟨hg.1 ▸ evCell_tc c _, j, hj.1, hj.2, hg.2⟩
  · rw [if_neg hg] at hp; exact absurd hp (Nat.lt_irrefl 0)

theorem mayWait (c : Dev nD) (n : ℕ) (sm : SemLoc sig) (i : ℕ) (hi : i < ix n) (hi' : i < 106) :
    (levAts L lv : sProp 𝕄) ⊢ MayWait (c : Thread nD τ) sm i (owedFrom c n) :=
  Pipeline.mayWait_of_levAts (by rw [L_tc]; exact Finset.mem_range.mpr hi') (fun g i' h => by
    obtain ⟨hg, j, h1, h2, h3⟩ := owed_pos h
    refine ⟨by unfold L; rw [if_pos hg, h3]; unfold ix; exact Finset.mem_range.mpr (by omega), ?_⟩
    show i < i'
    rw [h3]; unfold ix at hi ⊢; omega)

end Cert.Ring
-- ==== Proof.State.lean ====
/- What a device holds between two steps of the kernel: the tokens and credits of every flow, its buffers and their contents. -/
module

public import proofs.«01_k».proof.Proof.Sched
public import Idealize.ShloMosaic.Lib.MemrefSat

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

/-! ## The state of a flow, of a direction, of the device -/

/-- What a buffer slot holds: anything, the contents number `s`, a half share of them, or it is lent out. -/
inductive Cont
  | any
  | full (s : ℕ)
  | half (s : ℕ)
  | away
  deriving DecidableEq

/-- How far a flow has come: transfers started, waited for at the source, received, credits given and taken, grants held. -/
structure FS where
  nS : ℕ
  nW : ℕ
  nR : ℕ
  nC : ℕ
  nK : ℕ
  nG : ℕ
  sb0 : Cont
  sb1 : Cont
  cm0 : Cont
  cm1 : Cont

/-- How far a direction's loads have come, and what its product buffer holds. -/
structure DS where
  nL : ℕ
  nWL : ℕ
  xb0 : Cont
  xb1 : Cont
  pt : Cont

structure GS where
  n : ℕ
  f0 : FS
  f1 : FS
  f2 : FS
  f3 : FS
  d0 : DS
  d1 : DS
  w : ℕ
  o : ℕ
  br : ℕ

def FS.sb (x : FS) (b : Fin 2) : Cont := match b with | 0 => x.sb0 | 1 => x.sb1
def FS.cm (x : FS) (b : Fin 2) : Cont := match b with | 0 => x.cm0 | 1 => x.cm1
def FS.setSb (x : FS) (b : Fin 2) (v : Cont) : FS :=
  { x with sb0 := (match b with | 0 => v | 1 => x.sb0), sb1 := (match b with | 0 => x.sb1 | 1 => v) }
def FS.setCm (x : FS) (b : Fin 2) (v : Cont) : FS :=
  { x with cm0 := (match b with | 0 => v | 1 => x.cm0), cm1 := (match b with | 0 => x.cm1 | 1 => v) }
def DS.xb (x : DS) (b : Fin 2) : Cont := match b with | 0 => x.xb0 | 1 => x.xb1
def DS.setXb (x : DS) (b : Fin 2) (v : Cont) : DS :=
  { x with xb0 := (match b with | 0 => v | 1 => x.xb0), xb1 := (match b with | 0 => x.xb1 | 1 => v) }
def GS.fl (X : GS) (f : Fin 4) : FS := match f with | 0 => X.f0 | 1 => X.f1 | 2 => X.f2 | 3 => X.f3
def GS.putF (X : GS) (f : Fin 4) (n : ℕ) (y : FS) : GS := match f with
  | 0 => { X with n := n, f0 := y } | 1 => { X with n := n, f1 := y } | 2 => { X with n := n, f2 := y } | 3 => { X with n := n, f3 := y }
def GS.di (X : GS) (d : Fin 2) : DS := match d with | 0 => X.d0 | 1 => X.d1
def GS.putD (X : GS) (d : Fin 2) (y : DS) : GS := match d with | 0 => { X with d0 := y } | 1 => { X with d1 := y }

/-- The round of slot `b` after `n` transfers have used the two slots in turn. -/
def rnd (b : Fin 2) (n : ℕ) : ℕ := (n + 1 - b.val) / 2

section
variable (c : Dev nD)

abbrev pos (k : Kd) (r : ℕ) : sProp 𝕄 := iprop(atPos ER (cell c k) r ∅ 0 ∗ reached ER (cell c k) r)

/-! ## The pieces of a flow -/

def sendTok1 (f : Fin 4) (s : ℕ) : sProp 𝕄 :=
  iprop(dutyTok ER (cell c (.send f (sl s))) (s / 2) 0 ∗ dutyTok ER (cell (dst c f) (.recv f (sl s))) (s / 2) 0
    ∗ writeTok ES ((dst c f, f, sl s) : Key) (s / 2 + 1))
def sendTok (f : Fin 4) (n : ℕ) : sProp 𝕄 := bigSep (Finset.Ico n 14) (fun s => sendTok1 (F := F) c f s)
def sendCr (f : Fin 4) (a b : ℕ) : sProp 𝕄 := bigSep (Finset.Ico a b) (fun s => cred (tallyAt (cell c (.send f (sl s))) 0 NS))
def recvCr (f : Fin 4) (n : ℕ) : sProp 𝕄 := bigSep (Finset.Ico n 14) (fun s => cred (tallyAt (cell c (.recv f (sl s))) (ixS f s) NS))
def credTok (f : Fin 4) (n : ℕ) : sProp 𝕄 := bigSep (Finset.Ico n 12) (fun d => dutyTok ER (cell (src c f) (.cred f)) 0 d)
def credCr (f : Fin 4) (n : ℕ) : sProp 𝕄 := bigSep (Finset.Ico n 12) (fun d => cred (tallyAt (cell c (.cred f)) (ixC f d) 1))
def pos2 (k : Fin 2 → Kd) (n : ℕ) : sProp 𝕄 := iprop(pos c (k 0) (rnd 0 n) ∗ pos c (k 1) (rnd 1 n))
def rdr (f : Fin 4) (n : ℕ) : sProp 𝕄 :=
  iprop(readerAt ES ((c, f, 0) : Key) (1 + rnd 0 n) ∗ readerAt ES ((c, f, 1) : Key) (1 + rnd 1 n))
def sbS (f : Fin 4) (b : Fin 2) (x : Cont) : sProp 𝕄 := match x with
  | .any => slot ((sbV f b).view.loc (c : Thread nD τ)) (sbV f b).view.set
  | .full s => owns (c : Thread nD τ) (sbV f b) fullShare (sq (X m s c f))
  | .half s => owns (c : Thread nD τ) (sbV f b) fullShare.left (sq (X m s c f))
  | .away => iprop(emp)
abbrev cmSlot (k : Key) : sProp 𝕄 := slot ((cmV k.2.1 k.2.2).view.loc (k.1 : Thread nD τ)) (cmV k.2.1 k.2.2).view.set
def cmS (f : Fin 4) (b : Fin 2) (x : Cont) : sProp 𝕄 := match x with
  | .any => cmSlot (F := F) (c, f, b)
  | .full s => owns (c : Thread nD τ) (cmV f b) fullShare (sq (X m s (src c f) f))
  | .half s => owns (c : Thread nD τ) (cmV f b) fullShare.left (sq (X m s (src c f) f))
  | .away => iprop(emp)
/-- The credit semaphore after `k` units taken: at least `k` of its payments are in, and their grants are kept. -/
def credSt (f : Fin 4) (k : ℕ) : sProp 𝕄 :=
  iprop(∃ T : Finset ℕ, ⌜T ⊆ Finset.range 12 ∧ k ≤ T.card⌝ ∗ atPos ER (cell c (.cred f)) 0 T k ∗ bigSep T (fun d => credPay (F := F) c f d))
def ownGr (f : Fin 4) (n : ℕ) : sProp 𝕄 := bigSep (Finset.range n) (fun d => grant c f (d + 2))
def gr (f : Fin 4) (n : ℕ) : sProp 𝕄 := bigSep (Finset.range n) (fun s => grant (dst c f) f s)

instance ownGr_pers (f : Fin 4) (n : ℕ) : BI.Persistent (ownGr (F := F) c f n) := by unfold ownGr; infer_instance
instance gr_pers (f : Fin 4) (n : ℕ) : BI.Persistent (gr (F := F) c f n) := by unfold gr; infer_instance
instance credPay_pers (f : Fin 4) (n : ℕ) : BI.Persistent (credPay (F := F) c f n) := by unfold credPay; infer_instance

def Fl (f : Fin 4) (x : FS) : sProp 𝕄 :=
  iprop(sendTok c f x.nS ∗ sendCr c f x.nW x.nS ∗ recvCr c f x.nR ∗ credTok c f x.nC ∗ credCr c f x.nK
    ∗ pos2 c (.send f) x.nW ∗ pos2 c (.recv f) x.nR ∗ rdr c f x.nC
    ∗ (sbS m c f 0 x.sb0 ∗ sbS m c f 1 x.sb1) ∗ (cmS m c f 0 x.cm0 ∗ cmS m c f 1 x.cm1)
    ∗ credSt c f x.nK ∗ ownGr c f x.nC ∗ gr c f x.nG)

/-! ## The pieces of a direction -/

def loadTok (d : Fin 2) (n : ℕ) : sProp 𝕄 := bigSep (Finset.Ico n 8) (fun s => dutyTok ER (cell c (.load d (sl s))) (s / 2) 0)
def loadCr (d : Fin 2) (a b : ℕ) : sProp 𝕄 := bigSep (Finset.Ico a b) (fun s => cred (tallyAt (cell c (.load d (sl s))) 0 NL))
def xq (d b : Fin 2) : sProp 𝕄 := xA.view.loc (c : Thread nD τ) ↦[Finset.univ]{qx d b} xin m c
def xbS (d b : Fin 2) (x : Cont) : sProp 𝕄 := match x with
  | .any => iprop(slot ((xbV d b).view.loc (c : Thread nD τ)) (xbV d b).view.set ∗ xq m c d b)
  | .full s => iprop(owns (c : Thread nD τ) (xbV d b) fullShare (xch m c d s) ∗ xq m c d b)
  | .half s => xA.view.loc (c : Thread nD τ) ↦[Finset.univ \ (xV c d s).view.set]{qx d b} xin m c
  | .away => iprop(emp)
def ptS (d : Fin 2) (x : Cont) : sProp 𝕄 := match x with
  | .any => slot (ptA.view.loc (c : Thread nD τ)) (ptA.access (ptR d)).set
  | .full s => iprop(∃ g : Buf (Elt F) (ptA.view.loc (c : Thread nD τ)), ⌜(ptA.access (ptR d)).read (Elt F) g = part m c d s⌝
      ∗ (ptA.view.loc (c : Thread nD τ) ↦[(ptA.access (ptR d)).set]{fullShare} g))
  | .half _ => iprop(emp)
  | .away => iprop(emp)
def DD (d : Fin 2) (x : DS) : sProp 𝕄 :=
  iprop(loadTok c d x.nL ∗ loadCr c d x.nWL x.nL ∗ pos2 c (.load d) x.nWL ∗ (xbS m c d 0 x.xb0 ∗ xbS m c d 1 x.xb1) ∗ ptS m c d x.pt)

/-! ## The weights, the result, the barrier -/

def w1bS (w : ℕ) : sProp 𝕄 := match w with
  | 0 => iprop(∃ g : Buf (Elt F) (w1bA.view.loc (c : Thread nD τ)), (w1bA.view.loc (c : Thread nD τ) ↦[Finset.univ]{fullShare} g))
  | _ + 1 => (w1bA.view.loc (c : Thread nD τ) ↦[Finset.univ]{fullShare} (w1v m c : Buf (Elt F) (w1bA.view.loc (c : Thread nD τ))))
def w2bS (w : ℕ) : sProp 𝕄 := match w with
  | 0 => iprop(∃ g : Buf (Elt F) (w2bA.view.loc (c : Thread nD τ)), (w2bA.view.loc (c : Thread nD τ) ↦[Finset.univ]{fullShare} g))
  | _ + 1 => (w2bA.view.loc (c : Thread nD τ) ↦[Finset.univ]{fullShare} (w2v m c : Buf (Elt F) (w2bA.view.loc (c : Thread nD τ))))
def Ws (w : ℕ) : sProp 𝕄 :=
  iprop((w1A.view.loc (c : Thread nD τ) ↦[Finset.univ]{fullShare} (w1in m c : Buf (Elt F) (w1A.view.loc (c : Thread nD τ))))
    ∗ (w2A.view.loc (c : Thread nD τ) ↦[Finset.univ]{fullShare} (w2in m c : Buf (Elt F) (w2A.view.loc (c : Thread nD τ))))
    ∗ w1bS m c w ∗ w2bS m c (w - 1))

def OutOk (n : ℕ) (g : Buf (Elt F) (oA.view.loc (c : Thread nD τ))) : Prop :=
  ∀ i, i < n → (oA.access (oRd c (fl4 i) (i / 4))).read (Elt F) g = oval m c (fl4 i) (i / 4)
def OutS (n : ℕ) : sProp 𝕄 := iprop(∃ g, ⌜OutOk m c n g⌝ ∗ (oA.view.loc (c : Thread nD τ) ↦[Finset.univ]{fullShare} g))

def barTok0 (n : ℕ) : sProp 𝕄 := match n with | 0 => iprop(dutyTok ER (cell (prv c) .bar) 0 0 ∗ barPay (prv c) 0) | _ + 1 => iprop(emp)
def barTok1 (n : ℕ) : sProp 𝕄 := match n with | 0 => iprop(dutyTok ER (cell (nxt c) .bar) 0 1 ∗ barPay (nxt c) 1) | _ + 1 => iprop(emp)
def BarS (n : ℕ) : sProp 𝕄 :=
  iprop(barTok0 c n ∗ barTok1 c (n - 1) ∗ (if n ≤ 2 then iprop(cred (tallyAt (cell c .bar) 1 2) ∗ pos c .bar 0) else pos c .bar 1))

/-! ## All of it -/

variable (K : Dev nD × Kd → ℕ) (KS : Key → ℕ)

def Ctx : sProp 𝕄 :=
  iprop(levAts L lv ∗ (∀ p : Dev nD × Kd, cellInv ER (Rd m) (K p) (cell p.1 p.2)) ∗ (∀ p : Dev nD × Kd, reached ER (cell p.1 p.2) 0)
    ∗ (∀ k : Key, slotInv ES (KS k) k (cmSlot (F := F) k)))
instance Ctx_pers : BI.Persistent (Ctx m K KS) := by unfold Ctx; infer_instance

theorem ctx_lev : Ctx m K KS ⊢ (levAts L lv : sProp 𝕄) := by unfold Ctx; iintro ⟨H, -⟩; iexact H
theorem ctx_inv (c' : Dev nD) (k : Kd) : Ctx m K KS ⊢ cellInv ER (Rd m) (K (c', k)) (cell c' k) := by
  unfold Ctx; iintro ⟨-, H, -⟩; iapply H $$ %(c', k)
theorem ctx_reached (c' : Dev nD) (k : Kd) : Ctx m K KS ⊢ (reached ER (cell c' k) 0 : sProp 𝕄) := by
  unfold Ctx; iintro ⟨-, -, H, -⟩; iapply H $$ %(c', k)
theorem ctx_slot (k : Key) : Ctx m K KS ⊢ slotInv ES (KS k) k (cmSlot (F := F) k) := by
  unfold Ctx; iintro ⟨-, -, -, H⟩; iapply H $$ %k

def OW (n : ℕ) : sProp 𝕄 := iprop(∃ W, owes (c : Thread nD τ) (owedFrom c n) W)

def St (x : GS) : sProp 𝕄 :=
  iprop(Ctx m K KS ∗ OW c x.n ∗ (Fl m c 0 x.f0 ∗ Fl m c 1 x.f1 ∗ Fl m c 2 x.f2 ∗ Fl m c 3 x.f3) ∗ (DD m c 0 x.d0 ∗ DD m c 1 x.d1)
    ∗ Ws m c x.w ∗ OutS m c x.o ∗ BarS c x.br)

/-- A step that only touches one flow, inside the whole state. -/
theorem step_fl (f : Fin 4) (x : GS) (n : ℕ) (y : FS) {A B : sProp 𝕄}
    (hl : iprop(Ctx m K KS ∗ OW c x.n ∗ Fl m c f (x.fl f) ∗ ((OW c n ∗ Fl m c f y) -∗ A)) ⊢ B)
    (h : St m c K KS (x.putF f n y) ⊢ A) : St m c K KS x ⊢ B := by
  refine (show _ ⊢ _ from ?_ : St m c K KS x ⊢ _).trans hl
  match f, hl, h with
  | 0, _, h =>
    unfold St; iintro ⟨#Hc, HO, ⟨H0, H1, H2, H3⟩, HR⟩
    isplitr; · iexact Hc
    isplitl [HO]; · iexact HO
    isplitl [H0]; · iexact H0
    iintro ⟨HO, H0⟩; iapply h; unfold St
    isplitr; · iexact Hc
    isplitl [HO]; · iexact HO
    isplitr [HR]
    · isplitl [H0]; · iexact H0
      isplitl [H1]; · iexact H1
      isplitl [H2]; · iexact H2
      iexact H3
    iexact HR
  | 1, _, h =>
    unfold St; iintro ⟨#Hc, HO, ⟨H0, H1, H2, H3⟩, HR⟩
    isplitr; · iexact Hc
    isplitl [HO]; · iexact HO
    isplitl [H1]; · iexact H1
    iintro ⟨HO, H1⟩; iapply h; unfold St
    isplitr; · iexact Hc
    isplitl [HO]; · iexact HO
    isplitr [HR]
    · isplitl [H0]; · iexact H0
      isplitl [H1]; · iexact H1
      isplitl [H2]; · iexact H2
      iexact H3
    iexact HR
  | 2, _, h =>
    unfold St; iintro ⟨#Hc, HO, ⟨H0, H1, H2, H3⟩, HR⟩
    isplitr; · iexact Hc
    isplitl [HO]; · iexact HO
    isplitl [H2]; · iexact H2
    iintro ⟨HO, H2⟩; iapply h; unfold St
    isplitr; · iexact Hc
    isplitl [HO]; · iexact HO
    isplitr [HR]
    · isplitl [H0]; · iexact H0
      isplitl [H1]; · iexact H1
      isplitl [H2]; · iexact H2
      iexact H3
    iexact HR
  | 3, _, h =>
    unfold St; iintro ⟨#Hc, HO, ⟨H0, H1, H2, H3⟩, HR⟩
    isplitr; · iexact Hc
    isplitl [HO]; · iexact HO
    isplitl [H3]; · iexact H3
    iintro ⟨HO, H3⟩; iapply h; unfold St
    isplitr; · iexact Hc
    isplitl [HO]; · iexact HO
    isplitr [HR]
    · isplitl [H0]; · iexact H0
      isplitl [H1]; · iexact H1
      isplitl [H2]; · iexact H2
      iexact H3
    iexact HR

/-- A step that only touches one direction's loads and product. -/
theorem step_dd (d : Fin 2) (x : GS) (y : DS) {A B : sProp 𝕄}
    (hl : iprop(Ctx m K KS ∗ OW c x.n ∗ DD m c d (x.di d) ∗ ((OW c x.n ∗ DD m c d y) -∗ A)) ⊢ B)
    (h : St m c K KS (x.putD d y) ⊢ A) : St m c K KS x ⊢ B := by
  refine (show _ ⊢ _ from ?_ : St m c K KS x ⊢ _).trans hl
  match d, hl, h with
  | 0, _, h =>
    unfold St; iintro ⟨#Hc, HO, HF, ⟨H0, H1⟩, HR⟩
    isplitr; · iexact Hc
    isplitl [HO]; · iexact HO
    isplitl [H0]; · iexact H0
    iintro ⟨HO, H0⟩; iapply h; unfold St
    isplitr; · iexact Hc
    isplitl [HO]; · iexact HO
    isplitl [HF]; · iexact HF
    isplitr [HR]
    · isplitl [H0]; · iexact H0
      iexact H1
    iexact HR
  | 1, _, h =>
    unfold St; iintro ⟨#Hc, HO, HF, ⟨H0, H1⟩, HR⟩
    isplitr; · iexact Hc
    isplitl [HO]; · iexact HO
    isplitl [H1]; · iexact H1
    iintro ⟨HO, H1⟩; iapply h; unfold St
    isplitr; · iexact Hc
    isplitl [HO]; · iexact HO
    isplitl [HF]; · iexact HF
    isplitr [HR]
    · isplitl [H0]; · iexact H0
      iexact H1
    iexact HR

theorem step_w (x : GS) (w : ℕ) {A B : sProp 𝕄} (hl : iprop(Ws m c x.w ∗ (Ws m c w -∗ A)) ⊢ B)
    (h : St m c K KS { x with w := w } ⊢ A) : St m c K KS x ⊢ B := by
  refine (show _ ⊢ _ from ?_ : St m c K KS x ⊢ _).trans hl
  unfold St; iintro ⟨#Hc, HO, HF, HD, HW, HR⟩
  isplitl [HW]; · iexact HW
  iintro HW; iapply h; unfold St; iframe Hc HO HF HD HW HR

theorem step_o (x : GS) (o : ℕ) {A B : sProp 𝕄} (hl : iprop(OutS m c x.o ∗ (OutS m c o -∗ A)) ⊢ B)
    (h : St m c K KS { x with o := o } ⊢ A) : St m c K KS x ⊢ B := by
  refine (show _ ⊢ _ from ?_ : St m c K KS x ⊢ _).trans hl
  unfold St; iintro ⟨#Hc, HO, HF, HD, HW, Ho, HR⟩
  isplitl [Ho]; · iexact Ho
  iintro Ho; iapply h; unfold St; iframe Hc HO HF HD HW HR; iexact Ho

theorem step_br (x : GS) (n b : ℕ) {A B : sProp 𝕄} (hl : iprop(Ctx m K KS ∗ OW c x.n ∗ BarS c x.br ∗ ((OW c n ∗ BarS c b) -∗ A)) ⊢ B)
    (h : St m c K KS { x with n := n, br := b } ⊢ A) : St m c K KS x ⊢ B := by
  refine (show _ ⊢ _ from ?_ : St m c K KS x ⊢ _).trans hl
  unfold St; iintro ⟨#Hc, HO, HF, HD, HW, Ho, HR⟩
  isplitr; · iexact Hc
  isplitl [HO]; · iexact HO
  isplitl [HR]; · iexact HR
  iintro ⟨HO, HR⟩; iapply h; unfold St; iframe Hc HO HF HD HW Ho; iexact HR

end

/-! ## Taking a summand at either end of a range -/

section
open Idealize.SL.BI
theorem big_head {a b : ℕ} (h : a < b) (P : ℕ → sProp 𝕄) : bigSep (Finset.Ico a b) P = iprop(P a ∗ bigSep (Finset.Ico (a + 1) b) P) := by
  rw [Ico_head h, bigSep_insert (Ico_notMem _ _)]; rfl
theorem big_last {a b : ℕ} (h : a ≤ b) (P : ℕ → sProp 𝕄) : bigSep (Finset.Ico a (b + 1)) P = iprop(P b ∗ bigSep (Finset.Ico a b) P) := by
  rw [Ico_last h, bigSep_insert (Ico_notMem' _ _)]; rfl
theorem big_range (n : ℕ) (P : ℕ → sProp 𝕄) : bigSep (Finset.range (n + 1)) P = iprop(P n ∗ bigSep (Finset.range n) P) := by
  rw [Finset.range_add_one, bigSep_insert Finset.notMem_range_self]; rfl
end

end Cert.Ring
-- ==== Proof.Ghost.lean ====
/- The ghost state the devices start from. -/
module

public import proofs.«01_k».proof.Proof.State

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

variable (m : Mem F)

/-! ## The kinds of semaphores, counted -/

def kdL : List Kd := [.bar, .cred 0, .cred 1, .cred 2, .cred 3, .load 0 0, .load 0 1, .load 1 0, .load 1 1,
  .send 0 0, .send 0 1, .send 1 0, .send 1 1, .send 2 0, .send 2 1, .send 3 0, .send 3 1,
  .recv 0 0, .recv 0 1, .recv 1 0, .recv 1 1, .recv 2 0, .recv 2 1, .recv 3 0, .recv 3 1]
theorem kdL_mem : ∀ k : Kd, k ∈ kdL := by
  intro k
  cases k with
  | bar => decide
  | cred f => revert f; decide
  | load d b => revert d b; decide
  | send f b => revert f b; decide
  | recv f b => revert f b; decide
instance : Fintype Kd := ⟨kdL.toFinset, fun k => List.mem_toFinset.mpr (kdL_mem k)⟩

theorem csem_inj : Function.Injective csem := fun a b h => by
  have := congrArg decode h
  rw [decode_csem, decode_csem] at this
  exact Option.some.inj this
theorem cell_eq_iff {a b : Dev nD} {k k' : Kd} : cell a k = cell b k' ↔ a = b ∧ k = k' := by
  constructor
  · intro h
    exact ⟨congrArg (fun g : GSem nD τ sig => g.1.1) h, csem_inj (congrArg Prod.snd h)⟩
  · rintro ⟨rfl, rfl⟩; rfl

/-- The semaphores of the kernel itself: all but the barrier. -/
abbrev osem : {k : Kd // k ≠ .bar} → SemLoc sig := fun k => csem k.1

theorem own_scoped : ∀ k : Kd, k ≠ .bar → (csem k).isScoped .tc = true := by
  intro k
  cases k with
  | bar => intro h; exact absurd rfl h
  | cred f => intro _; revert f; decide
  | load d b => intro _; revert d b; decide
  | send f b => intro _; revert f b; decide
  | recv f b => intro _; revert f b; decide
theorem own_disj : ∀ (k : Kd) w s, csem k ≠ .dma ((cfg0.spec w).sem s) := by
  intro k
  cases k with
  | bar => decide
  | cred f => revert f; decide
  | load d b => revert d b; decide
  | send f b => revert f b; decide
  | recv f b => revert f b; decide
theorem ownSemFacts : Pipeline.OwnSemFacts cfg0.spec osem :=
  ⟨fun k => own_scoped k.1 k.2, fun a b h => Subtype.ext (csem_inj h), fun k => own_disj k.1⟩

/-! ## Moving around the ring -/

def dstE (f : Fin 4) : Dev nD ≃ Dev nD := ⟨fun c => dst c f, fun c => src c f, fun c => src_dst c f, fun c => dst_src c f⟩
def srcE (f : Fin 4) : Dev nD ≃ Dev nD := ⟨fun c => src c f, fun c => dst c f, fun c => dst_src c f, fun c => src_dst c f⟩
def nxtE : Dev nD ≃ Dev nD := ⟨nxt, prv, prv_nxt, nxt_prv⟩
def prvE : Dev nD ≃ Dev nD := ⟨prv, nxt, nxt_prv, prv_nxt⟩

theorem around (e : Fin 4 → Dev nD ≃ Dev nD) (Φ : Dev nD → Fin 4 → sProp 𝕄) :
    bigSep Finset.univ (fun c => bigSep Finset.univ (Φ c)) = bigSep Finset.univ (fun c => bigSep Finset.univ (fun f => Φ (e f c) f)) := by
  rw [bigSep_univ_comm (fun c f => Φ c f), bigSep_univ_comm (fun c f => Φ (e f c) f)]
  exact bigSep_congr fun f _ => bigSep_univ_equiv (e f) (fun c => Φ c f)

/-! ## The tokens of the duties -/

abbrev TokI : Type := Fin 2 ⊕ (Fin 4 × Fin 12) ⊕ (Fin 2 × Fin 8) ⊕ (Fin 4 × Fin 14) ⊕ (Fin 4 × Fin 14)
def kOf : TokI → Kd × ℕ × ℕ
  | .inl i => (.bar, 0, i.val)
  | .inr (.inl x) => (.cred x.1, 0, x.2.val)
  | .inr (.inr (.inl x)) => (.load x.1 (sl x.2.val), x.2.val / 2, 0)
  | .inr (.inr (.inr (.inl x))) => (.send x.1 (sl x.2.val), x.2.val / 2, 0)
  | .inr (.inr (.inr (.inr x))) => (.recv x.1 (sl x.2.val), x.2.val / 2, 0)
theorem sl_half {a b : ℕ} (h : sl a = sl b) (h' : a / 2 = b / 2) : a = b := by
  have : a % 2 = b % 2 := congrArg Fin.val h
  omega
theorem kOf_inj : Function.Injective kOf := by
  rintro (i | ⟨f, d⟩ | ⟨f, d⟩ | ⟨f, d⟩ | ⟨f, d⟩) (j | ⟨g, e⟩ | ⟨g, e⟩ | ⟨g, e⟩ | ⟨g, e⟩) h <;>
    simp only [kOf, Prod.mk.injEq, Kd.cred.injEq, Kd.load.injEq, Kd.send.injEq, Kd.recv.injEq, reduceCtorEq, false_and, true_and, and_true] at h
  · rw [Fin.ext h]
  · obtain ⟨rfl, h⟩ := h; rw [Fin.ext h]
  · obtain ⟨⟨rfl, h⟩, h'⟩ := h; rw [Fin.ext (sl_half h h')]
  · obtain ⟨⟨rfl, h⟩, h'⟩ := h; rw [Fin.ext (sl_half h h')]
  · obtain ⟨⟨rfl, h⟩, h'⟩ := h; rw [Fin.ext (sl_half h h')]
abbrev tokOf (p : Dev nD × TokI) : GSem nD τ sig × ℕ × ℕ := (cell p.1 (kOf p.2).1, (kOf p.2).2.1, (kOf p.2).2.2)
theorem tokOf_inj : Function.Injective tokOf := by
  rintro ⟨c, i⟩ ⟨c', j⟩ h
  obtain ⟨h1, h2⟩ := Prod.ext_iff.mp h
  obtain ⟨h3, h4⟩ := Prod.ext_iff.mp h2
  obtain ⟨rfl, h5⟩ := cell_eq_iff.mp h1
  exact Prod.ext rfl (kOf_inj (Prod.ext h5 (Prod.ext h3 h4)))
def ringCells : Finset (GSem nD τ sig) := Finset.univ.map ⟨fun p : Dev nD × Kd => cell p.1 p.2, fun a b h => Prod.ext (cell_eq_iff.mp h).1 (cell_eq_iff.mp h).2⟩
def ringToks : Finset (GSem nD τ sig × ℕ × ℕ) := Finset.univ.map ⟨tokOf, tokOf_inj⟩

def u₀ : UU := (initOf (Pipeline.cells cfgs cellOf_inj) (Pipeline.launchToks cfgs cellOf_inj), (initOf ringCells ringToks, initSlots Finset.univ 7))

section
variable (c : Dev nD)

/-- The tokens of the duties of the device's own cells. -/
def toks : sProp 𝕄 :=
  iprop((dutyTok ER (cell c .bar) 0 0 ∗ dutyTok ER (cell c .bar) 0 1)
    ∗ (bigSep Finset.univ fun f : Fin 4 => bigSep Finset.univ fun d : Fin 12 => dutyTok ER (cell c (.cred f)) 0 d.val)
    ∗ (bigSep Finset.univ fun d : Fin 2 => bigSep Finset.univ fun s : Fin 8 => dutyTok ER (cell c (.load d (sl s.val))) (s.val / 2) 0)
    ∗ (bigSep Finset.univ fun f : Fin 4 => bigSep Finset.univ fun s : Fin 14 => dutyTok ER (cell c (.send f (sl s.val))) (s.val / 2) 0)
    ∗ (bigSep Finset.univ fun f : Fin 4 => bigSep Finset.univ fun s : Fin 14 => dutyTok ER (cell c (.recv f (sl s.val))) (s.val / 2) 0))
/-- The tokens of the duties the device pays. -/
def payToks : sProp 𝕄 :=
  iprop((dutyTok ER (cell (prv c) .bar) 0 0 ∗ dutyTok ER (cell (nxt c) .bar) 0 1)
    ∗ (bigSep Finset.univ fun f : Fin 4 => bigSep Finset.univ fun d : Fin 12 => dutyTok ER (cell (src c f) (.cred f)) 0 d.val)
    ∗ (bigSep Finset.univ fun d : Fin 2 => bigSep Finset.univ fun s : Fin 8 => dutyTok ER (cell c (.load d (sl s.val))) (s.val / 2) 0)
    ∗ (bigSep Finset.univ fun f : Fin 4 => bigSep Finset.univ fun s : Fin 14 => dutyTok ER (cell c (.send f (sl s.val))) (s.val / 2) 0)
    ∗ (bigSep Finset.univ fun f : Fin 4 => bigSep Finset.univ fun s : Fin 14 => dutyTok ER (cell (dst c f) (.recv f (sl s.val))) (s.val / 2) 0))

theorem toks_eq : (bigSep Finset.univ fun i : TokI => (dutyTok ER (tokOf (c, i)).1 (tokOf (c, i)).2.1 (tokOf (c, i)).2.2 : sProp 𝕄)) = toks c := by
  unfold toks
  rw [bigSep_univ_sum, bigSep_univ_sum, bigSep_univ_sum, bigSep_univ_sum, bigSep_univ_prod, bigSep_univ_prod, bigSep_univ_prod, bigSep_univ_prod, bigSep_fin_two]
  rfl

/-- The slots' own start: the element of the slots, kept by device 0. -/
def slotSeed : sProp 𝕄 := if c = 0 then BI.own (ES (initSlots (Finset.univ : Finset Key) 7)) else iprop(emp)

def G : sProp 𝕄 :=
  iprop((bigSep Finset.univ fun k : Kd => roundState ER (Rd m) (cell c k) 0)
    ∗ ((bigSep Finset.univ fun k : Kd => atPos ER (cell c k) 0 ∅ 0) ∗ (bigSep Finset.univ fun k : Kd => reached ER (cell c k) 0))
    ∗ toks c ∗ slotSeed c)
end

theorem toks_around : (bigSep Finset.univ fun c : Dev nD => (toks c : sProp 𝕄)) = bigSep Finset.univ fun c : Dev nD => payToks c := by
  unfold toks payToks
  simp only [bigSep_sep']
  rw [bigSep_univ_equiv prvE (fun c : Dev nD => (dutyTok ER (cell c .bar) 0 0 : sProp 𝕄)),
    bigSep_univ_equiv nxtE (fun c : Dev nD => (dutyTok ER (cell c .bar) 0 1 : sProp 𝕄)),
    around srcE (fun (c : Dev nD) (f : Fin 4) => (bigSep Finset.univ fun d : Fin 12 => dutyTok ER (cell c (.cred f)) 0 d.val : sProp 𝕄)),
    around dstE (fun (c : Dev nD) (f : Fin 4) => (bigSep Finset.univ fun s : Fin 14 => dutyTok ER (cell c (.recv f (sl s.val))) (s.val / 2) 0 : sProp 𝕄))]
  rfl

theorem seed_all : (BI.own (ES (initSlots (Finset.univ : Finset Key) 7)) : sProp 𝕄) ⊢ bigSep Finset.univ fun c : Dev nD => slotSeed c := by
  have h : (bigSep (Finset.univ.erase (0 : Dev nD)) fun c => (slotSeed c : sProp 𝕄)) = iprop(emp) :=
    (bigSep_congr (Φ := fun c => (slotSeed c : sProp 𝕄)) (Ψ := fun _ => iprop(emp)) fun c hc => if_neg (Finset.ne_of_mem_erase hc)).trans (bigSep_emp_const _)
  have h2 : (bigSep Finset.univ fun c : Dev nD => (slotSeed c : sProp 𝕄)) = iprop(slotSeed 0 ∗ emp) :=
    (bigSep_univ_split (0 : Dev nD)).trans (by rw [h]; rfl)
  rw [h2]
  iintro H
  isplitl; · unfold slotSeed; rw [if_pos rfl]; iexact H
  iempintro
theorem seed_take : (bigSep Finset.univ fun c : Dev nD => (slotSeed c : sProp 𝕄)) ⊢ BI.own (ES (initSlots (Finset.univ : Finset Key) 7)) :=
  bigSep_elim (Finset.mem_univ (0 : Dev nD))

theorem fund_ring : BI.own (EK ((initOf ringCells ringToks, initSlots Finset.univ 7) : UK)) ⊢ (|==> bigSep Finset.univ (G m) : sProp 𝕄) := by
  have hX (Φ : GSem nD τ sig → sProp 𝕄) : bigSep ringCells Φ = bigSep Finset.univ fun c : Dev nD => bigSep Finset.univ fun k : Kd => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro H
  ihave H := (own_pair_emb EK (initOf ringCells ringToks) (initSlots (Finset.univ : Finset Key) 7)) $$ H
  icases H with ⟨HX, HS⟩
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (seed_all (F := F)) $$ HS
  unfold G; simp only [bigSep_sep']
  isplitl [Hst']; · iexact Hst'
  isplitl [Hat' Hr']
  · isplitl [Hat'] <;> iassumption
  isplitl [Htok'] <;> iassumption

/-! ## The cells' and the slots' invariants -/

theorem sems0_eq (c : Dev nD) :
    (bigSep Finset.univ fun k : Kd => (semVal (cell c k) 0 : sProp 𝕄))
      = iprop(semVal (cell c .bar) 0 ∗ Pipeline.ownSems0 (Ix := ℕ) (Name := ℕ) (U := UU) (Lvl := ℕ) (Val := Elt F) (τ := τ) osem c) := by
  unfold Pipeline.ownSems0
  rw [bigSep_univ_split Kd.bar, bigSep_subtype_ne Kd.bar (fun k => (semVal (cell c k) 0 : sProp 𝕄))]; rfl
theorem unscopedSems0_eq (c : Dev nD) : (unscopedSems0 c : sProp 𝕄) = semVal (cell c .bar) 0 := by
  unfold unscopedSems0; rw [bigSep_eq_bigSepL_of_eq [SemLoc.reg barSem] (by decide) (by decide)]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd m) κ (cell c k)))
          ∗ ((bigSep Finset.univ fun k : Kd => atPos ER (cell c k) 0 ∅ 0) ∗ (bigSep Finset.univ fun k : Kd => reached ER (cell c k) 0))
          ∗ toks c ∗ slotSeed c) := by
  unfold G
  iintro ⟨Hos, Hus, Hst, Hat, Htok⟩
  ihave Hus := (Entails.of_eq (unscopedSems0_eq (F := F) c)) $$ Hus
  ihave Hv := (Entails.of_eq (sems0_eq (F := F) c).symm) $$ [Hos Hus]
  · isplitl [Hus] <;> iassumption
  imod (show iprop((bigSep Finset.univ fun k : Kd => semVal (cell c k) 0) ∗ bigSep Finset.univ fun k : Kd => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- What every device knows from the start: the invariants of the cells and the slots. -/
def Ctx0 (K : Dev nD × Kd → ℕ) (KS : Key → ℕ) : sProp 𝕄 :=
  iprop((∀ p : Dev nD × Kd, cellInv ER (Rd m) (K p) (cell p.1 p.2)) ∗ (∀ p : Dev nD × Kd, reached ER (cell p.1 p.2) 0)
    ∗ (∀ k : Key, slotInv ES (KS k) k (cmSlot (F := F) k)))
instance Ctx0_pers (K : Dev nD × Kd → ℕ) (KS : Key → ℕ) : BI.Persistent (Ctx0 m K KS) := by unfold Ctx0; infer_instance

theorem forall_of_bigSep {I : Type} [Fintype I] [DecidableEq I] (Φ : I → sProp 𝕄) : bigSep Finset.univ Φ ⊢ iprop(∀ p : I, Φ p) := by
  exact Idealize.SL.BI.Laws.forall_intro fun p => bigSep_elim (Φ := Φ) (Finset.mem_univ p)

/-- What a device starts with of its own. -/
def lin (c : Dev nD) : sProp 𝕄 :=
  iprop((bigSep Finset.univ fun k : Kd => atPos ER (cell c k) 0 ∅ 0) ∗ payToks c
    ∗ (bigSep Finset.univ fun f : Fin 4 => bigSep Finset.univ fun b : Fin 2 => readerAt ES ((c, f, b) : Key) 0)
    ∗ (bigSep Finset.univ fun f : Fin 4 => bigSep Finset.univ fun s : Fin 14 => writeTok ES ((dst c f, f, sl s.val) : Key) (s.val / 2 + 1)))
def G' (c : Dev nD) : sProp 𝕄 := iprop(∃ K KS, Ctx0 m K KS ∗ lin c)

theorem writes_set : ((Finset.univ : Finset Key) ×ˢ Finset.range 7)
    = Finset.univ.map ⟨fun p : Dev nD × Fin 4 × Fin 14 => (((p.1, p.2.1, sl p.2.2.val) : Key), p.2.2.val / 2), by
        rintro ⟨c, f, s⟩ ⟨c', f', s'⟩ h
        obtain ⟨h1, h2⟩ := Prod.ext_iff.mp h
        obtain ⟨h3, h4⟩ := Prod.ext_iff.mp h1
        obtain ⟨h5, h6⟩ := Prod.ext_iff.mp h4
        exact Prod.ext h3 (Prod.ext h5 (Fin.ext (sl_half h6 h2)))⟩ := by
  ext ⟨⟨c, f, b⟩, n⟩
  rw [Finset.mem_product, Finset.mem_range, Finset.mem_map]
  constructor
  · rintro ⟨-, h⟩
    have hb := b.isLt
    have h' : n < 7 := h
    refine ⟨(c, f, ⟨2 * n + b.val, by omega⟩), Finset.mem_univ _, ?_⟩
    refine Prod.ext (Prod.ext rfl (Prod.ext rfl (Fin.ext ?_))) ?_
    · show (2 * n + b.val) % 2 = b.val; omega
    · show (2 * n + b.val) / 2 = n; omega
  · rintro ⟨⟨c', f', s⟩, -, h⟩
    refine ⟨Finset.mem_univ _, ?_⟩
    have h2 : s.val / 2 = n := congrArg Prod.snd h
    have := s.isLt
    show n < 7
    omega

theorem writes_eq : (bigSep ((Finset.univ : Finset Key) ×ˢ Finset.range 7) (fun x => (writeTok ES x.1 (x.2 + 1) : sProp 𝕄)))
      = bigSep Finset.univ fun c : Dev nD => bigSep Finset.univ fun f : Fin 4 => bigSep Finset.univ fun s : Fin 14 => writeTok ES ((dst c f, f, sl s.val) : Key) (s.val / 2 + 1) := by
  rw [writes_set, bigSep_map, bigSep_univ_prod]
  refine Eq.trans ?_ (around dstE (fun (c : Dev nD) (f : Fin 4) => (bigSep Finset.univ fun s : Fin 14 => writeTok ES ((c, f, sl s.val) : Key) (s.val / 2 + 1) : sProp 𝕄)))
  refine bigSep_congr fun c _ => ?_
  rw [bigSep_univ_prod]; rfl
theorem reads_eq : (bigSep (Finset.univ : Finset Key) (fun k => (readerAt ES k 0 : sProp 𝕄)))
      = bigSep Finset.univ fun c : Dev nD => bigSep Finset.univ fun f : Fin 4 => bigSep Finset.univ fun b : Fin 2 => readerAt ES ((c, f, b) : Key) 0 := by
  rw [bigSep_univ_prod]
  exact bigSep_congr (fun c _ => bigSep_univ_prod _)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Kd => iprop(∃ κ : ℕ, cellInv ER (Rd m) κ (cell c k)))
          ∗ ((bigSep Finset.univ fun k : Kd => atPos ER (cell c k) 0 ∅ 0) ∗ (bigSep Finset.univ fun k : Kd => reached ER (cell c k) 0))
          ∗ toks c ∗ slotSeed c) : sProp 𝕄)
      ⊢ |={Set.univ}=> bigSep Finset.univ (G' m) := by
  rw [bigSep_sep', bigSep_sep', bigSep_sep', bigSep_sep', ← bigSep_univ_prod (fun p : Dev nD × Kd => iprop(∃ κ : ℕ, cellInv ER (Rd m) κ (cell p.1 p.2))),
    ← bigSep_univ_prod (fun p : Dev nD × Kd => (reached ER (cell p.1 p.2) 0 : sProp 𝕄))]
  iintro ⟨HI, ⟨Hat, HR⟩, Htok, HS⟩
  ihave HS := (seed_take (F := F)) $$ HS
  imod (slots_init ES (Finset.univ : Finset Key) 7 (fun k => cmSlot (F := F) k)) $$ HS with ⟨%KS, -, #HSI, HRd, HW⟩
  ihave HK := (BI.bigSep_exists_pi Finset.univ (fun (p : Dev nD × Kd) (κ : ℕ) => (cellInv ER (Rd m) κ (cell p.1 p.2) : sProp 𝕄))) $$ HI
  icases HK with ⟨%K, #HI⟩
  ihave #HR := (show (bigSep Finset.univ fun p : Dev nD × Kd => (reached ER (cell p.1 p.2) 0 : sProp 𝕄)) ⊢ _ from .rfl) $$ HR
  ihave Htk := (Entails.of_eq (toks_around (F := F))) $$ Htok
  ihave HW := (Entails.of_eq (writes_eq (F := F))) $$ HW
  ihave HRd := (Entails.of_eq (reads_eq (F := F))) $$ HRd
  imodintro
  iapply (bigSep_with (R := Ctx0 m K KS) (Φ := lin) fun c _ => (by
    unfold G'; iintro ⟨H1, H2⟩; iexists K; iexists KS
    isplitl [H1] <;> iassumption))
  isplitr
  · unfold Ctx0
    isplitr; · iapply (forall_of_bigSep (fun p : Dev nD × Kd => cellInv ER (Rd m) (K p) (cell p.1 p.2))); iexact HI
    isplitr; · iapply (forall_of_bigSep (fun p : Dev nD × Kd => (reached ER (cell p.1 p.2) 0 : sProp 𝕄))); iexact HR
    iapply (forall_of_bigSep (fun k : Key => slotInv ES (KS k) k (cmSlot (F := F) k))); iexact HSI
  · unfold lin; simp only [bigSep_sep']
    isplitl [Hat]; · iexact Hat
    isplitl [Htk]; · iexact Htk
    isplitl [HRd] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans ((BI.fupd_mono (regroup m)).trans BI.fupd_trans)

end Cert.Ring
-- ==== Proof.Credits.lean ====
/- The credits the devices start from. -/
module

public import proofs.«01_k».proof.Proof.Ghost

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

/-! ## What a device is owed at the start

Every signal a device makes goes to one semaphore of one other device; read backwards, every semaphore of a device is owed
by one device for each signal of its kind. -/

def evKd : Ev → Kd
  | .bar _ => .bar
  | .send f s => .recv f (sl s)
  | .cred f _ => .cred f
def evDev : Ev → (Dev nD ≃ Dev nD)
  | .bar i => match i with | 0 => prvE | 1 => nxtE
  | .send f _ => dstE f
  | .cred f _ => srcE f
theorem evCell_eq (c : Dev nD) (e : Ev) : evCell c e = cell (evDev e c) (evKd e) := by
  cases e with
  | bar i => match i with | 0 => rfl | 1 => rfl
  | send f s => rfl
  | cred f d => rfl

theorem owed_at (d c : Dev nD) (k : Kd) (j i : ℕ) :
    evTally d j (cell c k) i = if d = (evDev (ev j)).symm c then (if evKd (ev j) = k ∧ i = ix j then evAmt (ev j) else 0) else 0 := by
  unfold evTally
  rw [tallyAt_apply, evCell_eq]
  by_cases h : d = (evDev (ev j)).symm c
  · subst h
    rw [if_pos rfl]
    simp only [Equiv.apply_symm_apply, cell_eq_iff, true_and, eq_comm]
  · rw [if_neg h, if_neg]
    rintro ⟨h1, -⟩
    exact h (by rw [(cell_eq_iff.mp h1).1, Equiv.symm_apply_apply])

/-- The signals that go to a semaphore of kind `k`. -/
def evsOf (k : Kd) : Finset ℕ := (Finset.Ico 0 106).filter (fun j => evKd (ev j) = k)

theorem launch_cell (c : Dev nD) (k : Kd) :
    launchCredit (Pipeline.owing fun d => owedFrom d 0) 0 (cell c k) = ∑ j ∈ evsOf k, Finsupp.single (ix j) (evAmt (ev j)) := by
  refine Finsupp.ext fun i => ?_
  rw [Pipeline.launchCredit_owing, Finsupp.finsetSum_apply, evsOf, Finset.sum_filter]
  have h : ∀ d : Dev nD, owedFrom d 0 (cell c k) i = ∑ j ∈ Finset.Ico 0 106, evTally d j (cell c k) i := fun d => by
    unfold owedFrom; rw [Finset.sum_apply, Finsupp.finsetSum_apply]
  rw [Finset.sum_congr rfl fun d _ => h d, Finset.sum_comm]
  refine Finset.sum_congr rfl fun j _ => ?_
  rw [Finset.sum_congr rfl fun d _ => owed_at d c k j i, Finset.sum_ite_eq' Finset.univ ((evDev (ev j)).symm c), if_pos (Finset.mem_univ _)]
  by_cases hk : evKd (ev j) = k
  · by_cases hi : i = ix j
    · rw [if_pos ⟨hk, hi⟩, if_pos hk, hi, Finsupp.single_eq_same]
    · rw [if_neg (fun h => hi h.2), if_pos hk, Finsupp.single_apply, if_neg (fun h => hi h.symm)]
  · rw [if_neg (fun h => hk h.1), if_neg hk]

theorem tallyOn_sum (g : GSem nD τ sig) (S : Finset ℕ) (κ : ℕ → (ℕ →₀ ℕ)) :
    (tallyOn g (∑ j ∈ S, κ j) : CellTallies nD τ sig ℕ) = ∑ j ∈ S, tallyOn g (κ j) := by
  induction S using Finset.induction_on with
  | empty => rw [Finset.sum_empty, Finset.sum_empty, tallyOn_zero]
  | insert a S ha ih => rw [Finset.sum_insert ha, Finset.sum_insert ha, tallyOn_add, ih]

/-- The credit for signal `j` on device `c`'s semaphore. -/
abbrev crOf (c : Dev nD) (j : ℕ) : sProp 𝕄 := cred (tallyAt (cell c (evKd (ev j))) (ix j) (evAmt (ev j)))

theorem creds_all (c : Dev nD) : (Pipeline.launchCred (fun d => owedFrom d 0) c : sProp 𝕄) ⊢ bigSep (Finset.Ico 0 106) (crOf c) := by
  unfold Pipeline.launchCred
  refine (bigSep_subset (t := Finset.univ.map ⟨csem, csem_inj⟩) (Finset.subset_univ _)).trans ?_
  rw [bigSep_map]
  have h : ∀ k : Kd, (cred (tallyOn (cell c k) (launchCredit (Pipeline.owing fun d => owedFrom d 0) 0 (cell c k))) : sProp 𝕄)
      = bigSep (evsOf k) (crOf c) := fun k => by
    rw [launch_cell, tallyOn_sum, Pipeline.cred_finsetSum]
    refine bigSep_congr fun j hj => ?_
    have := (Finset.mem_filter.mp hj).2
    subst this; rfl
  rw [show (bigSep Finset.univ fun k : Kd => (cred (tallyOn (((c.tc : Thread nD τ), (⟨csem, csem_inj⟩ : Kd ↪ SemLoc sig) k))
      (launchCredit (Pipeline.owing fun d => owedFrom d 0) 0 (((c.tc : Thread nD τ), (⟨csem, csem_inj⟩ : Kd ↪ SemLoc sig) k)))) : sProp 𝕄))
      = bigSep Finset.univ fun k : Kd => bigSep (evsOf k) (crOf c) from bigSep_congr fun k _ => h k]
  refine (bigSep_biUnion Finset.univ evsOf).trans (bigSep_subset fun j hj => ?_)
  exact Finset.mem_biUnion.mpr ⟨evKd (ev j), Finset.mem_univ _, Finset.mem_filter.mpr ⟨hj, rfl⟩⟩

/-- The signals by kind. -/
abbrev EvI : Type := Fin 2 ⊕ (Fin 4 × Fin 14) ⊕ (Fin 4 × Fin 12)
def evOf : EvI → Ev
  | .inl i => .bar i
  | .inr (.inl x) => .send x.1 x.2.val
  | .inr (.inr x) => .cred x.1 x.2.val
def ixOf : EvI → ℕ := fun x => evL.idxOf (evOf x)
theorem ixOf_lt : ∀ x, ixOf x < 106 := by decide +kernel
theorem ev_ixOf : ∀ x, ev (ixOf x) = evOf x := by decide +kernel
theorem ixOf_inj : Function.Injective ixOf := by
  intro a b h
  have h2 : evOf a = evOf b := by rw [← ev_ixOf a, ← ev_ixOf b, h]
  rcases a with i | ⟨f, d⟩ | ⟨f, d⟩ <;> rcases b with j | ⟨g, e⟩ | ⟨g, e⟩ <;>
    simp only [evOf, Ev.bar.injEq, Ev.send.injEq, Ev.cred.injEq, reduceCtorEq] at h2
  · rw [h2]
  · obtain ⟨rfl, h2⟩ := h2; rw [Fin.ext h2]
  · obtain ⟨rfl, h2⟩ := h2; rw [Fin.ext h2]
theorem ixOf_pos : ∀ x : (Fin 4 × Fin 14) ⊕ (Fin 4 × Fin 12), 1 ≤ ixOf (.inr x) := by decide +kernel
theorem ix_send (f : Fin 4) (s : Fin 14) : ix (ixOf (.inr (.inl (f, s)))) = ixS f s.val := max_eq_left (ixOf_pos (.inl (f, s)))
theorem ix_cred (f : Fin 4) (s : Fin 12) : ix (ixOf (.inr (.inr (f, s)))) = ixC f s.val := max_eq_left (ixOf_pos (.inr (f, s)))

theorem ico_fin (n : ℕ) : Finset.Ico 0 n = Finset.univ.map (Fin.valEmbedding (n := n)) := by
  ext j
  rw [Finset.mem_Ico, Finset.mem_map]
  constructor
  · rintro ⟨-, h⟩; exact ⟨⟨j, h⟩, Finset.mem_univ _, rfl⟩
  · rintro ⟨x, -, rfl⟩; exact ⟨Nat.zero_le _, x.isLt⟩
theorem bigSep_ico (n : ℕ) (Φ : ℕ → sProp 𝕄) : bigSep (Finset.Ico 0 n) Φ = bigSep Finset.univ fun j : Fin n => Φ j.val := by
  rw [ico_fin, bigSep_map]; rfl

theorem creds (c : Dev nD) : (Pipeline.launchCred (fun d => owedFrom d 0) c : sProp 𝕄)
    ⊢ iprop(cred (tallyAt (cell c .bar) 1 2) ∗ (bigSep Finset.univ fun f : Fin 4 => recvCr (F := F) c f 0)
        ∗ bigSep Finset.univ fun f : Fin 4 => credCr (F := F) c f 0) := by
  refine (creds_all c).trans ((bigSep_subset (t := Finset.univ.map ⟨ixOf, ixOf_inj⟩) (fun j hj => ?_)).trans ?_)
  · obtain ⟨x, -, rfl⟩ := Finset.mem_map.mp hj
    exact Finset.mem_Ico.mpr ⟨Nat.zero_le _, ixOf_lt x⟩
  rw [bigSep_map, bigSep_univ_sum, bigSep_univ_sum, bigSep_univ_prod, bigSep_univ_prod, bigSep_fin_two]
  have e1 : ∀ i : Fin 2, (crOf c ((⟨ixOf, ixOf_inj⟩ : EvI ↪ ℕ) (.inl i)) : sProp 𝕄) = cred (tallyAt (cell c .bar) 1 1) := fun i => by
    show (cred (tallyAt (cell c (evKd (ev (ixOf (.inl i))))) (ix (ixOf (.inl i))) (evAmt (ev (ixOf (.inl i))))) : sProp 𝕄) = _
    rw [ev_ixOf]
    have : ∀ i : Fin 2, ix (ixOf (.inl i)) = 1 := by decide
    rw [this]; rfl
  have e2 : ∀ (f : Fin 4) (s : Fin 14), (crOf c ((⟨ixOf, ixOf_inj⟩ : EvI ↪ ℕ) (.inr (.inl (f, s)))) : sProp 𝕄)
      = cred (tallyAt (cell c (.recv f (sl s.val))) (ixS f s.val) NS) := fun f s => by
    show (cred (tallyAt (cell c (evKd (ev (ixOf (.inr (.inl (f, s))))))) (ix (ixOf (.inr (.inl (f, s))))) (evAmt (ev (ixOf (.inr (.inl (f, s))))))) : sProp 𝕄) = _
    rw [ev_ixOf, ix_send]; rfl
  have e3 : ∀ (f : Fin 4) (s : Fin 12), (crOf c ((⟨ixOf, ixOf_inj⟩ : EvI ↪ ℕ) (.inr (.inr (f, s)))) : sProp 𝕄)
      = cred (tallyAt (cell c (.cred f)) (ixC f s.val) 1) := fun f s => by
    show (cred (tallyAt (cell c (evKd (ev (ixOf (.inr (.inr (f, s))))))) (ix (ixOf (.inr (.inr (f, s))))) (evAmt (ev (ixOf (.inr (.inr (f, s))))))) : sProp 𝕄) = _
    rw [ev_ixOf, ix_cred]; rfl
  have t : (tallyAt (cell c .bar) 1 2 : CellTallies nD τ sig ℕ) = tallyAt (cell c .bar) 1 1 + tallyAt (cell c .bar) 1 1 := by
    show tallyOn _ (Finsupp.single 1 2) = tallyOn _ (Finsupp.single 1 1) + tallyOn _ (Finsupp.single 1 1)
    rw [← tallyOn_add, ← Finsupp.single_add]
  refine sep_mono ?_ (sep_mono ?_ ?_)
  · rw [e1, e1, t]; exact (cred_add _ _).2
  · refine Entails.of_eq (bigSep_congr fun f _ => ?_)
    unfold recvCr; rw [bigSep_ico]
    exact bigSep_congr fun s _ => e2 f s
  · refine Entails.of_eq (bigSep_congr fun f _ => ?_)
    unfold credCr; rw [bigSep_ico]
    exact bigSep_congr fun s _ => e3 f s

end Cert.Ring
-- ==== Proof.Rules.lean ====
/- The effect of every kind of transfer, signal and wait of the kernel on what a device holds. -/
module

public import proofs.«01_k».proof.Proof.State

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

abbrev 𝒱₀ : Variants := Variants.none
/-- A program of device `c`'s core, with what holds when it ends. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable (c : Dev nD)

/-! ## Positions, slots, payloads -/

theorem pos2_reached (k : Fin 2 → Kd) (n : ℕ) (b : Fin 2) (r : ℕ) (h : rnd b n = r) :
    pos2 c k n ⊢ (reached ER (cell c (k b)) r : sProp 𝕄) := by
  subst h; unfold pos2 pos
  match b with
  | 0 => iintro ⟨⟨-, H⟩, -⟩; iexact H
  | 1 => iintro ⟨-, -, H⟩; iexact H

theorem rnd_even {n : ℕ} (h : n % 2 = 0) : rnd 0 n = n / 2 ∧ rnd 0 (n + 1) = n / 2 + 1 ∧ rnd 1 n = n / 2 ∧ rnd 1 (n + 1) = n / 2 := by
  refine ⟨?_, ?_, ?_, ?_⟩
  · show (n + 1 - 0) / 2 = _; omega
  · show (n + 1 + 1 - 0) / 2 = _; omega
  · show (n + 1 - 1) / 2 = _; omega
  · show (n + 1 + 1 - 1) / 2 = _; omega
theorem rnd_odd {n : ℕ} (h : n % 2 = 1) : rnd 1 n = n / 2 ∧ rnd 1 (n + 1) = n / 2 + 1 ∧ rnd 0 n = n / 2 + 1 ∧ rnd 0 (n + 1) = n / 2 + 1 := by
  refine ⟨?_, ?_, ?_, ?_⟩
  · show (n + 1 - 1) / 2 = _; omega
  · show (n + 1 + 1 - 1) / 2 = _; omega
  · show (n + 1 - 0) / 2 = _; omega
  · show (n + 1 + 1 - 0) / 2 = _; omega
theorem sl_even {n : ℕ} (h : n % 2 = 0) : sl n = 0 := Fin.ext h
theorem sl_odd {n : ℕ} (h : n % 2 = 1) : sl n = 1 := Fin.ext h
theorem sl_rnd (n : ℕ) : 2 * (n / 2) + (sl n).val = n := by show 2 * (n / 2) + n % 2 = n; omega
theorem sl_two (n : ℕ) : sl (n + 2) = sl n := Fin.ext (by show (n + 2) % 2 = n % 2; omega)
theorem sl_sl (n : ℕ) : sl ((sl (n + 1)).val + 1) = sl n := Fin.ext (by show ((n + 1) % 2 + 1) % 2 = n % 2; omega)
theorem rnd_sl (n : ℕ) : rnd (sl n) n = n / 2 := by
  rcases Nat.mod_two_eq_zero_or_one n with h | h
  · rw [sl_even h]; exact (rnd_even h).1
  · rw [sl_odd h]; exact (rnd_odd h).1

/-- Waiting in turn: the position of the slot whose turn it is, and the positions after one more wait. -/
theorem pos2_step (k : Fin 2 → Kd) (n : ℕ) :
    pos2 c k n ⊢ (iprop(atPos ER (cell c (k (sl n))) (n / 2) ∅ 0
      ∗ ((atPos ER (cell c (k (sl n))) (n / 2 + 1) ∅ 0 ∗ reached ER (cell c (k (sl n))) (n / 2 + 1)) -∗ pos2 c k (n + 1))) : sProp 𝕄) := by
  unfold pos2 pos
  rcases Nat.mod_two_eq_zero_or_one n with h | h
  · obtain ⟨h1, h2, h3, h4⟩ := rnd_even h
    rw [sl_even h, h1, h2, h3, h4]
    iintro ⟨⟨Ha, -⟩, Hb⟩
    isplitl [Ha]; · iexact Ha
    iintro H; isplitl [H]; · iexact H
    iexact Hb
  · obtain ⟨h1, h2, h3, h4⟩ := rnd_odd h
    rw [sl_odd h, h1, h2, h3, h4]
    iintro ⟨Hb, ⟨Ha, -⟩⟩
    isplitl [Ha]; · iexact Ha
    iintro H; isplitl [Hb]; · iexact Hb
    iexact H

theorem rdr_step (f : Fin 4) (n : ℕ) :
    rdr c f n ⊢ (iprop(readerAt ES ((c, f, sl n) : Key) (n / 2 + 1) ∗ (readerAt ES ((c, f, sl n) : Key) (n / 2 + 1 + 1) -∗ rdr c f (n + 1))) : sProp 𝕄) := by
  unfold rdr
  rcases Nat.mod_two_eq_zero_or_one n with h | h
  · obtain ⟨h1, h2, h3, h4⟩ := rnd_even h
    rw [sl_even h, h1, h2, h3, h4, Nat.add_comm 1 (n / 2), Nat.add_comm 1 (n / 2 + 1)]
    iintro ⟨Ha, Hb⟩
    isplitl [Ha]; · iexact Ha
    iintro H; isplitl [H]; · iexact H
    iexact Hb
  · obtain ⟨h1, h2, h3, h4⟩ := rnd_odd h
    rw [sl_odd h, h1, h2, h3, h4, Nat.add_comm 1 (n / 2), Nat.add_comm 1 (n / 2 + 1)]
    iintro ⟨Hb, Ha⟩
    isplitl [Ha]; · iexact Ha
    iintro H; isplitl [Hb]; · iexact Hb
    iexact H

theorem sb_acc (f : Fin 4) (x : FS) (b : Fin 2) (v : Cont) :
    iprop(sbS m c f 0 x.sb0 ∗ sbS m c f 1 x.sb1)
      ⊢ iprop(sbS m c f b (x.sb b) ∗ (sbS m c f b v -∗ (sbS m c f 0 (x.setSb b v).sb0 ∗ sbS m c f 1 (x.setSb b v).sb1))) := by
  match b with
  | 0 => iintro ⟨H, H'⟩; isplitl [H]; · iexact H
         iintro H; isplitl [H]; · iexact H
         iexact H'
  | 1 => iintro ⟨H', H⟩; isplitl [H]; · iexact H
         iintro H; isplitl [H']; · iexact H'
         iexact H
theorem cm_acc (f : Fin 4) (x : FS) (b : Fin 2) (v : Cont) :
    iprop(cmS m c f 0 x.cm0 ∗ cmS m c f 1 x.cm1)
      ⊢ iprop(cmS m c f b (x.cm b) ∗ (cmS m c f b v -∗ (cmS m c f 0 (x.setCm b v).cm0 ∗ cmS m c f 1 (x.setCm b v).cm1))) := by
  match b with
  | 0 => iintro ⟨H, H'⟩; isplitl [H]; · iexact H
         iintro H; isplitl [H]; · iexact H
         iexact H'
  | 1 => iintro ⟨H', H⟩; isplitl [H]; · iexact H
         iintro H; isplitl [H']; · iexact H'
         iexact H
theorem xb_acc (d : Fin 2) (x : DS) (b : Fin 2) (v : Cont) :
    iprop(xbS m c d 0 x.xb0 ∗ xbS m c d 1 x.xb1)
      ⊢ iprop(xbS m c d b (x.xb b) ∗ (xbS m c d b v -∗ (xbS m c d 0 (x.setXb b v).xb0 ∗ xbS m c d 1 (x.setXb b v).xb1))) := by
  match b with
  | 0 => iintro ⟨H, H'⟩; isplitl [H]; · iexact H
         iintro H; isplitl [H]; · iexact H
         iexact H'
  | 1 => iintro ⟨H', H⟩; isplitl [H]; · iexact H
         iintro H; isplitl [H']; · iexact H'
         iexact H

theorem owns_slot {sp : Space} {sh : Shape} {e : EltTy} (M : Memref sig .tc sp sh e) (X : sh.Idx → Elt F e) :
    owns (c : Thread nD τ) M fullShare X ⊢ (slot (M.view.loc (c : Thread nD τ)) M.view.set : sProp 𝕄) := by
  unfold owns slot; iintro ⟨%f, -, H⟩; iexists f; iexact H

theorem pay_send (f : Fin 4) (s d : ℕ) : (Rd m).payload (cell c (.send f (sl s))) (s / 2) d = sendPay m c f (sl s) s := by
  rw [payload_eq]; show sendPay m c f (sl s) (2 * (s / 2) + (sl s).val) = _; rw [sl_rnd]
theorem pay_recv (f : Fin 4) (s d : ℕ) : (Rd m).payload (cell c (.recv f (sl s))) (s / 2) d = recvPay m c f (sl s) s := by
  rw [payload_eq]; show recvPay m c f (sl s) (2 * (s / 2) + (sl s).val) = _; rw [sl_rnd]
theorem pay_load (a : Fin 2) (s d : ℕ) : (Rd m).payload (cell c (.load a (sl s))) (s / 2) d = loadPay m c a (sl s) s := by
  rw [payload_eq]; show loadPay m c a (sl s) (2 * (s / 2) + (sl s).val) = _; rw [sl_rnd]
theorem dut_send (f : Fin 4) (s : ℕ) (hs : s < 14) : (Rd m).duties (cell c (.send f (sl s))) (s / 2) = {0} := by
  rw [duties_eq]; exact if_pos (by omega)
theorem dut_recv (f : Fin 4) (s : ℕ) (hs : s < 14) : (Rd m).duties (cell c (.recv f (sl s))) (s / 2) = {0} := by
  rw [duties_eq]; exact if_pos (by omega)
theorem dut_load (a : Fin 2) (s : ℕ) (hs : s < 8) : (Rd m).duties (cell c (.load a (sl s))) (s / 2) = {0} := by
  rw [duties_eq]; exact if_pos (by omega)
theorem mem_send (f : Fin 4) (s : ℕ) (hs : s < 14) : 0 ∈ (Rd m).duties (cell c (.send f (sl s))) (s / 2) := by
  rw [dut_send m c f s hs]; exact Finset.mem_singleton_self _
theorem mem_recv (f : Fin 4) (s : ℕ) (hs : s < 14) : 0 ∈ (Rd m).duties (cell c (.recv f (sl s))) (s / 2) := by
  rw [dut_recv m c f s hs]; exact Finset.mem_singleton_self _
theorem mem_load (a : Fin 2) (s : ℕ) (hs : s < 8) : 0 ∈ (Rd m).duties (cell c (.load a (sl s))) (s / 2) := by
  rw [dut_load m c a s hs]; exact Finset.mem_singleton_self _
theorem owed_send (f : Fin 4) (s N : ℕ) (hN : N < 106) (hev : ev N = .send f s) :
    owedFrom c N = owedFrom c (N + 1) + tallyAt (cell (dst c f) (.recv f (sl s))) (ix N) NS := by
  rw [owedFrom_succ c N hN]; unfold evTally; rw [hev, evAmt_send, evCell_send]
theorem owed_cred (f : Fin 4) (d N : ℕ) (hN : N < 106) (hev : ev N = .cred f d) :
    owedFrom c N = owedFrom c (N + 1) + tallyAt (cell (src c f) (.cred f)) (ix N) 1 := by
  rw [owedFrom_succ c N hN]; unfold evTally; rw [hev, evCell_cred]; rfl
theorem dut_cred (f : Fin 4) : (Rd m).duties (cell c (.cred f)) 0 = Finset.range 12 := by rw [duties_eq]; rfl
theorem exp_send (f : Fin 4) (s : ℕ) (hs : s < 14) : (Rd m).expect (cell c (.send f (sl s))) (s / 2) = NS := by
  rw [expect_eq, ← duties_eq m c, dut_send m c f s hs, Finset.card_singleton, Nat.one_mul, amtK_send]
theorem exp_recv (f : Fin 4) (s : ℕ) (hs : s < 14) : (Rd m).expect (cell c (.recv f (sl s))) (s / 2) = NS := by
  rw [expect_eq, ← duties_eq m c, dut_recv m c f s hs, Finset.card_singleton, Nat.one_mul, amtK_recv]
theorem exp_load (a : Fin 2) (s : ℕ) (hs : s < 8) : (Rd m).expect (cell c (.load a (sl s))) (s / 2) = NL := by
  rw [expect_eq, ← duties_eq m c, dut_load m c a s hs, Finset.card_singleton, Nat.one_mul, amtK_load]
theorem exp_cred (f : Fin 4) : (Rd m).expect (cell c (.cred f)) 0 = 12 := by
  rw [expect_eq, ← duties_eq m c, dut_cred m c f, Finset.card_range, amtK_cred]

variable (K : Dev nD × Kd → ℕ) (KS : Key → ℕ)

/-! ## A transfer -/

/-- A transfer of contents held half: the other half travels, the destination slot is taken from what was granted. -/
theorem send_core (f : Fin 4) (s N : ℕ) (n : Dev nD) (hn : n = dst c f) (hs : s < 14) (hN : N < 106) (hev : ev N = .send f s) (hix : N ≠ 0)
    (nW nG : ℕ) (hr : rnd (sl s) nW = s / 2) (hG : s < nG)
    (srcM : Memref sig .tc .vmem S256x1024 .bf16)
    (hpay : owns (c : Thread nD τ) srcM fullShare.right (sq (X m s c f)) ⊢ sendPay m c f (sl s) s)
    {hsc : (cmV f (sl s) : Memref sig (Dev.tc n : Thread nD τ).2.kind .vmem S256x1024 .bf16).view.ref.isScScratch = false}
    {hsrc : srcM.view.WordExact} {hdst : (cmV f (sl s)).view.WordExact}
    {hsem : DmaTarget.Typed .vmem (.dma (recvSem f (sl s))) (.remote (Dev.tc n : Thread nD τ) (cmV f (sl s)) (.dma (sendSem f (sl s))) hsc)}
    {α : Type} {Q : α → sProp 𝕄} {k : PUnit → Prog (TpuEff nD τ sig (Elt F) Λ₀ .tc) α} :
    iprop(Ctx m K KS ∗ OW c N ∗ sendTok1 c f s ∗ pos2 c (.send f) nW ∗ gr c f nG ∗ owns (c : Thread nD τ) srcM fullShare.right (sq (X m s c f)))
      ⊢ iprop(((OW c (N + 1) ∗ pos2 c (.send f) nW ∗ cred (tallyAt (cell c (.send f (sl s))) 0 NS)) -∗ run c (k ⟨⟩) Q)
        -∗ run c (.op (.enqueueDma srcM (.remote (Dev.tc n : Thread nD τ) (cmV f (sl s)) (.dma (sendSem f (sl s))) hsc)
            (.dma (recvSem f (sl s))) hsrc hdst hsem) k) Q) := by
  subst hn
  unfold sendTok1 OW
  iintro ⟨#Hc, ⟨%W, HO⟩, ⟨Ht1, Ht2, Hw⟩, Hp, #Hg, Hsrc⟩ Hk
  ihave #Hi1 := (ctx_inv m K KS c (.send f (sl s))) $$ Hc
  ihave #Hi2 := (ctx_inv m K KS (dst c f) (.recv f (sl s))) $$ Hc
  ihave #His := (ctx_slot m K KS (dst c f, f, sl s)) $$ Hc
  ihave #Hr1 := (pos2_reached c (.send f) nW (sl s) (s / 2) hr) $$ Hp
  ihave #Hg1 := (show gr c f nG ⊢ (grant (dst c f) f s : sProp 𝕄) from bigSep_elim (Finset.mem_range.mpr hG)) $$ Hg
  unfold grant
  icases Hg1 with ⟨#Hrel, #Hr2⟩
  imod (slot_take (E := ES) (ι := KS (dst c f, f, sl s)) (S := cmSlot (F := F) (dst c f, f, sl s)) (Es := Set.univ) (Set.mem_univ _) (s / 2 + 1)) $$ [Hw] with Hslot
  · isplitr; · iexact His
    isplitr; · iexact Hrel
    iexact Hw
  unfold cmSlot slot
  icases Hslot with ⟨%fd, Hdst⟩
  unfold owns
  icases Hsrc with ⟨%fs, %hfs, Hsrc⟩
  iapply (Rounds.wp_send_pointsTo 𝒱₀ ER (Rd m) (c : Thread nD τ) none (κ₁ := K (c, .send f (sl s))) (κ₂ := K (dst c f, .recv f (sl s)))
    (sS := .dma (sendSem f (sl s))) (sem := .dma (recvSem f (sl s)))
    (r₁ := s / 2) (r₂ := s / 2) (d₁ := 0) (d₂ := 0) (fd := fd) (fs := fs) (q := fullShare.right)
    (mem_send m c f s hs) (mem_recv m (dst c f) f s hs)
    (ix N) 0 NS (NS_eq f (sl s)) (amount_send m c _ _ _ _) (amount_recv m (dst c f) _ _ _ _) (owedFrom c (N + 1))
    (owed_send c f s N hN hev) (W := W)
    (by
      refine (show _ ⊢ owns (c : Thread nD τ) srcM fullShare.right (sq (X m s c f)) from ?_).trans (hpay.trans (Entails.of_eq (pay_send m c f s 0).symm))
      unfold owns; iintro H; iexists fs; isplitr; · (ipureintro; exact hfs)
      iexact H)
    (by
      refine (show _ ⊢ recvPay m (dst c f) f (sl s) s from ?_).trans (Entails.of_eq (pay_recv m (dst c f) f s 0).symm)
      unfold recvPay owns; rw [src_dst]; iintro H; iexists _; isplitr
      rotate_left
      · iexact H
      · ipureintro; rw [View.read_write_univ]; exact hfs)) $$ [HO Ht1 Ht2 Hsrc Hdst]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  isplitl [Hp]; · iexact Hp
  iexact Hcr

end

end Cert.Ring
-- ==== Proof.Flow.lean ====
/- The steps of a flow: its transfers, its waits, its credits. -/
module

public import proofs.«01_k».proof.Proof.Rules

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

/-! ## What a slot's view reads, through the transfer's view and through a load's -/

theorem sq_inj {X Y : S1x1x256x1024.Idx → Elt F .bf16} (h : sq X = sq Y) : X = Y := by
  funext i
  have := congrFun h ((Shape.reshapeEquiv rankS.symm).symm i)
  unfold sq at this
  rwa [Equiv.apply_symm_apply] at this
theorem sb_read (f : Fin 4) (b : Fin 2) (g : sbA.view.ty.Contents (Elt F)) :
    (sbV f b).view.read (Elt F) g = sq ((sbA.access (slabR f b)).read (Elt F) g) := rfl
theorem cm_read (f : Fin 4) (b : Fin 2) (g : cmA.view.ty.Contents (Elt F)) :
    (cmV f b).view.read (Elt F) g = sq ((cmA.access (slabR f b)).read (Elt F) g) := rfl
theorem sb_set (f : Fin 4) (b : Fin 2) : (sbV f b).view.set = (sbA.access (slabR f b)).set := View.set_reshape _ _
theorem cm_set (f : Fin 4) (b : Fin 2) : (cmV f b).view.set = (cmA.access (slabR f b)).set := View.set_reshape _ _
theorem xb_set (d b : Fin 2) : (xbV d b).view.set = (xbA.access (xbR d b)).set := View.set_reshape _ _
theorem xb_read (d b : Fin 2) (g : xbA.view.ty.Contents (Elt F)) (y : S1x1x512x1024.Idx) :
    (xbA.access (xbR d b)).read (Elt F) g y = (xbV d b).view.read (Elt F) g ((Shape.reshapeEquiv rank4.symm).symm y) := by
  show _ = (xbA.access (xbR d b)).read (Elt F) g (Shape.reshapeEquiv _ ((Shape.reshapeEquiv rank4.symm).symm y))
  rw [Equiv.apply_symm_apply]

/-! ## The steps of a flow -/

section
variable (c : Dev nD) (K : Dev nD × Kd → ℕ) (KS : Key → ℕ)

theorem sbS_half (f : Fin 4) (b : Fin 2) (s : ℕ) : owns (c : Thread nD τ) (sbV f b) fullShare.left (sq (X m s c f)) ⊢ sbS m c f b (.half s) := .rfl
theorem cmS_half (f : Fin 4) (b : Fin 2) (s : ℕ) : owns (c : Thread nD τ) (cmV f b) fullShare.left (sq (X m s (src c f) f)) ⊢ cmS m c f b (.half s) := .rfl
theorem cmS_full (f : Fin 4) (b : Fin 2) (s : ℕ) : recvPay m c f b s ⊢ cmS m c f b (.full s) := .rfl
theorem sendCr_push (f : Fin 4) (a b : ℕ) (h : a ≤ b) :
    iprop(cred (tallyAt (cell c (.send f (sl b))) 0 NS) ∗ sendCr (F := F) c f a b) ⊢ sendCr (F := F) c f a (b + 1) := by
  unfold sendCr; exact Entails.of_eq (big_last h (fun s => cred (tallyAt (cell c (.send f (sl s))) 0 NS))).symm
/-- Transfer `s` of flow `f` may start: it is the next signal, its slot of the receive buffer was granted. -/
def okS (x : GS) (f : Fin 4) (s : ℕ) : Prop :=
  s < 14 ∧ x.n < 106 ∧ ev x.n = .send f s ∧ x.n ≠ 0 ∧ (x.fl f).nS = s ∧ (x.fl f).nW ≤ s ∧ rnd (sl s) (x.fl f).nW = s / 2 ∧ s < (x.fl f).nG
instance (x : GS) (f : Fin 4) (s : ℕ) : Decidable (okS x f s) := by unfold okS; infer_instance

def FS.sendA (z : FS) (s : ℕ) : FS := { z.setSb (sl s) (.half s) with nS := s + 1 }
def FS.sendB (z : FS) (s : ℕ) : FS := { z.setCm (sl s) (.half s) with nS := s + 2 }

theorem st_sendA (f : Fin 4) (s : ℕ) (n : Dev nD) (hn : n = dst c f) (x : GS) (hx : okS x f s ∧ s ≤ 7 ∧ (x.fl f).sb (sl s) = .full s)
    {hsc : (cmV f (sl s) : Memref sig (Dev.tc n : Thread nD τ).2.kind .vmem S256x1024 .bf16).view.ref.isScScratch = false}
    {hsrc : (sbV f (sl s)).view.WordExact} {hdst : (cmV f (sl s)).view.WordExact}
    {hsem : DmaTarget.Typed .vmem (.dma (recvSem f (sl s))) (.remote (Dev.tc n : Thread nD τ) (cmV f (sl s)) (.dma (sendSem f (sl s))) hsc)}
    {α : Type} {Q : α → sProp 𝕄} {k : PUnit → Prog (TpuEff nD τ sig (Elt F) Λ₀ .tc) α}
    (h : St m c K KS (x.putF f (x.n + 1) ((x.fl f).sendA s)) ⊢ run c (k ⟨⟩) Q) :
    St m c K KS x ⊢ run c (.op (.enqueueDma (sbV f (sl s)) (.remote (Dev.tc n : Thread nD τ) (cmV f (sl s)) (.dma (sendSem f (sl s))) hsc)
            (.dma (recvSem f (sl s))) hsrc hdst hsem) k) Q := by
  obtain ⟨⟨hs, hN, hev, hix, hnS, hle, hr, hG⟩, h7, hsb⟩ := hx
  refine step_fl m c K KS f x _ _ ?_ h
  generalize x.fl f = z at *
  generalize x.n = N at *
  unfold Fl
  rw [hnS]
  iintro ⟨#Hc, HO, ⟨Htok, Hscr, Hrcr, Hct, Hcc, Hps, Hpr, Hrd, Hsb, Hcm, Hcs, Hog, #Hg⟩, Hk⟩
  ihave Htok := (Entails.of_eq (show sendTok c f s = iprop(sendTok1 (F := F) c f s ∗ sendTok c f (s + 1)) from big_head (by omega) _)) $$ Htok
  icases Htok with ⟨Ht, Htok⟩
  ihave Hsb := (sb_acc m c f z (sl s) (.half s)) $$ Hsb
  icases Hsb with ⟨Hs, Hsb⟩
  rw [hsb]
  ihave Hs := (show sbS m c f (sl s) (.full s) ⊢ _ from (owns_halves (c : Thread nD τ) (sbV f (sl s)) fullShare (sq (X m s c f))).1) $$ Hs
  icases Hs with ⟨Hl, Hr⟩
  iapply (send_core m c K KS f s N n hn hs hN hev hix z.nW z.nG hr hG (sbV f (sl s))
    (by unfold sendPay; rw [if_pos h7]; exact .rfl)) $$ [HO Ht Hps Hr]
  · isplitr; · iexact Hc
    isplitl [HO]; · iexact HO
    isplitl [Ht]; · iexact Ht
    isplitl [Hps]; · iexact Hps
    isplitr; · iexact Hg
    iexact Hr
  iintro ⟨HO, Hps, Hcr⟩
  iapply Hk
  isplitl [HO]; · iexact HO
  isplitl [Htok]; · iexact Htok
  isplitl [Hscr Hcr]
  · iapply (sendCr_push c f z.nW s hle)
    isplitl [Hcr]; · iexact Hcr
    iexact Hscr
  isplitl [Hrcr]; · iexact Hrcr
  isplitl [Hct]; · iexact Hct
  isplitl [Hcc]; · iexact Hcc
  isplitl [Hps]; · iexact Hps
  isplitl [Hpr]; · iexact Hpr
  isplitl [Hrd]; · iexact Hrd
  isplitl [Hsb Hl]; · iapply Hsb; iapply (sbS_half m c f (sl s) s); iexact Hl
  isplitl [Hcm]; · iexact Hcm
  isplitl [Hcs]; · iexact Hcs
  isplitl [Hog]; · iexact Hog
  iexact Hg

/-- A transfer of what arrived, on to the next device: it leaves from the receive buffer's slot. -/
theorem st_sendB (f : Fin 4) (s : ℕ) (n : Dev nD) (hn : n = dst c f) (x : GS)
    (hx : okS x f (s + 1) ∧ 7 ≤ s ∧ (x.fl f).cm (sl s) = .full s)
    {hsc : (cmV f (sl (s + 1)) : Memref sig (Dev.tc n : Thread nD τ).2.kind .vmem S256x1024 .bf16).view.ref.isScScratch = false}
    {hsrc : (cmV f (sl s)).view.WordExact} {hdst : (cmV f (sl (s + 1))).view.WordExact}
    {hsem : DmaTarget.Typed .vmem (.dma (recvSem f (sl (s + 1)))) (.remote (Dev.tc n : Thread nD τ) (cmV f (sl (s + 1))) (.dma (sendSem f (sl (s + 1)))) hsc)}
    {α : Type} {Q : α → sProp 𝕄} {k : PUnit → Prog (TpuEff nD τ sig (Elt F) Λ₀ .tc) α}
    (h : St m c K KS (x.putF f (x.n + 1) ((x.fl f).sendB s)) ⊢ run c (k ⟨⟩) Q) :
    St m c K KS x ⊢ run c (.op (.enqueueDma (cmV f (sl s)) (.remote (Dev.tc n : Thread nD τ) (cmV f (sl (s + 1))) (.dma (sendSem f (sl (s + 1)))) hsc)
            (.dma (recvSem f (sl (s + 1)))) hsrc hdst hsem) k) Q := by
  obtain ⟨⟨hs, hN, hev, hix, hnS, hle, hr, hG⟩, h7, hcm⟩ := hx
  refine step_fl m c K KS f x _ _ ?_ h
  generalize x.fl f = z at *
  generalize x.n = N at *
  unfold Fl
  rw [hnS]
  iintro ⟨#Hc, HO, ⟨Htok, Hscr, Hrcr, Hct, Hcc, Hps, Hpr, Hrd, Hsb, Hcm, Hcs, Hog, #Hg⟩, Hk⟩
  ihave Htok := (Entails.of_eq (show sendTok c f (s + 1) = iprop(sendTok1 (F := F) c f (s + 1) ∗ sendTok c f (s + 2)) from big_head (by omega) _)) $$ Htok
  icases Htok with ⟨Ht, Htok⟩
  ihave Hcm := (cm_acc m c f z (sl s) (.half s)) $$ Hcm
  icases Hcm with ⟨Hs, Hcm⟩
  rw [hcm]
  ihave Hs := (show cmS m c f (sl s) (.full s) ⊢ _ from (owns_halves (c : Thread nD τ) (cmV f (sl s)) fullShare (sq (X m s (src c f) f))).1) $$ Hs
  icases Hs with ⟨Hl, Hr⟩
  iapply (send_core m c K KS f (s + 1) N n hn hs hN hev hix z.nW z.nG hr hG (cmV f (sl s))
    (by unfold sendPay; rw [if_neg (by omega), X_copy m s (by omega), sl_sl]; exact .rfl)) $$ [HO Ht Hps Hr]
  · isplitr; · iexact Hc
    isplitl [HO]; · iexact HO
    isplitl [Ht]; · iexact Ht
    isplitl [Hps]; · iexact Hps
    isplitr; · iexact Hg
    rw [X_copy m s (by omega)]
    iexact Hr
  iintro ⟨HO, Hps, Hcr⟩
  iapply Hk
  isplitl [HO]; · iexact HO
  isplitl [Htok]; · iexact Htok
  isplitl [Hscr Hcr]
  · iapply (sendCr_push c f z.nW (s + 1) hle)
    isplitl [Hcr]; · iexact Hcr
    iexact Hscr
  isplitl [Hrcr]; · iexact Hrcr
  isplitl [Hct]; · iexact Hct
  isplitl [Hcc]; · iexact Hcc
  isplitl [Hps]; · iexact Hps
  isplitl [Hpr]; · iexact Hpr
  isplitl [Hrd]; · iexact Hrd
  isplitl [Hsb]; · iexact Hsb
  isplitl [Hcm Hl]; · iapply Hcm; iapply (cmS_half m c f (sl s) s); iexact Hl
  isplitl [Hcs]; · iexact Hcs
  isplitl [Hog]; · iexact Hog
  iexact Hg

/-- A wait for the whole of a one-payment round whose credit is held: the payment comes out. -/
theorem wait_core (kd : Kd) (i N0 A r : ℕ) (hi : i < ix N0) (hi' : i < 106)
    (hd : (Rd m).duties (cell c kd) r = {0}) (he : (Rd m).expect (cell c kd) r = A)
    {w : TpuEff nD τ sig (Elt F) Λ₀ .tc PUnit} {α : Type} {Q : α → sProp 𝕄} {k : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ (csem kd) A K) :
    iprop(Ctx m K KS ∗ OW c N0 ∗ cred (tallyAt (cell c kd) i A) ∗ atPos ER (cell c kd) r ∅ 0)
      ⊢ iprop(((OW c N0 ∗ (atPos ER (cell c kd) (r + 1) ∅ 0 ∗ reached ER (cell c kd) (r + 1)) ∗ (Rd m).payload (cell c kd) r 0) -∗ run c (k ⟨⟩) Q)
        -∗ run c (.op w k) Q) := by
  unfold OW
  iintro ⟨#Hc, ⟨%W, HO⟩, Hcr, Hp⟩ Hk
  ihave #Hi := (ctx_inv m K KS c kd) $$ Hc
  ihave #Hl := (ctx_lev m K KS) $$ Hc
  iapply (Rounds.wp_wait_rest_token 𝒱₀ ER (Rd m) (c : Thread nD τ) none (κ := K (c, kd)) hw (Set.mem_univ _) i
    (O := owedFrom c N0) (W := W) (R := r) (m := 0) (T := ∅) ((Nat.zero_add _).trans he.symm)) $$ [HO Hcr Hp]
  · isplitr; · iexact Hi
    isplitl [Hcr]; · iexact Hcr
    isplitl [HO]; · iexact HO
    isplitr; · iapply (mayWait c N0 (csem kd) i hi hi'); iexact Hl
    iexact Hp
  rw [Finset.sdiff_empty, hd, bigSep_singleton]
  iintro ⟨HO, Hp, Hr, Hpay⟩
  iapply Hk
  isplitl [HO]; · iexists _; iexact HO
  isplitl [Hp Hr]
  · isplitl [Hp]; · iexact Hp
    iexact Hr
  iexact Hpay

end

end Cert.Ring
-- ==== Proof.Flow2.lean ====
/- The waits of a flow and its credits. -/
module

public import proofs.«01_k».proof.Proof.Flow

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

section
variable (c : Dev nD) (K : Dev nD × Kd → ℕ) (KS : Key → ℕ)

/-! ## Shares put together again -/

theorem sb_join (f : Fin 4) (b : Fin 2) (s : ℕ) : iprop(sbS m c f b (.half s) ∗ sendPayA m c f b s) ⊢ sbS m c f b .any := by
  unfold sendPayA
  exact (show _ ⊢ _ from (owns_halves (c : Thread nD τ) (sbV f b) fullShare (sq (X m s c f))).2).trans (owns_slot c (sbV f b) _)
theorem cm_join (f : Fin 4) (b : Fin 2) (s : ℕ) : iprop(cmS m c f b (.half s) ∗ sendPayB m c f b s) ⊢ cmS m c f b .any := by
  unfold sendPayB
  exact (show _ ⊢ _ from (owns_halves (c : Thread nD τ) (cmV f b) fullShare (sq (X m s (src c f) f))).2).trans (owns_slot c (cmV f b) _)

/-- A slot wholly at hand. -/
def Cont.whole : Cont → Bool
  | .any => true
  | .full _ => true
  | _ => false
theorem cm_whole (f : Fin 4) (b : Fin 2) (v : Cont) (h : v.whole = true) : cmS m c f b v ⊢ cmSlot (F := F) (c, f, b) := by
  match v, h with
  | .any, _ => exact .rfl
  | .full s, _ => exact owns_slot c (cmV f b) _
theorem cm_nonempty (f : Fin 4) (b : Fin 2) : (cmV f b).view.set.Nonempty :=
  ⟨_, View.emb_mem_set (v := (cmV f b).view) (fun a => ⟨0, by revert a; decide⟩)⟩

/-! ## Waits -/

def okW (x : GS) (f : Fin 4) (s : ℕ) : Prop := s < 14 ∧ (x.fl f).nW = s ∧ s < (x.fl f).nS
instance (x : GS) (f : Fin 4) (s : ℕ) : Decidable (okW x f s) := by unfold okW; infer_instance
def FS.waitA (z : FS) (s : ℕ) : FS := { z.setSb (sl s) .any with nW := s + 1 }
def FS.waitB (z : FS) (s : ℕ) : FS := { z.setCm (sl s) .any with nW := s + 2 }
theorem ix_pos (n : ℕ) : 0 < ix n := by unfold ix; omega

/-- The wait for the source of transfer `s`: the half that travelled comes back. -/
theorem st_waitA (f : Fin 4) (s : ℕ) (x : GS) (hx : okW x f s ∧ s ≤ 7 ∧ (x.fl f).sb (sl s) = .half s)
    {srcM : Memref sig .tc .vmem S256x1024 .bf16} {hsrc : srcM.view.WordExact} {hdst : (sbV f (sl s)).view.WordExact}
    {α : Type} {Q : α → sProp 𝕄} {k : PUnit → Prog (TpuEff nD τ sig (Elt F) Λ₀ .tc) α}
    (h : St m c K KS (x.putF f x.n ((x.fl f).waitA s)) ⊢ run c (k ⟨⟩) Q) :
    St m c K KS x ⊢ run c (.op (.waitDma2 (sendSem f (sl s)) srcM (sbV f (sl s)) hsrc hdst) k) Q := by
  obtain ⟨⟨hs, hnW, hlt⟩, h7, hsb⟩ := hx
  refine step_fl m c K KS f x _ _ ?_ h
  generalize x.fl f = z at *
  generalize x.n = N at *
  unfold Fl
  rw [hnW]
  iintro ⟨#Hc, HO, ⟨Htok, Hscr, Hrcr, Hct, Hcc, Hps, Hpr, Hrd, Hsb, Hcm, Hcs, Hog, #Hg⟩, Hk⟩
  ihave Hscr := (Entails.of_eq (show sendCr (F := F) c f s z.nS = iprop(cred (tallyAt (cell c (.send f (sl s))) 0 NS) ∗ sendCr c f (s + 1) z.nS) from big_head hlt _)) $$ Hscr
  icases Hscr with ⟨Hcr, Hscr⟩
  ihave Hps := (pos2_step c (.send f) s) $$ Hps
  icases Hps with ⟨Hp, Hps⟩
  ihave Hsb := (sb_acc m c f z (sl s) .any) $$ Hsb
  icases Hsb with ⟨Hs, Hsb⟩
  rw [hsb]
  iapply (wait_core m c K KS (.send f (sl s)) 0 N NS (s / 2) (ix_pos N) (by decide) (dut_send m c f s hs) (exp_send m c f s hs)
    (w := .waitDma2 (sendSem f (sl s)) srcM (sbV f (sl s)) hsrc hdst)
    (fun K => by rw [← NS_eq' f (sl s)]; exact wpE_waitDma2_eq 𝒱₀ (c : Thread nD τ) none Set.univ K)) $$ [HO Hcr Hp]
  · isplitr; · iexact Hc
    isplitl [HO]; · iexact HO
    isplitl [Hcr]; · iexact Hcr
    iexact Hp
  iintro ⟨HO, Hp, Hpay⟩
  iapply Hk
  isplitl [HO]; · iexact HO
  isplitl [Htok]; · iexact Htok
  isplitl [Hscr]; · iexact Hscr
  isplitl [Hrcr]; · iexact Hrcr
  isplitl [Hct]; · iexact Hct
  isplitl [Hcc]; · iexact Hcc
  isplitl [Hps Hp]; · iapply Hps; iexact Hp
  isplitl [Hpr]; · iexact Hpr
  isplitl [Hrd]; · iexact Hrd
  isplitl [Hsb Hs Hpay]
  · iapply Hsb; iapply (sb_join m c f (sl s) s); isplitl [Hs]; · iexact Hs
    iapply (Entails.of_eq ((pay_send m c f s 0).trans (show sendPay m c f (sl s) s = sendPayA m c f (sl s) s from if_pos h7))); iexact Hpay
  isplitl [Hcm]; · iexact Hcm
  isplitl [Hcs]; · iexact Hcs
  isplitl [Hog]; · iexact Hog
  iexact Hg

theorem st_waitB (f : Fin 4) (s : ℕ) (x : GS) (hx : okW x f (s + 1) ∧ 7 ≤ s ∧ (x.fl f).cm (sl s) = .half s)
    {srcM : Memref sig .tc .vmem S256x1024 .bf16} {hsrc : srcM.view.WordExact} {hdst : (cmV f (sl s)).view.WordExact}
    {α : Type} {Q : α → sProp 𝕄} {k : PUnit → Prog (TpuEff nD τ sig (Elt F) Λ₀ .tc) α}
    (h : St m c K KS (x.putF f x.n ((x.fl f).waitB s)) ⊢ run c (k ⟨⟩) Q) :
    St m c K KS x ⊢ run c (.op (.waitDma2 (sendSem f (sl (s + 1))) srcM (cmV f (sl s)) hsrc hdst) k) Q := by
  obtain ⟨⟨hs, hnW, hlt⟩, h7, hcm⟩ := hx
  refine step_fl m c K KS f x _ _ ?_ h
  generalize x.fl f = z at *
  generalize x.n = N at *
  unfold Fl
  rw [hnW]
  iintro ⟨#Hc, HO, ⟨Htok, Hscr, Hrcr, Hct, Hcc, Hps, Hpr, Hrd, Hsb, Hcm, Hcs, Hog, #Hg⟩, Hk⟩
  ihave Hscr := (Entails.of_eq (show sendCr (F := F) c f (s + 1) z.nS = iprop(cred (tallyAt (cell c (.send f (sl (s + 1)))) 0 NS) ∗ sendCr c f (s + 2) z.nS) from big_head hlt _)) $$ Hscr
  icases Hscr with ⟨Hcr, Hscr⟩
  ihave Hps := (pos2_step c (.send f) (s + 1)) $$ Hps
  icases Hps with ⟨Hp, Hps⟩
  ihave Hcm := (cm_acc m c f z (sl s) .any) $$ Hcm
  icases Hcm with ⟨Hs, Hcm⟩
  rw [hcm]
  iapply (wait_core m c K KS (.send f (sl (s + 1))) 0 N NS ((s + 1) / 2) (ix_pos N) (by decide) (dut_send m c f (s + 1) hs) (exp_send m c f (s + 1) hs)
    (w := .waitDma2 (sendSem f (sl (s + 1))) srcM (cmV f (sl s)) hsrc hdst)
    (fun K => by rw [← NS_eq' f (sl (s + 1))]; exact wpE_waitDma2_eq 𝒱₀ (c : Thread nD τ) none Set.univ K)) $$ [HO Hcr Hp]
  · isplitr; · iexact Hc
    isplitl [HO]; · iexact HO
    isplitl [Hcr]; · iexact Hcr
    iexact Hp
  iintro ⟨HO, Hp, Hpay⟩
  iapply Hk
  isplitl [HO]; · iexact HO
  isplitl [Htok]; · iexact Htok
  isplitl [Hscr]; · iexact Hscr
  isplitl [Hrcr]; · iexact Hrcr
  isplitl [Hct]; · iexact Hct
  isplitl [Hcc]; · iexact Hcc
  isplitl [Hps Hp]; · iapply Hps; iexact Hp
  isplitl [Hpr]; · iexact Hpr
  isplitl [Hrd]; · iexact Hrd
  isplitl [Hsb]; · iexact Hsb
  isplitl [Hcm Hs Hpay]
  · iapply Hcm; iapply (cm_join m c f (sl s) s); isplitl [Hs]; · iexact Hs
    iapply (Entails.of_eq ((pay_send m c f (s + 1) 0).trans (show sendPay m c f (sl (s + 1)) (s + 1) = sendPayB m c f (sl s) s by
      unfold sendPay; rw [if_neg (by omega), sl_sl]; rfl))); iexact Hpay
  isplitl [Hcs]; · iexact Hcs
  isplitl [Hog]; · iexact Hog
  iexact Hg

def okR (x : GS) (f : Fin 4) (s : ℕ) : Prop :=
  s < 14 ∧ (x.fl f).nR = s ∧ ixS f s < ix x.n ∧ ixS f s < 106
instance (x : GS) (f : Fin 4) (s : ℕ) : Decidable (okR x f s) := by unfold okR; infer_instance
def FS.recv (z : FS) (s : ℕ) : FS := { z.setCm (sl s) (.full s) with nR := s + 1 }

/-- The wait for the arrival of transfer `s`. -/
theorem st_recv (f : Fin 4) (s : ℕ) (x : GS) (hx : okR x f s)
    {srcM : Memref sig .tc .vmem S256x1024 .bf16} {hsrc : srcM.view.WordExact} {hdst : (cmV f (sl s)).view.WordExact}
    {α : Type} {Q : α → sProp 𝕄} {k : PUnit → Prog (TpuEff nD τ sig (Elt F) Λ₀ .tc) α}
    (h : St m c K KS (x.putF f x.n ((x.fl f).recv s)) ⊢ run c (k ⟨⟩) Q) :
    St m c K KS x ⊢ run c (.op (.waitDma2 (recvSem f (sl s)) srcM (cmV f (sl s)) hsrc hdst) k) Q := by
  obtain ⟨hs, hnR, hi, hi'⟩ := hx
  refine step_fl m c K KS f x _ _ ?_ h
  generalize x.fl f = z at *
  generalize x.n = N at *
  unfold Fl
  rw [hnR]
  iintro ⟨#Hc, HO, ⟨Htok, Hscr, Hrcr, Hct, Hcc, Hps, Hpr, Hrd, Hsb, Hcm, Hcs, Hog, #Hg⟩, Hk⟩
  ihave Hrcr := (Entails.of_eq (show recvCr (F := F) c f s = iprop(cred (tallyAt (cell c (.recv f (sl s))) (ixS f s) NS) ∗ recvCr c f (s + 1)) from big_head hs _)) $$ Hrcr
  icases Hrcr with ⟨Hcr, Hrcr⟩
  ihave Hpr := (pos2_step c (.recv f) s) $$ Hpr
  icases Hpr with ⟨Hp, Hpr⟩
  ihave Hcm := (cm_acc m c f z (sl s) (.full s)) $$ Hcm
  icases Hcm with ⟨-, Hcm⟩
  iapply (wait_core m c K KS (.recv f (sl s)) (ixS f s) N NS (s / 2) hi hi' (dut_recv m c f s hs) (exp_recv m c f s hs)
    (w := .waitDma2 (recvSem f (sl s)) srcM (cmV f (sl s)) hsrc hdst)
    (fun K => by rw [← NS_eq f (sl s)]; exact wpE_waitDma2_eq 𝒱₀ (c : Thread nD τ) none Set.univ K)) $$ [HO Hcr Hp]
  · isplitr; · iexact Hc
    isplitl [HO]; · iexact HO
    isplitl [Hcr]; · iexact Hcr
    iexact Hp
  iintro ⟨HO, Hp, Hpay⟩
  iapply Hk
  isplitl [HO]; · iexact HO
  isplitl [Htok]; · iexact Htok
  isplitl [Hscr]; · iexact Hscr
  isplitl [Hrcr]; · iexact Hrcr
  isplitl [Hct]; · iexact Hct
  isplitl [Hcc]; · iexact Hcc
  isplitl [Hps]; · iexact Hps
  isplitl [Hpr Hp]; · iapply Hpr; iexact Hp
  isplitl [Hrd]; · iexact Hrd
  isplitl [Hsb]; · iexact Hsb
  isplitl [Hcm Hpay]
  · iapply Hcm; iapply (cmS_full m c f (sl s) s); iapply (Entails.of_eq (pay_recv m c f s 0)); iexact Hpay
  isplitl [Hcs]; · iexact Hcs
  isplitl [Hog]; · iexact Hog
  iexact Hg

/-! ## Credits -/

def okC (x : GS) (f : Fin 4) (d : ℕ) : Prop :=
  d < 12 ∧ x.n < 106 ∧ ev x.n = .cred f d ∧ (x.fl f).nC = d ∧ ((x.fl f).cm (sl d)).whole = true ∧ rnd (sl d) (x.fl f).nR = d / 2 + 1
instance (x : GS) (f : Fin 4) (d : ℕ) : Decidable (okC x f d) := by unfold okC; infer_instance
def FS.credit (z : FS) (d : ℕ) : FS := { z.setCm (sl d) .away with nC := d + 1 }

/-- Giving a slot of the receive buffer back to the device that fills it. -/
theorem st_credit (f : Fin 4) (d : ℕ) (e : Dev nD) (he : e = src c f) (n : ℤ) (hn : n = ((1 : ℕ) : ℤ)) (x : GS) (hx : okC x f d)
    {α : Type} {Q : α → sProp 𝕄} {k : PUnit → Prog (TpuEff nD τ sig (Elt F) Λ₀ .tc) α}
    (h : St m c K KS (x.putF f (x.n + 1) ((x.fl f).credit d)) ⊢ run c (k ⟨⟩) Q) :
    St m c K KS x ⊢ run c (.op (.semSignal ((e, .tc) : Thread nD τ) (credSem f) n) k) Q := by
  subst he hn
  obtain ⟨hd, hN, hev, hnC, hw, hr⟩ := hx
  refine step_fl m c K KS f x _ _ ?_ h
  generalize x.fl f = z at *
  generalize x.n = N at *
  unfold Fl OW
  rw [hnC]
  iintro ⟨#Hc, ⟨%W, HO⟩, ⟨Htok, Hscr, Hrcr, Hct, Hcc, Hps, Hpr, Hrd, Hsb, Hcm, Hcs, #Hog, #Hg⟩, Hk⟩
  ihave Hct := (Entails.of_eq (show credTok (F := F) c f d = iprop(dutyTok ER (cell (src c f) (.cred f)) 0 d ∗ credTok c f (d + 1)) from big_head hd _)) $$ Hct
  icases Hct with ⟨Ht, Hct⟩
  ihave Hrd := (rdr_step c f d) $$ Hrd
  icases Hrd with ⟨Hr, Hrd⟩
  ihave Hcm := (cm_acc m c f z (sl d) .away) $$ Hcm
  icases Hcm with ⟨Hs, Hcm⟩
  ihave Hs := (cm_whole m c f (sl d) _ hw) $$ Hs
  ihave #Hrr := (pos2_reached c (.recv f) z.nR (sl d) (d / 2 + 1) hr) $$ Hpr
  ihave #His := (ctx_slot m K KS (c, f, sl d)) $$ Hc
  ihave #Hi := (ctx_inv m K KS (src c f) (.cred f)) $$ Hc
  ihave #H0 := (ctx_reached m K KS (src c f) (.cred f)) $$ Hc
  imod (slot_release (E := ES) (ι := KS (c, f, sl d)) (S := cmSlot (F := F) (c, f, sl d)) (Es := Set.univ) (Set.mem_univ _)
    (slot_slot_false (cm_nonempty f (sl d))) (d / 2 + 1)) $$ [Hr Hs] with ⟨Hr, #Hrel⟩
  · isplitr; · iexact His
    isplitl [Hr]; · iexact Hr
    iexact Hs
  ihave #Hgr := (show iprop(released ES ((c, f, sl d) : Key) (d / 2 + 1 + 1) ∗ reached ER (cell c (.recv f (sl d))) (d / 2 + 1)) ⊢ (grant c f (d + 2) : sProp 𝕄) by
    unfold grant; rw [sl_two, Nat.add_div_right d (by decide : 0 < 2)]) $$ []
  · isplitr; · iexact Hrel
    iexact Hrr
  ihave #Hog' := (show iprop(grant c f (d + 2) ∗ ownGr c f d) ⊢ (ownGr (F := F) c f (d + 1) : sProp 𝕄) from by
    unfold ownGr; exact Entails.of_eq (big_range d (fun d => grant c f (d + 2))).symm) $$ []
  · isplitr; · iexact Hgr
    iexact Hog
  iapply (Rounds.wp_signal 𝒱₀ ER (Rd m) (c : Thread nD τ) none (dst := (src c f : Thread nD τ)) (κ := K (src c f, .cred f)) (d := d) (r := 0)
    (show d ∈ (Rd m).duties (cell (src c f) (.cred f)) 0 by rw [dut_cred]; exact Finset.mem_range.mpr hd)
    ((amount_eq m (src c f) (.cred f) 0 d).trans (amtK_cred f)) (ix N) (owedFrom c (N + 1)) (owed_cred c f d N hN hev) (W := W)) $$ [HO Ht]
  · isplitr; · iexact Hi
    isplitl [HO]; · iexact HO
    isplitl [Ht]; · iexact Ht
    isplitr
    · iapply (show ownGr (F := F) c f (d + 1) ⊢ (Rd m).payload ((src c f : Thread nD τ), .reg (credSem f)) 0 d from
        (show ownGr (F := F) c f (d + 1) ⊢ credPay (src c f) f d by unfold credPay ownGr; rw [dst_src]).trans
          (Entails.of_eq (payload_eq m (src c f) (.cred f) 0 d).symm))
      iexact Hog'
    iexact H0
  iintro HO
  iapply Hk
  isplitl [HO]; · iexists W; iexact HO
  isplitl [Htok]; · iexact Htok
  isplitl [Hscr]; · iexact Hscr
  isplitl [Hrcr]; · iexact Hrcr
  isplitl [Hct]; · iexact Hct
  isplitl [Hcc]; · iexact Hcc
  isplitl [Hps]; · iexact Hps
  isplitl [Hpr]; · iexact Hpr
  isplitl [Hrd Hr]; · iapply Hrd; iexact Hr
  isplitl [Hsb]; · iexact Hsb
  isplitl [Hcm]; · iapply Hcm; unfold cmS; iempintro
  isplitl [Hcs]; · iexact Hcs
  isplitr; · iexact Hog'
  iexact Hg

def okK (x : GS) (f : Fin 4) (j : ℕ) : Prop :=
  j < 12 ∧ (x.fl f).nK = j ∧ (x.fl f).nG = j + 2 ∧ ixC f j < ix x.n ∧ ixC f j < 106
instance (x : GS) (f : Fin 4) (d : ℕ) : Decidable (okK x f d) := by unfold okK; infer_instance
def FS.take (z : FS) (j : ℕ) : FS := { z with nK := j + 1, nG := j + 3 }

/-- Taking one unit of credit: the slot for transfer `j + 2` has been granted. -/
theorem st_take (f : Fin 4) (j : ℕ) (n : ℤ) (hn : n = ((1 : ℕ) : ℤ)) (x : GS) (hx : okK x f j)
    {α : Type} {Q : α → sProp 𝕄} {k : PUnit → Prog (TpuEff nD τ sig (Elt F) Λ₀ .tc) α}
    (h : St m c K KS (x.putF f x.n ((x.fl f).take j)) ⊢ run c (k ⟨⟩) Q) :
    St m c K KS x ⊢ run c (.op (.semWait (credSem f) n) k) Q := by
  subst hn
  obtain ⟨hj, hnK, hnG, hi, hi'⟩ := hx
  refine step_fl m c K KS f x _ _ ?_ h
  generalize x.fl f = z at *
  generalize x.n = N at *
  unfold Fl OW
  rw [hnK, hnG]
  iintro ⟨#Hc, ⟨%W, HO⟩, ⟨Htok, Hscr, Hrcr, Hct, Hcc, Hps, Hpr, Hrd, Hsb, Hcm, Hcs, Hog, #Hg⟩, Hk⟩
  ihave Hcc := (Entails.of_eq (show credCr (F := F) c f j = iprop(cred (tallyAt (cell c (.cred f)) (ixC f j) 1) ∗ credCr c f (j + 1)) from big_head hj _)) $$ Hcc
  icases Hcc with ⟨Hcr, Hcc⟩
  unfold credSt
  icases Hcs with ⟨%T, %hT, Hp, #HT⟩
  ihave #Hi := (ctx_inv m K KS c (.cred f)) $$ Hc
  ihave #Hl := (ctx_lev m K KS) $$ Hc
  iapply (Rounds.wp_wait 𝒱₀ ER (Rd m) (c : Thread nD τ) none (sm := csem (.cred f)) (k' := 1) (κ := K (c, .cred f))
    (wpE_semWait_eq 𝒱₀ (c : Thread nD τ) none Set.univ) (Set.mem_univ _) (cr := Finsupp.single (ixC f j) 1) (O := owedFrom c N) (W := W)
    {(csem (.cred f), ixC f j)} (R := 0) (m := j) (T := T) (Util.total_single _ _) (image_single_subset _ _ _)) $$ [HO Hcr Hp]
  · isplitr; · iexact Hi
    isplitl [Hcr]; · iexact Hcr
    isplitl [HO]; · iexact HO
    isplitr; · iapply (mayWait c N (csem (.cred f)) (ixC f j) hi hi'); iexact Hl
    iexact Hp
  iintro %S ⟨%hS, HO, Hp, Hpay⟩
  obtain ⟨hS1, hS2, hS3⟩ := hS
  rw [show (Rd m).duties (cell c (.cred f)) 0 = Finset.range 12 from dut_cred m c f] at hS2 hS3
  rw [show (Rd m).expect (cell c (.cred f)) 0 = 12 from exp_cred m c f] at hS3
  have hcard : j + 1 ≤ S.card := by
    have h1 := Finset.card_sdiff_add_card_eq_card hS2
    rw [Finset.card_range] at h1; omega
  obtain ⟨d, hdS, hjd⟩ : ∃ d ∈ S, j ≤ d := by
    by_contra hne
    have : S ⊆ Finset.range j := fun d hd => Finset.mem_range.mpr (by
      by_contra hge; exact hne ⟨d, hd, by omega⟩)
    have := Finset.card_le_card this
    rw [Finset.card_range] at this; omega
  ihave #Hpay := (show bigSep (S \ T) (fun d => (Rd m).payload (cell c (.cred f)) 0 d) ⊢ (bigSep (S \ T) (fun d => credPay (F := F) c f d) : sProp 𝕄) from
    Entails.of_eq (bigSep_congr fun d _ => payload_eq m c (.cred f) 0 d)) $$ Hpay
  ihave #HS := (show iprop(bigSep T (fun d => credPay (F := F) c f d) ∗ bigSep (S \ T) (fun d => credPay (F := F) c f d)) ⊢ (bigSep S (fun d => credPay (F := F) c f d) : sProp 𝕄) from
    Entails.of_eq (bigSep_sdiff_split hS1).symm) $$ []
  · isplitr; · iexact HT
    iexact Hpay
  ihave #Hd := (show bigSep S (fun d => credPay (F := F) c f d) ⊢ (grant (dst c f) f (j + 2) : sProp 𝕄) from
    (show _ ⊢ credPay (F := F) c f d from bigSep_elim hdS).trans (by
      unfold credPay; exact bigSep_elim (Φ := fun d' => grant (dst c f) f (d' + 2)) (Finset.mem_range.mpr (by omega)))) $$ HS
  iapply Hk
  isplitl [HO]; · iexists _; iexact HO
  isplitl [Htok]; · iexact Htok
  isplitl [Hscr]; · iexact Hscr
  isplitl [Hrcr]; · iexact Hrcr
  isplitl [Hct]; · iexact Hct
  isplitl [Hcc]; · iexact Hcc
  isplitl [Hps]; · iexact Hps
  isplitl [Hpr]; · iexact Hpr
  isplitl [Hrd]; · iexact Hrd
  isplitl [Hsb]; · iexact Hsb
  isplitl [Hcm]; · iexact Hcm
  isplitl [Hp]
  · iexists S; isplitr
    · ipureintro; exact ⟨hS2, hcard⟩
    isplitl [Hp]; · iexact Hp
    iexact HS
  isplitl [Hog]; · iexact Hog
  iapply (show iprop(grant (dst c f) f (j + 2) ∗ gr c f (j + 2)) ⊢ (gr (F := F) c f (j + 3) : sProp 𝕄) from by
    unfold gr; exact Entails.of_eq (big_range (j + 2) (fun s => grant (dst c f) f s)).symm)
  isplitr; · iexact Hd
  iexact Hg

end

end Cert.Ring
-- ==== Proof.Memo.lean ====
/- The loads and stores of the kernel, and its copies from the argument. -/
module

public import proofs.«01_k».proof.Proof.Flow2
public import Idealize.ShloMosaic.Lib.ViewIndex

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

section
variable (c : Dev nD) (K : Dev nD × Kd → ℕ) (KS : Key → ℕ)

theorem put_sb (x : GS) (f : Fin 4) (b : Fin 2) (u : Cont) (hu : (x.fl f).sb b = u) : x.putF f x.n ((x.fl f).setSb b u) = x := by
  subst hu; match f, b with
  | 0, 0 => rfl | 0, 1 => rfl | 1, 0 => rfl | 1, 1 => rfl | 2, 0 => rfl | 2, 1 => rfl | 3, 0 => rfl | 3, 1 => rfl
theorem put_cm (x : GS) (f : Fin 4) (b : Fin 2) (u : Cont) (hu : (x.fl f).cm b = u) : x.putF f x.n ((x.fl f).setCm b u) = x := by
  subst hu; match f, b with
  | 0, 0 => rfl | 0, 1 => rfl | 1, 0 => rfl | 1, 1 => rfl | 2, 0 => rfl | 2, 1 => rfl | 3, 0 => rfl | 3, 1 => rfl
theorem put_xb (x : GS) (d : Fin 2) (b : Fin 2) (u : Cont) (hu : (x.di d).xb b = u) : x.putD d ((x.di d).setXb b u) = x := by
  subst hu; match d, b with
  | 0, 0 => rfl | 0, 1 => rfl | 1, 0 => rfl | 1, 1 => rfl
theorem put_pt (x : GS) (d : Fin 2) (u : Cont) (hu : (x.di d).pt = u) : x.putD d { x.di d with pt := u } = x := by
  subst hu; match d with
  | 0 => rfl | 1 => rfl

theorem step_sb (f : Fin 4) (b : Fin 2) (u v : Cont) (x : GS) (hu : (x.fl f).sb b = u) {A B : sProp 𝕄}
    (hl : iprop(sbS m c f b u ∗ (sbS m c f b v -∗ A)) ⊢ B)
    (h : St m c K KS (x.putF f x.n ((x.fl f).setSb b v)) ⊢ A) : St m c K KS x ⊢ B := by
  subst hu
  refine step_fl m c K KS f x _ _ ((show _ ⊢ _ from ?_ : iprop(_ ∗ _ ∗ _ ∗ _) ⊢ _).trans hl) h
  unfold Fl
  iintro ⟨#Hc, HO, ⟨Htok, Hscr, Hrcr, Hct, Hcc, Hps, Hpr, Hrd, Hsb, Hcm, Hcs, Hog, Hg⟩, Hk⟩
  ihave Hsb := (sb_acc m c f (x.fl f) b v) $$ Hsb
  icases Hsb with ⟨Hs, Hsb⟩
  isplitl [Hs]; · iexact Hs
  iintro Hs
  iapply Hk
  isplitl [HO]; · iexact HO
  isplitl [Htok]; · iexact Htok
  isplitl [Hscr]; · iexact Hscr
  isplitl [Hrcr]; · iexact Hrcr
  isplitl [Hct]; · iexact Hct
  isplitl [Hcc]; · iexact Hcc
  isplitl [Hps]; · iexact Hps
  isplitl [Hpr]; · iexact Hpr
  isplitl [Hrd]; · iexact Hrd
  isplitl [Hsb Hs]; · iapply Hsb; iexact Hs
  isplitl [Hcm]; · iexact Hcm
  isplitl [Hcs]; · iexact Hcs
  isplitl [Hog]; · iexact Hog
  iexact Hg
theorem step_cm (f : Fin 4) (b : Fin 2) (u v : Cont) (x : GS) (hu : (x.fl f).cm b = u) {A B : sProp 𝕄}
    (hl : iprop(cmS m c f b u ∗ (cmS m c f b v -∗ A)) ⊢ B)
    (h : St m c K KS (x.putF f x.n ((x.fl f).setCm b v)) ⊢ A) : St m c K KS x ⊢ B := by
  subst hu
  refine step_fl m c K KS f x _ _ ((show _ ⊢ _ from ?_ : iprop(_ ∗ _ ∗ _ ∗ _) ⊢ _).trans hl) h
  unfold Fl
  iintro ⟨#Hc, HO, ⟨Htok, Hscr, Hrcr, Hct, Hcc, Hps, Hpr, Hrd, Hsb, Hcm, Hcs, Hog, Hg⟩, Hk⟩
  ihave Hcm := (cm_acc m c f (x.fl f) b v) $$ Hcm
  icases Hcm with ⟨Hs, Hcm⟩
  isplitl [Hs]; · iexact Hs
  iintro Hs
  iapply Hk
  isplitl [HO]; · iexact HO
  isplitl [Htok]; · iexact Htok
  isplitl [Hscr]; · iexact Hscr
  isplitl [Hrcr]; · iexact Hrcr
  isplitl [Hct]; · iexact Hct
  isplitl [Hcc]; · iexact Hcc
  isplitl [Hps]; · iexact Hps
  isplitl [Hpr]; · iexact Hpr
  isplitl [Hrd]; · iexact Hrd
  isplitl [Hsb]; · iexact Hsb
  isplitl [Hcm Hs]; · iapply Hcm; iexact Hs
  isplitl [Hcs]; · iexact Hcs
  isplitl [Hog]; · iexact Hog
  iexact Hg
theorem step_xb (d b : Fin 2) (u v : Cont) (x : GS) (hu : (x.di d).xb b = u) {A B : sProp 𝕄}
    (hl : iprop(xbS m c d b u ∗ (xbS m c d b v -∗ A)) ⊢ B)
    (h : St m c K KS (x.putD d ((x.di d).setXb b v)) ⊢ A) : St m c K KS x ⊢ B := by
  subst hu
  refine step_dd m c K KS d x _ ((show _ ⊢ _ from ?_ : iprop(_ ∗ _ ∗ _ ∗ _) ⊢ _).trans hl) h
  unfold DD
  iintro ⟨#Hc, HO, ⟨Ht, Hcr, Hp, Hxb, Hpt⟩, Hk⟩
  ihave Hxb := (xb_acc m c d (x.di d) b v) $$ Hxb
  icases Hxb with ⟨Hs, Hxb⟩
  isplitl [Hs]; · iexact Hs
  iintro Hs
  iapply Hk
  isplitl [HO]; · iexact HO
  isplitl [Ht]; · iexact Ht
  isplitl [Hcr]; · iexact Hcr
  isplitl [Hp]; · iexact Hp
  isplitl [Hxb Hs]; · iapply Hxb; iexact Hs
  iexact Hpt
theorem step_pt (d : Fin 2) (u v : Cont) (x : GS) (hu : (x.di d).pt = u) {A B : sProp 𝕄}
    (hl : iprop(ptS m c d u ∗ (ptS m c d v -∗ A)) ⊢ B)
    (h : St m c K KS (x.putD d { x.di d with pt := v }) ⊢ A) : St m c K KS x ⊢ B := by
  subst hu
  refine step_dd m c K KS d x _ ((show _ ⊢ _ from ?_ : iprop(_ ∗ _ ∗ _ ∗ _) ⊢ _).trans hl) h
  unfold DD
  iintro ⟨#Hc, HO, ⟨Ht, Hcr, Hp, Hxb, Hpt⟩, Hk⟩
  isplitl [Hpt]; · iexact Hpt
  iintro Hs
  iapply Hk
  isplitl [HO]; · iexact HO
  isplitl [Ht]; · iexact Ht
  isplitl [Hcr]; · iexact Hcr
  isplitl [Hp]; · iexact Hp
  isplitl [Hxb]; · iexact Hxb
  iexact Hs

/-! ## The slots of the send and receive buffers -/

/-- Writing contents number `s` into a free slot. -/
theorem st_put (f : Fin 4) (s : ℕ) (x : GS) (hx : (x.fl f).sb (sl s) = .any)
    {w : (slabR f (sl s)).shape.Idx → Elt F .bf16} (hw : w = X m s c f) {hs1 hs2} {α : Type} {Q : α → sProp 𝕄} {k : PUnit → Prog (TpuEff nD τ sig (Elt F) Λ₀ .tc) α}
    (h : St m c K KS (x.putF f x.n ((x.fl f).setSb (sl s) (.full s))) ⊢ run c (k ⟨⟩) Q) :
    St m c K KS x ⊢ run c (.op (.store sbA (slabR f (sl s)) w Finset.univ hs1 hs2) k) Q := by
  subst hw
  refine step_sb m c K KS f (sl s) .any (.full s) x hx ?_ h
  unfold sbS slot
  iintro ⟨⟨%g, H⟩, Hk⟩
  iapply (wp_store 𝒱₀ (c : Thread nD τ) none Set.univ (m := sbA) (r := slabR f (sl s)) (Mk := Finset.univ)
    (show (sbA.access (slabR f (sl s))).setOn Finset.univ ⊆ (sbV f (sl s)).view.set by rw [View.setOn_univ, sb_set])) $$ H
  iintro H
  iapply Hk
  unfold owns
  iexists ((sbA.access (slabR f (sl s))).write (Elt F) g (X m s c f) Finset.univ)
  isplitr; · ipureintro; rw [sb_read, View.read_write_univ]
  iexact H

theorem st_ldsb (f : Fin 4) (b : Fin 2) (s : ℕ) (x : GS) (hx : (x.fl f).sb b = .half s) {hl} {α : Type} {Q : α → sProp 𝕄} {k : ((slabR f b).shape.Idx → Elt F .bf16) → Prog (TpuEff nD τ sig (Elt F) Λ₀ .tc) α}
    (h : St m c K KS x ⊢ run c (k (X m s c f)) Q) :
    St m c K KS x ⊢ run c (.op (.load sbA (slabR f b).toLoadRect hl) k) Q := by
  refine step_sb m c K KS f b (.half s) (.half s) x hx (A := run c (k (X m s c f)) Q) ?_ (by rw [put_sb x f b _ hx]; exact h)
  unfold sbS owns
  iintro ⟨⟨%g, %hg, H⟩, Hk⟩
  iapply (wp_load_rect 𝒱₀ (c : Thread nD τ) none Set.univ (m := sbA) (r := slabR f b)
    (show (sbA.access (slabR f b)).set ⊆ (sbV f b).view.set by rw [sb_set])) $$ H
  iintro H
  rw [show (sbA.access (slabR f b)).read (Elt F) g = X m s c f from sq_inj ((sb_read f b g).symm.trans hg)]
  iapply Hk
  iexists g; isplitr; · ipureintro; exact hg
  iexact H
theorem st_ldsb0 (f : Fin 4) (b : Fin 2) (x : GS) (hx : (x.fl f).sb b = .any) {hl} {α : Type} {Q : α → sProp 𝕄} {k : ((slabR f b).shape.Idx → Elt F .bf16) → Prog (TpuEff nD τ sig (Elt F) Λ₀ .tc) α}
    (h : ∀ v, St m c K KS x ⊢ run c (k v) Q) :
    St m c K KS x ⊢ run c (.op (.load sbA (slabR f b).toLoadRect hl) k) Q := by
  refine step_sb m c K KS f b .any .any x hx (A := iprop(∀ v, run c (k v) Q)) ?_ (by rw [put_sb x f b _ hx]; exact forall_intro h)
  unfold sbS slot
  iintro ⟨⟨%g, H⟩, Hk⟩
  iapply (wp_load_rect 𝒱₀ (c : Thread nD τ) none Set.univ (m := sbA) (r := slabR f b)
    (show (sbA.access (slabR f b)).set ⊆ (sbV f b).view.set by rw [sb_set])) $$ H
  iintro H
  ihave Hk := Hk $$ [H]
  · iexists g; iexact H
  iapply Hk
theorem st_ldcm (f : Fin 4) (b : Fin 2) (s : ℕ) (x : GS) (hx : (x.fl f).cm b = .full s ∨ (x.fl f).cm b = .half s) {hl} {α : Type} {Q : α → sProp 𝕄} {k : ((slabR f b).shape.Idx → Elt F .bf16) → Prog (TpuEff nD τ sig (Elt F) Λ₀ .tc) α}
    (h : St m c K KS x ⊢ run c (k (X m s (src c f) f)) Q) :
    St m c K KS x ⊢ run c (.op (.load cmA (slabR f b).toLoadRect hl) k) Q := by
  rcases hx with hx | hx
  · refine step_cm m c K KS f b (.full s) (.full s) x hx (A := run c (k (X m s (src c f) f)) Q) ?_ (by rw [put_cm x f b _ hx]; exact h)
    unfold cmS owns
    iintro ⟨⟨%g, %hg, H⟩, Hk⟩
    iapply (wp_load_rect 𝒱₀ (c : Thread nD τ) none Set.univ (m := cmA) (r := slabR f b)
      (show (cmA.access (slabR f b)).set ⊆ (cmV f b).view.set by rw [cm_set])) $$ H
    iintro H
    rw [show (cmA.access (slabR f b)).read (Elt F) g = X m s (src c f) f from sq_inj ((cm_read f b g).symm.trans hg)]
    iapply Hk
    iexists g; isplitr; · ipureintro; exact hg
    iexact H
  · refine step_cm m c K KS f b (.half s) (.half s) x hx (A := run c (k (X m s (src c f) f)) Q) ?_ (by rw [put_cm x f b _ hx]; exact h)
    unfold cmS owns
    iintro ⟨⟨%g, %hg, H⟩, Hk⟩
    iapply (wp_load_rect 𝒱₀ (c : Thread nD τ) none Set.univ (m := cmA) (r := slabR f b)
      (show (cmA.access (slabR f b)).set ⊆ (cmV f b).view.set by rw [cm_set])) $$ H
    iintro H
    rw [show (cmA.access (slabR f b)).read (Elt F) g = X m s (src c f) f from sq_inj ((cm_read f b g).symm.trans hg)]
    iapply Hk
    iexists g; isplitr; · ipureintro; exact hg
    iexact H

/-! ## The loads from the argument -/

def okL (x : GS) (d : Fin 2) (s : ℕ) : Prop :=
  s < 8 ∧ (x.di d).nL = s ∧ (x.di d).nWL ≤ s ∧ rnd (sl s) (x.di d).nWL = s / 2 ∧ ((x.di d).xb (sl s)).whole = true
instance (x : GS) (d : Fin 2) (s : ℕ) : Decidable (okL x d s) := by unfold okL; infer_instance
def DS.load (z : DS) (s : ℕ) : DS := { z.setXb (sl s) (.half s) with nL := s + 1 }
def okWL (x : GS) (d : Fin 2) (s : ℕ) : Prop := s < 8 ∧ (x.di d).nWL = s ∧ s < (x.di d).nL ∧ (x.di d).xb (sl s) = .half s
instance (x : GS) (d : Fin 2) (s : ℕ) : Decidable (okWL x d s) := by unfold okWL; infer_instance
def DS.loaded (z : DS) (s : ℕ) : DS := { z.setXb (sl s) (.full s) with nWL := s + 1 }

theorem xb_whole (d b : Fin 2) (v : Cont) (h : v.whole = true) : xbS m c d b v ⊢ xbS m c d b .any := by
  match v, h with
  | .any, _ => exact .rfl
  | .full s, _ =>
    unfold xbS; iintro ⟨H, Hx⟩
    isplitl [H]; · iapply (owns_slot c (xbV d b) _); iexact H
    iexact Hx
theorem loadCr_push (d : Fin 2) (a b : ℕ) (h : a ≤ b) :
    iprop(cred (tallyAt (cell c (.load d (sl b))) 0 NL) ∗ loadCr (F := F) c d a b) ⊢ loadCr (F := F) c d a (b + 1) := by
  unfold loadCr; exact Entails.of_eq (big_last h (fun s => cred (tallyAt (cell c (.load d (sl s))) 0 NL))).symm

theorem st_load (d : Fin 2) (s : ℕ) (off : Fin 2 → ℕ) (hoff : off = xOff c d s) (x : GS) (hx : okL x d s)
    {hin : ∀ a, off a + S512x1024.size a ≤ S8192x1024.size a} {hr : ∀ a, (Rect.unit (s := S8192x1024) off S512x1024.size hin).stride a = 1}
    {hsrc : (xA.slice (Rect.unit (s := S8192x1024) off S512x1024.size hin) hr).view.WordExact} {hdst : (xbV d (sl s)).view.WordExact}
    {hsem : DmaTarget.Typed (nD := nD) (τ := τ) (p := .tc) .hbm (.dma (loadSem d (sl s))) (.here (xbV d (sl s)))} {α : Type} {Q : α → sProp 𝕄} {k : PUnit → Prog (TpuEff nD τ sig (Elt F) Λ₀ .tc) α}
    (h : St m c K KS (x.putD d ((x.di d).load s)) ⊢ run c (k ⟨⟩) Q) :
    St m c K KS x ⊢ run c (.op (.enqueueDma (xA.slice (Rect.unit (s := S8192x1024) off S512x1024.size hin) hr) (.here (xbV d (sl s)))
      (.dma (loadSem d (sl s))) hsrc hdst hsem) k) Q := by
  subst hoff
  obtain ⟨hs, hnL, hle, hr, hwh⟩ := hx
  refine step_dd m c K KS d x _ ?_ h
  generalize x.di d = z at *
  generalize x.n = N at *
  unfold DD
  rw [hnL]
  iintro ⟨#Hc, HO, ⟨Ht, Hcr, Hp, Hxb, Hpt⟩, Hk⟩
  ihave Ht := (Entails.of_eq (show loadTok (F := F) c d s = iprop(dutyTok ER (cell c (.load d (sl s))) (s / 2) 0 ∗ loadTok c d (s + 1)) from big_head hs _)) $$ Ht
  icases Ht with ⟨Ht1, Ht⟩
  ihave #Hr := (pos2_reached c (.load d) z.nWL (sl s) (s / 2) hr) $$ Hp
  ihave Hxb := (xb_acc m c d z (sl s) (.half s)) $$ Hxb
  icases Hxb with ⟨Hs, Hxb⟩
  ihave Hs := (xb_whole m c d (sl s) _ hwh) $$ Hs
  ihave #Hi := (ctx_inv m K KS c (.load d (sl s))) $$ Hc
  unfold xbS slot xq
  icases Hs with ⟨⟨%fd, Hd⟩, Hx⟩
  ihave Hx := (show _ ⊢ _ from (pointsTo_split_subset (ℓ := xA.view.loc (c : Thread nD τ)) (q := qx d (sl s)) (f := xin m c) (Finset.subset_univ (xV c d s).view.set)).1) $$ Hx
  icases Hx with ⟨Hx, Hrest⟩
  iapply (Rounds.wp_copy_pointsTo 𝒱₀ ER (Rd m) (c : Thread nD τ) none (κ := K (c, .load d (sl s))) (src := xV c d s) (dst := xbV d (sl s))
    (sem := .dma (loadSem d (sl s))) (r := s / 2) (d := 0) (fd := fd) (fs := xin m c) (q := qx d (sl s))
    (mem_load m c d s hs) 0 NL (NL_eq d (sl s)) (amount_load m c _ _ _ _)
    ((show _ ⊢ loadPay m c d (sl s) s by
      unfold loadPay owns
      iintro ⟨H, Hx⟩
      isplitl [H]
      · iexists _; isplitr
        rotate_left
        · iexact H
        · ipureintro; rw [View.read_write_univ]; rfl
      iexact Hx).trans (Entails.of_eq (pay_load m c d s 0).symm))) $$ [Ht1 Hx Hd]
  · isplitr; · iexact Hi
    isplitl [Hx]; · iexact Hx
    isplitl [Hd]; · iexact Hd
    isplitl [Ht1]; · iexact Ht1
    iexact Hr
  iintro Hcr1
  iapply Hk
  isplitl [HO]; · iexact HO
  isplitl [Ht]; · iexact Ht
  isplitl [Hcr Hcr1]
  · iapply (loadCr_push c d z.nWL s hle)
    isplitl [Hcr1]; · iexact Hcr1
    iexact Hcr
  isplitl [Hp]; · iexact Hp
  isplitl [Hxb Hrest]; · iapply Hxb; iexact Hrest
  iexact Hpt

theorem st_loaded (d : Fin 2) (s : ℕ) (x : GS) (hx : okWL x d s)
    {srcM : Memref sig .tc .hbm S512x1024 .f32} {hsrc : srcM.view.WordExact} {hdst : (xbV d (sl s)).view.WordExact} {α : Type} {Q : α → sProp 𝕄} {k : PUnit → Prog (TpuEff nD τ sig (Elt F) Λ₀ .tc) α}
    (h : St m c K KS (x.putD d ((x.di d).loaded s)) ⊢ run c (k ⟨⟩) Q) :
    St m c K KS x ⊢ run c (.op (.waitDma2 (loadSem d (sl s)) srcM (xbV d (sl s)) hsrc hdst) k) Q := by
  obtain ⟨hs, hnW, hlt, hxb⟩ := hx
  refine step_dd m c K KS d x _ ?_ h
  generalize x.di d = z at *
  generalize x.n = N at *
  unfold DD
  rw [hnW]
  iintro ⟨#Hc, HO, ⟨Ht, Hcr, Hp, Hxb, Hpt⟩, Hk⟩
  ihave Hcr := (Entails.of_eq (show loadCr (F := F) c d s z.nL = iprop(cred (tallyAt (cell c (.load d (sl s))) 0 NL) ∗ loadCr c d (s + 1) z.nL) from big_head hlt _)) $$ Hcr
  icases Hcr with ⟨Hcr1, Hcr⟩
  ihave Hp := (pos2_step c (.load d) s) $$ Hp
  icases Hp with ⟨Hp1, Hp⟩
  ihave Hxb := (xb_acc m c d z (sl s) (.full s)) $$ Hxb
  icases Hxb with ⟨Hs, Hxb⟩
  rw [hxb]
  iapply (wait_core m c K KS (.load d (sl s)) 0 N NL (s / 2) (ix_pos N) (by decide) (dut_load m c d s hs) (exp_load m c d s hs)
    (w := .waitDma2 (loadSem d (sl s)) srcM (xbV d (sl s)) hsrc hdst)
    (fun K => by rw [← NL_eq d (sl s)]; exact wpE_waitDma2_eq 𝒱₀ (c : Thread nD τ) none Set.univ K)) $$ [HO Hcr1 Hp1]
  · isplitr; · iexact Hc
    isplitl [HO]; · iexact HO
    isplitl [Hcr1]; · iexact Hcr1
    iexact Hp1
  iintro ⟨HO, Hp1, Hpay⟩
  ihave Hpay := (Entails.of_eq (pay_load m c d s 0)) $$ Hpay
  unfold loadPay
  icases Hpay with ⟨Ho, Hx⟩
  iapply Hk
  isplitl [HO]; · iexact HO
  isplitl [Ht]; · iexact Ht
  isplitl [Hcr]; · iexact Hcr
  isplitl [Hp Hp1]; · iapply Hp; iexact Hp1
  isplitl [Hxb Hs Hx Ho]
  · iapply Hxb; unfold xbS xq
    isplitl [Ho]; · iexact Ho
    iapply (show _ ⊢ _ from (pointsTo_split_subset (ℓ := xA.view.loc (c : Thread nD τ)) (q := qx d (sl s)) (f := xin m c) (Finset.subset_univ (xV c d s).view.set)).2)
    isplitl [Hx]; · iexact Hx
    iexact Hs
  iexact Hpt

theorem st_ldxb (d b : Fin 2) (s : ℕ) (x : GS) (hx : (x.di d).xb b = .full s) {hl} {α : Type} {Q : α → sProp 𝕄} {k : ((xbR d b).shape.Idx → Elt F .f32) → Prog (TpuEff nD τ sig (Elt F) Λ₀ .tc) α}
    (h : St m c K KS x ⊢ run c (k (xblk m c d s)) Q) :
    St m c K KS x ⊢ run c (.op (.load xbA (xbR d b).toLoadRect hl) k) Q := by
  refine step_xb m c K KS d b (.full s) (.full s) x hx (A := run c (k (xblk m c d s)) Q) ?_ (by rw [put_xb x d b _ hx]; exact h)
  unfold xbS owns
  iintro ⟨⟨⟨%g, %hg, H⟩, Hx⟩, Hk⟩
  iapply (wp_load_rect 𝒱₀ (c : Thread nD τ) none Set.univ (m := xbA) (r := xbR d b)
    (show (xbA.access (xbR d b)).set ⊆ (xbV d b).view.set by rw [xb_set])) $$ H
  iintro H
  rw [show (xbA.access (xbR d b)).read (Elt F) g = xblk m c d s from by
    funext y; rw [xb_read, hg]; rfl]
  iapply Hk
  isplitl [H]
  · iexists g; isplitr; · ipureintro; exact hg
    iexact H
  iexact Hx

/-! ## The products -/

theorem half_emb (d h : Fin 2) (y : (pthR d h).shape.Idx) : (ptR d).emb ((halfR h).emb y) = (pthR d h).emb y := by
  funext a
  apply Fin.ext
  match a with
  | 0 => show d.val + 1 * (0 + 1 * (y 0).val) = d.val + 1 * (y 0).val; omega
  | 1 => show 0 + 1 * (256 * h.val + 1 * (y 1).val) = 256 * h.val + 1 * (y 1).val; omega
  | 2 => show 0 + 1 * (0 + 1 * (y 2).val) = 0 + 1 * (y 2).val; omega
theorem pth_set (d h : Fin 2) : (ptA.access (pthR d h)).set ⊆ (ptA.access (ptR d)).set := by
  intro i hi
  obtain ⟨y, hy⟩ := View.exists_of_mem_set_slice hi
  rw [← half_emb] at hy
  rw [← hy]
  exact View.emb_mem_set (v := ptA.view.slice (ptR d)) ((halfR h).emb y)
theorem pth_read (d h : Fin 2) (g : ptA.view.ty.Contents (Elt F)) :
    (ptA.access (pthR d h)).read (Elt F) g = half ((ptA.access (ptR d)).read (Elt F) g) h := by
  funext y
  unfold half
  rw [View.read_apply, View.read_apply]
  congr 2
  show ptA.view.emb _ = ptA.view.emb _
  rw [half_emb]

theorem pt_whole (d : Fin 2) (v : Cont) (h : v.whole = true) : ptS m c d v ⊢ ptS m c d .any := by
  match v, h with
  | .any, _ => exact .rfl
  | .full s, _ => unfold ptS slot; iintro ⟨%g, -, H⟩; iexists g; iexact H

theorem st_part (d : Fin 2) (s : ℕ) (x : GS) (hx : ((x.di d).pt).whole = true)
    {w : (ptR d).shape.Idx → Elt F .f32} (hw : w = part m c d s) {hs1 hs2} {α : Type} {Q : α → sProp 𝕄} {k : PUnit → Prog (TpuEff nD τ sig (Elt F) Λ₀ .tc) α}
    (h : St m c K KS (x.putD d { x.di d with pt := .full s }) ⊢ run c (k ⟨⟩) Q) :
    St m c K KS x ⊢ run c (.op (.store ptA (ptR d) w Finset.univ hs1 hs2) k) Q := by
  subst hw
  refine step_pt m c K KS d _ (.full s) x rfl ((sep_mono_left (pt_whole m c d _ hx)).trans ?_) h
  unfold ptS slot
  iintro ⟨⟨%g, H⟩, Hk⟩
  iapply (wp_store 𝒱₀ (c : Thread nD τ) none Set.univ (m := ptA) (r := ptR d) (Mk := Finset.univ)
    (show (ptA.access (ptR d)).setOn Finset.univ ⊆ (ptA.access (ptR d)).set by rw [View.setOn_univ])) $$ H
  iintro H
  iapply Hk
  iexists ((ptA.access (ptR d)).write (Elt F) g (part m c d s) Finset.univ)
  isplitr; · ipureintro; rw [View.read_write_univ]
  iexact H
theorem st_ldpt0 (d : Fin 2) (x : GS) (hx : ((x.di d).pt).whole = true) {hl} {α : Type} {Q : α → sProp 𝕄} {k : ((ptR d).shape.Idx → Elt F .f32) → Prog (TpuEff nD τ sig (Elt F) Λ₀ .tc) α}
    (h : ∀ v, St m c K KS x ⊢ run c (k v) Q) :
    St m c K KS x ⊢ run c (.op (.load ptA (ptR d).toLoadRect hl) k) Q := by
  refine step_pt m c K KS d (x.di d).pt (x.di d).pt x rfl (A := iprop(∀ v, run c (k v) Q)) ?_ (by rw [put_pt x d _ rfl]; exact forall_intro h)
  generalize (x.di d).pt = u at *
  match u, hx with
  | .any, _ =>
    unfold ptS slot
    iintro ⟨⟨%g, H⟩, Hk⟩
    iapply (wp_load_rect 𝒱₀ (c : Thread nD τ) none Set.univ (m := ptA) (r := ptR d) (Finset.Subset.refl _)) $$ H
    iintro H
    ihave Hk := Hk $$ [H]
    · iexists g; iexact H
    iapply Hk
  | .full s, _ =>
    unfold ptS
    iintro ⟨⟨%g, %hg, H⟩, Hk⟩
    iapply (wp_load_rect 𝒱₀ (c : Thread nD τ) none Set.univ (m := ptA) (r := ptR d) (Finset.Subset.refl _)) $$ H
    iintro H
    ihave Hk := Hk $$ [H]
    · iexists g; isplitr; · ipureintro; exact hg
      iexact H
    iapply Hk
theorem st_ldpt (d h' : Fin 2) (s : ℕ) (x : GS) (hx : (x.di d).pt = .full s) {hl} {α : Type} {Q : α → sProp 𝕄} {k : ((pthR d h').shape.Idx → Elt F .f32) → Prog (TpuEff nD τ sig (Elt F) Λ₀ .tc) α}
    (h : St m c K KS x ⊢ run c (k (half (part m c d s) h')) Q) :
    St m c K KS x ⊢ run c (.op (.load ptA (pthR d h').toLoadRect hl) k) Q := by
  refine step_pt m c K KS d (.full s) (.full s) x hx (A := run c (k (half (part m c d s) h')) Q) ?_ (by rw [put_pt x d _ hx]; exact h)
  unfold ptS
  iintro ⟨⟨%g, %hg, H⟩, Hk⟩
  iapply (wp_load_rect 𝒱₀ (c : Thread nD τ) none Set.univ (m := ptA) (r := pthR d h') (pth_set d h')) $$ H
  iintro H
  rw [pth_read, hg]
  iapply Hk
  iexists g; isplitr; · ipureintro; exact hg
  iexact H

end

end Cert.Ring
-- ==== Proof.Memo2.lean ====
/- The weights, the result and the barrier. -/
module

public import proofs.«01_k».proof.Proof.Memo

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

section
variable (c : Dev nD) (K : Dev nD × Kd → ℕ) (KS : Key → ℕ)

/-! ## The weights -/

theorem st_ldw1 {off : Fin 2 → ℕ} (hz : off = fun _ => 0) {hin : ∀ a, off a + S1024x1024.size a ≤ S1024x1024.size a} (x : GS) {hl} {α : Type} {Q : α → sProp 𝕄} {k : (S1024x1024.Idx → Elt F .f32) → Prog (TpuEff nD τ sig (Elt F) Λ₀ .tc) α}
    (h : St m c K KS x ⊢ run c (k (w1in m c)) Q) :
    St m c K KS x ⊢ run c (.op (.load w1A (Rect.unit (s := S1024x1024) off S1024x1024.size hin).toLoadRect hl) k) Q := by
  refine step_w m c K KS x x.w (A := run c (k (w1in m c)) Q) ?_ h
  unfold Ws
  iintro ⟨⟨H1, H2, H3, H4⟩, Hk⟩
  iapply (wp_load 𝒱₀ (c : Thread nD τ) none Set.univ (m := w1A) (r := (Rect.unit (s := S1024x1024) off S1024x1024.size hin).toLoadRect) (Finset.subset_univ _)) $$ H1
  iintro H1
  rw [show View.readAt (Elt F) w1A.view (Rect.unit (s := S1024x1024) off S1024x1024.size hin).toLoadRect (w1in m c) = w1in m c from Memref.readAt_unit_zero (Elt F) cc0_stg0_0 hz _ _]
  iapply Hk
  isplitl [H1]; · iexact H1
  isplitl [H2]; · iexact H2
  isplitl [H3]; · iexact H3
  iexact H4

theorem st_ldw2 {off : Fin 2 → ℕ} (hz : off = fun _ => 0) {hin : ∀ a, off a + S1024x512.size a ≤ S1024x512.size a} (x : GS) {hl} {α : Type} {Q : α → sProp 𝕄} {k : (S1024x512.Idx → Elt F .f32) → Prog (TpuEff nD τ sig (Elt F) Λ₀ .tc) α}
    (h : St m c K KS x ⊢ run c (k (w2in m c)) Q) :
    St m c K KS x ⊢ run c (.op (.load w2A (Rect.unit (s := S1024x512) off S1024x512.size hin).toLoadRect hl) k) Q := by
  refine step_w m c K KS x x.w (A := run c (k (w2in m c)) Q) ?_ h
  unfold Ws
  iintro ⟨⟨H1, H2, H3, H4⟩, Hk⟩
  iapply (wp_load 𝒱₀ (c : Thread nD τ) none Set.univ (m := w2A) (r := (Rect.unit (s := S1024x512) off S1024x512.size hin).toLoadRect) (Finset.subset_univ _)) $$ H2
  iintro H2
  rw [show View.readAt (Elt F) w2A.view (Rect.unit (s := S1024x512) off S1024x512.size hin).toLoadRect (w2in m c) = w2in m c from Memref.readAt_unit_zero (Elt F) cc0_stg1_0 hz _ _]
  iapply Hk
  isplitl [H1]; · iexact H1
  isplitl [H2]; · iexact H2
  isplitl [H3]; · iexact H3
  iexact H4

theorem st_ldw1b {off : Fin 2 → ℕ} (hz : off = fun _ => 0) {hin : ∀ a, off a + S1024x1024.size a ≤ S1024x1024.size a} (x : GS) (hx : 1 ≤ x.w) {hl} {α : Type} {Q : α → sProp 𝕄} {k : (S1024x1024.Idx → Elt F .bf16) → Prog (TpuEff nD τ sig (Elt F) Λ₀ .tc) α}
    (h : St m c K KS x ⊢ run c (k (w1v m c)) Q) :
    St m c K KS x ⊢ run c (.op (.load w1bA (Rect.unit (s := S1024x1024) off S1024x1024.size hin).toLoadRect hl) k) Q := by
  refine step_w m c K KS x x.w (A := run c (k (w1v m c)) Q) ?_ h
  obtain ⟨j, hj⟩ : ∃ j, x.w = j + 1 := ⟨x.w - 1, by omega⟩
  rw [hj]
  unfold Ws
  iintro ⟨⟨H1, H2, H3, H4⟩, Hk⟩
  ihave H3 := (show w1bS m c (j + 1) ⊢ (w1bA.view.loc (c : Thread nD τ) ↦[Finset.univ]{fullShare} (w1v m c : Buf (Elt F) (w1bA.view.loc (c : Thread nD τ)))) from .rfl) $$ H3
  iapply (wp_load 𝒱₀ (c : Thread nD τ) none Set.univ (m := w1bA) (r := (Rect.unit (s := S1024x1024) off S1024x1024.size hin).toLoadRect) (Finset.subset_univ _)) $$ H3
  iintro H3
  rw [show View.readAt (Elt F) w1bA.view (Rect.unit (s := S1024x1024) off S1024x1024.size hin).toLoadRect (w1v m c) = w1v m c from Memref.readAt_unit_zero (Elt F) cc0_scratch4 hz _ _]
  iapply Hk
  isplitl [H1]; · iexact H1
  isplitl [H2]; · iexact H2
  isplitl [H3]; · iapply (show (w1bA.view.loc (c : Thread nD τ) ↦[Finset.univ]{fullShare} (w1v m c : Buf (Elt F) (w1bA.view.loc (c : Thread nD τ)))) ⊢ w1bS m c (j + 1) from .rfl); iexact H3
  iexact H4
theorem st_ldw1b0 {off : Fin 2 → ℕ} (hz : off = fun _ => 0) {hin : ∀ a, off a + S1024x1024.size a ≤ S1024x1024.size a} (x : GS) (hx : x.w = 0) {hl} {α : Type} {Q : α → sProp 𝕄} {k : (S1024x1024.Idx → Elt F .bf16) → Prog (TpuEff nD τ sig (Elt F) Λ₀ .tc) α}
    (h : ∀ v, St m c K KS x ⊢ run c (k v) Q) :
    St m c K KS x ⊢ run c (.op (.load w1bA (Rect.unit (s := S1024x1024) off S1024x1024.size hin).toLoadRect hl) k) Q := by
  refine step_w m c K KS x x.w (A := iprop(∀ v, run c (k v) Q)) ?_ (forall_intro h)
  rw [hx]
  unfold Ws
  iintro ⟨⟨H1, H2, H3, H4⟩, Hk⟩
  ihave H3 := (show w1bS m c 0 ⊢ iprop(∃ g : Buf (Elt F) (w1bA.view.loc (c : Thread nD τ)), (w1bA.view.loc (c : Thread nD τ) ↦[Finset.univ]{fullShare} g)) from .rfl) $$ H3
  icases H3 with ⟨%g, H3⟩
  iapply (wp_load 𝒱₀ (c : Thread nD τ) none Set.univ (m := w1bA) (r := (Rect.unit (s := S1024x1024) off S1024x1024.size hin).toLoadRect) (Finset.subset_univ _)) $$ H3
  iintro H3
  ihave Hk := Hk $$ [H1 H2 H3 H4]
  · isplitl [H1]; · iexact H1
    isplitl [H2]; · iexact H2
    isplitl [H3]; · iapply (show iprop(∃ g : Buf (Elt F) (w1bA.view.loc (c : Thread nD τ)), (w1bA.view.loc (c : Thread nD τ) ↦[Finset.univ]{fullShare} g)) ⊢ w1bS m c 0 from .rfl); iexists g; iexact H3
    iexact H4
  iapply Hk
theorem st_stw1b {off : Fin 2 → ℕ} (hz : off = fun _ => 0) {hin : ∀ a, off a + S1024x1024.size a ≤ S1024x1024.size a} (x : GS) (hx : x.w = 0)
    {w : (Rect.unit (s := S1024x1024) off S1024x1024.size hin).shape.Idx → Elt F .bf16} (hw : w = w1v m c) {hs1 hs2} {α : Type} {Q : α → sProp 𝕄} {k : PUnit → Prog (TpuEff nD τ sig (Elt F) Λ₀ .tc) α}
    (h : St m c K KS { x with w := 0 + 1 } ⊢ run c (k ⟨⟩) Q) :
    St m c K KS x ⊢ run c (.op (.store w1bA (Rect.unit (s := S1024x1024) off S1024x1024.size hin) w Finset.univ hs1 hs2) k) Q := by
  subst hw
  refine step_w m c K KS x (0 + 1) ?_ h
  rw [hx]
  unfold Ws
  iintro ⟨⟨H1, H2, H3, H4⟩, Hk⟩
  ihave H3 := (show w1bS m c 0 ⊢ iprop(∃ g : Buf (Elt F) (w1bA.view.loc (c : Thread nD τ)), (w1bA.view.loc (c : Thread nD τ) ↦[Finset.univ]{fullShare} g)) from .rfl) $$ H3
  icases H3 with ⟨%g, H3⟩
  iapply (wp_store 𝒱₀ (c : Thread nD τ) none Set.univ (m := w1bA) (r := Rect.unit (s := S1024x1024) off S1024x1024.size hin) (Mk := Finset.univ) (Finset.subset_univ _)) $$ H3
  iintro H3
  rw [show (w1bA.access (Rect.unit (s := S1024x1024) off S1024x1024.size hin)).write (Elt F) g (w1v m c) Finset.univ = w1v m c from Memref.write_access_unit_zero_univ (Elt F) cc0_scratch4 hz _ g _]
  iapply Hk
  isplitl [H1]; · iexact H1
  isplitl [H2]; · iexact H2
  isplitl [H3]; · iapply (show (w1bA.view.loc (c : Thread nD τ) ↦[Finset.univ]{fullShare} (w1v m c : Buf (Elt F) (w1bA.view.loc (c : Thread nD τ)))) ⊢ w1bS m c (0 + 1) from .rfl); iexact H3
  iexact H4

theorem st_ldw2b {off : Fin 2 → ℕ} (hz : off = fun _ => 0) {hin : ∀ a, off a + S1024x512.size a ≤ S1024x512.size a} (x : GS) (hx : x.w = 2) {hl} {α : Type} {Q : α → sProp 𝕄} {k : (S1024x512.Idx → Elt F .bf16) → Prog (TpuEff nD τ sig (Elt F) Λ₀ .tc) α}
    (h : St m c K KS x ⊢ run c (k (w2v m c)) Q) :
    St m c K KS x ⊢ run c (.op (.load w2bA (Rect.unit (s := S1024x512) off S1024x512.size hin).toLoadRect hl) k) Q := by
  refine step_w m c K KS x x.w (A := run c (k (w2v m c)) Q) ?_ h
  obtain ⟨j, hj⟩ : ∃ j, x.w = j + 2 := ⟨x.w - 2, by omega⟩
  rw [hj]
  unfold Ws
  iintro ⟨⟨H1, H2, H3, H4⟩, Hk⟩
  ihave H4 := (show w2bS m c (j + 2 - 1) ⊢ (w2bA.view.loc (c : Thread nD τ) ↦[Finset.univ]{fullShare} (w2v m c : Buf (Elt F) (w2bA.view.loc (c : Thread nD τ)))) from .rfl) $$ H4
  iapply (wp_load 𝒱₀ (c : Thread nD τ) none Set.univ (m := w2bA) (r := (Rect.unit (s := S1024x512) off S1024x512.size hin).toLoadRect) (Finset.subset_univ _)) $$ H4
  iintro H4
  rw [show View.readAt (Elt F) w2bA.view (Rect.unit (s := S1024x512) off S1024x512.size hin).toLoadRect (w2v m c) = w2v m c from Memref.readAt_unit_zero (Elt F) cc0_scratch5 hz _ _]
  iapply Hk
  isplitl [H1]; · iexact H1
  isplitl [H2]; · iexact H2
  isplitl [H3]; · iexact H3
  iapply (show (w2bA.view.loc (c : Thread nD τ) ↦[Finset.univ]{fullShare} (w2v m c : Buf (Elt F) (w2bA.view.loc (c : Thread nD τ)))) ⊢ w2bS m c (j + 2 - 1) from .rfl); iexact H4
theorem st_ldw2b0 {off : Fin 2 → ℕ} (hz : off = fun _ => 0) {hin : ∀ a, off a + S1024x512.size a ≤ S1024x512.size a} (x : GS) (hx : x.w = 1) {hl} {α : Type} {Q : α → sProp 𝕄} {k : (S1024x512.Idx → Elt F .bf16) → Prog (TpuEff nD τ sig (Elt F) Λ₀ .tc) α}
    (h : ∀ v, St m c K KS x ⊢ run c (k v) Q) :
    St m c K KS x ⊢ run c (.op (.load w2bA (Rect.unit (s := S1024x512) off S1024x512.size hin).toLoadRect hl) k) Q := by
  refine step_w m c K KS x x.w (A := iprop(∀ v, run c (k v) Q)) ?_ (forall_intro h)
  rw [hx]
  unfold Ws
  iintro ⟨⟨H1, H2, H3, H4⟩, Hk⟩
  ihave H4 := (show w2bS m c 0 ⊢ iprop(∃ g : Buf (Elt F) (w2bA.view.loc (c : Thread nD τ)), (w2bA.view.loc (c : Thread nD τ) ↦[Finset.univ]{fullShare} g)) from .rfl) $$ H4
  icases H4 with ⟨%g, H4⟩
  iapply (wp_load 𝒱₀ (c : Thread nD τ) none Set.univ (m := w2bA) (r := (Rect.unit (s := S1024x512) off S1024x512.size hin).toLoadRect) (Finset.subset_univ _)) $$ H4
  iintro H4
  ihave Hk := Hk $$ [H1 H2 H3 H4]
  · isplitl [H1]; · iexact H1
    isplitl [H2]; · iexact H2
    isplitl [H3]; · iexact H3
    iapply (show iprop(∃ g : Buf (Elt F) (w2bA.view.loc (c : Thread nD τ)), (w2bA.view.loc (c : Thread nD τ) ↦[Finset.univ]{fullShare} g)) ⊢ w2bS m c 0 from .rfl); iexists g; iexact H4
  iapply Hk
theorem st_stw2b {off : Fin 2 → ℕ} (hz : off = fun _ => 0) {hin : ∀ a, off a + S1024x512.size a ≤ S1024x512.size a} (x : GS) (hx : x.w = 1)
    {w : (Rect.unit (s := S1024x512) off S1024x512.size hin).shape.Idx → Elt F .bf16} (hw : w = w2v m c) {hs1 hs2} {α : Type} {Q : α → sProp 𝕄} {k : PUnit → Prog (TpuEff nD τ sig (Elt F) Λ₀ .tc) α}
    (h : St m c K KS { x with w := 1 + 1 } ⊢ run c (k ⟨⟩) Q) :
    St m c K KS x ⊢ run c (.op (.store w2bA (Rect.unit (s := S1024x512) off S1024x512.size hin) w Finset.univ hs1 hs2) k) Q := by
  subst hw
  refine step_w m c K KS x (1 + 1) ?_ h
  rw [hx]
  unfold Ws
  iintro ⟨⟨H1, H2, H3, H4⟩, Hk⟩
  ihave H4 := (show w2bS m c 0 ⊢ iprop(∃ g : Buf (Elt F) (w2bA.view.loc (c : Thread nD τ)), (w2bA.view.loc (c : Thread nD τ) ↦[Finset.univ]{fullShare} g)) from .rfl) $$ H4
  icases H4 with ⟨%g, H4⟩
  iapply (wp_store 𝒱₀ (c : Thread nD τ) none Set.univ (m := w2bA) (r := Rect.unit (s := S1024x512) off S1024x512.size hin) (Mk := Finset.univ) (Finset.subset_univ _)) $$ H4
  iintro H4
  rw [show (w2bA.access (Rect.unit (s := S1024x512) off S1024x512.size hin)).write (Elt F) g (w2v m c) Finset.univ = w2v m c from Memref.write_access_unit_zero_univ (Elt F) cc0_scratch5 hz _ g _]
  iapply Hk
  isplitl [H1]; · iexact H1
  isplitl [H2]; · iexact H2
  isplitl [H3]; · iexact H3
  iapply (show (w2bA.view.loc (c : Thread nD τ) ↦[Finset.univ]{fullShare} (w2v m c : Buf (Elt F) (w2bA.view.loc (c : Thread nD τ)))) ⊢ w2bS m c (1 + 1 - 1) from .rfl); iexact H4

/-! ## The result -/

theorem oOff_ne : ∀ (c : Dev nD) (i j : Fin 32), i < j →
    1024 * ochk c (fl4 i.val) (i.val / 4) + 512 * (di (fl4 i.val)).val + 256 * (sub (fl4 i.val)).val
      ≠ 1024 * ochk c (fl4 j.val) (j.val / 4) + 512 * (di (fl4 j.val)).val + 256 * (sub (fl4 j.val)).val := by decide +kernel
theorem oRd_disjoint (i j : ℕ) (hij : i < j) (hj : j < 32) :
    Disjoint (oRd c (fl4 i) (i / 4)).set (oRd c (fl4 j) (j / 4)).set := by
  have h := oOff_ne c ⟨i, by omega⟩ ⟨j, hj⟩ hij
  refine Rect.disjoint_of_separated _ _ (0 : Fin 2) ?_
  have e : ∀ k : ℕ, (oRd c (fl4 k) (k / 4)).off (0 : Fin 2) = 1024 * ochk c (fl4 k) (k / 4) + 512 * (di (fl4 k)).val + 256 * (sub (fl4 k)).val := fun _ => rfl
  have e1 : ∀ k : ℕ, (oRd c (fl4 k) (k / 4)).size (0 : Fin 2) = 256 := fun _ => rfl
  have e2 : ∀ k : ℕ, (oRd c (fl4 k) (k / 4)).stride (0 : Fin 2) = 1 := fun _ => rfl
  rw [e, e, e1, e1, e2, e2]
  dsimp only at h
  omega
theorem OutOk_succ (n : ℕ) (hn : n < 32) (g : oA.view.ty.Contents (Elt F)) (h : OutOk m c n g) :
    OutOk m c (n + 1) ((oA.access (oRd c (fl4 n) (n / 4))).write (Elt F) g (oval m c (fl4 n) (n / 4)) Finset.univ) := by
  intro i hi
  rcases Nat.lt_succ_iff_lt_or_eq.mp hi with hlt | rfl
  · rw [← h i hlt]
    exact View.read_slice_write_slice_of_disjoint _ _ _ _ _ (by
      rw [View.setOn_univ]; exact View.disjoint_slice (oRd_disjoint c i n hlt hn))
  · exact View.read_write_univ _ _

/-- Writing result block `n` in turn. -/
theorem st_out (n : ℕ) (f : Fin 4) (j : ℕ) (x : GS) (hx : n < 32 ∧ x.o = n ∧ fl4 n = f ∧ n / 4 = j) (off : Fin 2 → ℕ) (hoff : off = oOff c f j)
    {hin : ∀ a, off a + S256x512.size a ≤ S8192x512.size a}
    {w : (Rect.unit (s := S8192x512) off S256x512.size hin).shape.Idx → Elt F .f32} (hw : w = oval m c f j) {hs1 hs2} {α : Type} {Q : α → sProp 𝕄} {k : PUnit → Prog (TpuEff nD τ sig (Elt F) Λ₀ .tc) α}
    (h : St m c K KS { x with o := n + 1 } ⊢ run c (k ⟨⟩) Q) :
    St m c K KS x ⊢ run c (.op (.store oA (Rect.unit (s := S8192x512) off S256x512.size hin) w Finset.univ hs1 hs2) k) Q := by
  obtain ⟨hn, ho, hf, hj⟩ := hx
  subst hoff hw hf hj
  refine step_o m c K KS x (n + 1) ?_ h
  rw [ho]
  unfold OutS
  iintro ⟨⟨%g, %hg, H⟩, Hk⟩
  iapply (wp_store 𝒱₀ (c : Thread nD τ) none Set.univ (m := oA) (r := oRd c (fl4 n) (n / 4)) (Mk := Finset.univ) (Finset.subset_univ _)) $$ H
  iintro H
  iapply Hk
  iexists _
  isplitr
  rotate_left
  · iexact H
  · ipureintro; exact OutOk_succ m c n hn g hg
theorem st_ldout (x : GS) {off : Fin 2 → ℕ} {hin : ∀ a, off a + S256x512.size a ≤ S8192x512.size a} {hl}
    {α : Type} {Q : α → sProp 𝕄} {k : (S256x512.Idx → Elt F .f32) → Prog (TpuEff nD τ sig (Elt F) Λ₀ .tc) α}
    (h : ∀ v, St m c K KS x ⊢ run c (k v) Q) :
    St m c K KS x ⊢ run c (.op (.load oA (Rect.unit (s := S8192x512) off S256x512.size hin).toLoadRect hl) k) Q := by
  refine step_o m c K KS x x.o (A := iprop(∀ v, run c (k v) Q)) ?_ (forall_intro h)
  unfold OutS
  iintro ⟨⟨%g, %hg, H⟩, Hk⟩
  iapply (wp_load 𝒱₀ (c : Thread nD τ) none Set.univ (m := oA) (r := (Rect.unit (s := S8192x512) off S256x512.size hin).toLoadRect) (Finset.subset_univ _)) $$ H
  iintro H
  ihave Hk := Hk $$ [H]
  · iexists g; isplitr; · ipureintro; exact hg
    iexact H
  iapply Hk

/-! ## The barrier -/

theorem owed_bar0 : owedFrom c 0 = owedFrom c 1 + tallyAt (cell (prv c) .bar) 1 1 := owedFrom_succ c 0 (by decide)
theorem owed_bar1 : owedFrom c 1 = owedFrom c 2 + tallyAt (cell (nxt c) .bar) 1 1 := owedFrom_succ c 1 (by decide)
theorem dut_bar : (Rd m).duties (cell c .bar) 0 = {0, 1} := by rw [duties_eq]; rfl
theorem exp_bar : (Rd m).expect (cell c .bar) 0 = 2 := by
  rw [expect_eq, ← duties_eq m c, dut_bar]; rfl

theorem st_bar0 (e : Dev nD) (he : e = prv c) (n : ℤ) (hn : n = ((1 : ℕ) : ℤ)) (x : GS) (hx : x.n = 0 ∧ x.br = 0) {α : Type} {Q : α → sProp 𝕄} {k : PUnit → Prog (TpuEff nD τ sig (Elt F) Λ₀ .tc) α}
    (h : St m c K KS { x with n := 1, br := 1 } ⊢ run c (k ⟨⟩) Q) :
    St m c K KS x ⊢ run c (.op (.semSignal ((e, .tc) : Thread nD τ) barSem n) k) Q := by
  subst he hn
  obtain ⟨h0, h1⟩ := hx
  refine step_br m c K KS x 1 1 ?_ h
  rw [h0, h1]
  unfold BarS OW barTok0
  iintro ⟨#Hc, ⟨%W, HO⟩, ⟨⟨Ht, Hpay⟩, Hb⟩, Hk⟩
  ihave #Hi := (ctx_inv m K KS (prv c) .bar) $$ Hc
  ihave #Hr := (ctx_reached m K KS (prv c) .bar) $$ Hc
  iapply (Rounds.wp_signal 𝒱₀ ER (Rd m) (c : Thread nD τ) none (dst := (prv c : Thread nD τ)) (κ := K (prv c, .bar)) (d := 0) (r := 0)
    (show 0 ∈ (Rd m).duties (cell (prv c) .bar) 0 by rw [dut_bar]; decide)
    ((amount_eq m (prv c) .bar 0 0).trans rfl) 1 (owedFrom c 1) (owed_bar0 c) (W := W)) $$ [HO Ht Hpay]
  · isplitr; · iexact Hi
    isplitl [HO]; · iexact HO
    isplitl [Ht]; · iexact Ht
    isplitl [Hpay]
    · iapply (show barPay (F := F) (prv c) 0 ⊢ (Rd m).payload ((prv c : Thread nD τ), .reg barSem) 0 0 from
        Entails.of_eq (payload_eq m (prv c) .bar 0 0).symm)
      iexact Hpay
    iexact Hr
  iintro HO
  iapply Hk
  isplitl [HO]; · iexists W; iexact HO
  isplitr; · iempintro
  iexact Hb
theorem st_bar1 (e : Dev nD) (he : e = nxt c) (n : ℤ) (hn : n = ((1 : ℕ) : ℤ)) (x : GS) (hx : x.n = 1 ∧ x.br = 1) {α : Type} {Q : α → sProp 𝕄} {k : PUnit → Prog (TpuEff nD τ sig (Elt F) Λ₀ .tc) α}
    (h : St m c K KS { x with n := 2, br := 2 } ⊢ run c (k ⟨⟩) Q) :
    St m c K KS x ⊢ run c (.op (.semSignal ((e, .tc) : Thread nD τ) barSem n) k) Q := by
  subst he hn
  obtain ⟨h0, h1⟩ := hx
  refine step_br m c K KS x 2 2 ?_ h
  rw [h0, h1]
  unfold BarS OW
  iintro ⟨#Hc, ⟨%W, HO⟩, ⟨H0, H1, Hb⟩, Hk⟩
  ihave H1 := (show barTok1 (F := F) c (1 - 1) ⊢ iprop(dutyTok ER (cell (nxt c) .bar) 0 1 ∗ barPay (nxt c) 1) from .rfl) $$ H1
  icases H1 with ⟨Ht, Hpay⟩
  ihave #Hi := (ctx_inv m K KS (nxt c) .bar) $$ Hc
  ihave #Hr := (ctx_reached m K KS (nxt c) .bar) $$ Hc
  iapply (Rounds.wp_signal 𝒱₀ ER (Rd m) (c : Thread nD τ) none (dst := (nxt c : Thread nD τ)) (κ := K (nxt c, .bar)) (d := 1) (r := 0)
    (show 1 ∈ (Rd m).duties (cell (nxt c) .bar) 0 by rw [dut_bar]; decide)
    ((amount_eq m (nxt c) .bar 0 1).trans rfl) 1 (owedFrom c 2) (owed_bar1 c) (W := W)) $$ [HO Ht Hpay]
  · isplitr; · iexact Hi
    isplitl [HO]; · iexact HO
    isplitl [Ht]; · iexact Ht
    isplitl [Hpay]
    · iapply (show barPay (F := F) (nxt c) 1 ⊢ (Rd m).payload ((nxt c : Thread nD τ), .reg barSem) 0 1 from
        Entails.of_eq (payload_eq m (nxt c) .bar 0 1).symm)
      iexact Hpay
    iexact Hr
  iintro HO
  iapply Hk
  isplitl [HO]; · iexists W; iexact HO
  isplitl [H0]; · iexact H0
  isplitr; · iapply (show (iprop(emp) : sProp 𝕄) ⊢ barTok1 (F := F) c (2 - 1) from .rfl); iempintro
  iexact Hb

/-- The state past the barrier: both slots of every flow are granted. -/
def GS.started (x : GS) : GS :=
  { x with f0 := { x.f0 with nG := 2 }, f1 := { x.f1 with nG := 2 }, f2 := { x.f2 with nG := 2 }, f3 := { x.f3 with nG := 2 }, br := 3 }
theorem gr_two (f : Fin 4) : iprop(grant (dst c f) f 0 ∗ grant (dst c f) f 1) ⊢ (gr (F := F) c f 2 : sProp 𝕄) := by
  unfold gr
  rw [big_range 1 (fun s => grant (dst c f) f s), big_range 0 (fun s => grant (dst c f) f s)]
  iintro ⟨H0, H1⟩
  isplitl [H1]; · iexact H1
  isplitl [H0]; · iexact H0
  rw [Finset.range_zero, bigSep_empty]
  iempintro
theorem fl_gr (f : Fin 4) (z : FS) (n : ℕ) : iprop(Fl m c f z ∗ gr c f n) ⊢ Fl m c f { z with nG := n } := by
  unfold Fl
  iintro ⟨⟨Htok, Hscr, Hrcr, Hct, Hcc, Hps, Hpr, Hrd, Hsb, Hcm, Hcs, Hog, -⟩, Hg⟩
  isplitl [Htok]; · iexact Htok
  isplitl [Hscr]; · iexact Hscr
  isplitl [Hrcr]; · iexact Hrcr
  isplitl [Hct]; · iexact Hct
  isplitl [Hcc]; · iexact Hcc
  isplitl [Hps]; · iexact Hps
  isplitl [Hpr]; · iexact Hpr
  isplitl [Hrd]; · iexact Hrd
  isplitl [Hsb]; · iexact Hsb
  isplitl [Hcm]; · iexact Hcm
  isplitl [Hcs]; · iexact Hcs
  isplitl [Hog]; · iexact Hog
  iexact Hg
theorem st_barw (n : ℤ) (hn : n = ((2 : ℕ) : ℤ)) (x : GS) (hx : x.n = 2 ∧ x.br = 2) {α : Type} {Q : α → sProp 𝕄} {k : PUnit → Prog (TpuEff nD τ sig (Elt F) Λ₀ .tc) α}
    (h : St m c K KS x.started ⊢ run c (k ⟨⟩) Q) :
    St m c K KS x ⊢ run c (.op (.semWait barSem n) k) Q := by
  subst hn
  obtain ⟨n0, f0, f1, f2, f3, d0, d1, w0, o0, b0⟩ := x
  obtain ⟨h0, h1⟩ := hx
  dsimp only at h0 h1
  subst h0 h1
  unfold St at h ⊢
  dsimp only [GS.started] at h ⊢
  unfold BarS OW pos at *
  iintro ⟨#Hc, ⟨%W, HO⟩, ⟨F0, F1, F2, F3⟩, HD, HW, Ho, HT0, HT1, Hb⟩
  ihave Hb := (show (if 2 ≤ 2 then iprop(cred (tallyAt (cell c .bar) 1 2) ∗ atPos ER (cell c .bar) 0 ∅ 0 ∗ reached ER (cell c .bar) 0) else iprop(atPos ER (cell c .bar) 1 ∅ 0 ∗ reached ER (cell c .bar) 1) : sProp 𝕄) ⊢ _ from Entails.of_eq (if_pos (by decide))) $$ Hb
  icases Hb with ⟨Hcr, Hp, -⟩
  ihave #Hi := (ctx_inv m K KS c .bar) $$ Hc
  ihave #Hl := (ctx_lev m K KS) $$ Hc
  iapply (Rounds.wp_wait_rest_token 𝒱₀ ER (Rd m) (c : Thread nD τ) none (sm := csem .bar) (k' := 2) (κ := K (c, .bar))
    (wpE_semWait_eq 𝒱₀ (c : Thread nD τ) none Set.univ) (Set.mem_univ _) 1
    (O := owedFrom c 2) (W := W) (R := 0) (m := 0) (T := ∅) ((Nat.zero_add _).trans (exp_bar m c).symm)) $$ [HO Hcr Hp]
  · isplitr; · iexact Hi
    isplitl [Hcr]; · iexact Hcr
    isplitl [HO]; · iexact HO
    isplitr; · iapply (mayWait c 2 (csem .bar) 1 (by decide) (by decide)); iexact Hl
    iexact Hp
  rw [Finset.sdiff_empty, show (Rd m).duties (cell c .bar) 0 = {0, 1} from dut_bar m c,
    bigSep_insert (by decide : (0 : ℕ) ∉ ({1} : Finset ℕ)), bigSep_singleton]
  iintro ⟨HO, Hp, Hr, P⟩
  ihave P := (show _ ⊢ iprop((Rd m).payload (cell c .bar) 0 0 ∗ (Rd m).payload (cell c .bar) 0 1) from .rfl) $$ P
  icases P with ⟨P0, P1⟩
  ihave P0 := (show (Rd m).payload (cell c .bar) 0 0 ⊢ iprop(grant (dst c 0) 0 0 ∗ grant (dst c 0) 0 1 ∗ grant (dst c 2) 2 0 ∗ grant (dst c 2) 2 1) from
    Entails.of_eq (payload_eq m c .bar 0 0)) $$ P0
  ihave P1 := (show (Rd m).payload (cell c .bar) 0 1 ⊢ iprop(grant (dst c 1) 1 0 ∗ grant (dst c 1) 1 1 ∗ grant (dst c 3) 3 0 ∗ grant (dst c 3) 3 1) from
    Entails.of_eq (payload_eq m c .bar 0 1)) $$ P1
  icases P0 with ⟨G00, G01, G20, G21⟩
  icases P1 with ⟨G10, G11, G30, G31⟩
  iapply h
  isplitr; · iexact Hc
  isplitl [HO]; · iexists _; iexact HO
  isplitl [F0 F1 F2 F3 G00 G01 G10 G11 G20 G21 G30 G31]
  · isplitl [F0 G00 G01]
    · iapply (fl_gr m c 0 f0 2); isplitl [F0]; · iexact F0
      iapply (gr_two c 0); isplitl [G00]; · iexact G00
      iexact G01
    isplitl [F1 G10 G11]
    · iapply (fl_gr m c 1 f1 2); isplitl [F1]; · iexact F1
      iapply (gr_two c 1); isplitl [G10]; · iexact G10
      iexact G11
    isplitl [F2 G20 G21]
    · iapply (fl_gr m c 2 f2 2); isplitl [F2]; · iexact F2
      iapply (gr_two c 2); isplitl [G20]; · iexact G20
      iexact G21
    iapply (fl_gr m c 3 f3 2); isplitl [F3]; · iexact F3
    iapply (gr_two c 3); isplitl [G30]; · iexact G30
    iexact G31
  isplitl [HD]; · iexact HD
  isplitl [HW]; · iexact HW
  isplitl [Ho]; · iexact Ho
  isplitl [HT0]; · iexact HT0
  isplitl [HT1]; · iapply (show barTok1 (F := F) c (2 - 1) ⊢ barTok1 (F := F) c (3 - 1) from .rfl); iexact HT1
  rw [if_neg (by decide : ¬ 3 ≤ 2)]
  isplitl [Hp]; · iexact Hp
  iexact Hr

end

end Cert.Ring
-- ==== Proof.States.lean ====
/- The states of a device between the parts of the kernel. -/
module

public import proofs.«01_k».proof.Proof.Memo2

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

section
variable (c : Dev nD) (K : Dev nD × Kd → ℕ) (KS : Key → ℕ)
theorem st_ret (x : GS) {α : Type} {Q : α → sProp 𝕄} (v : α) (h : St m c K KS x ⊢ Q v) : St m c K KS x ⊢ run c (.ret v) Q :=
  by
  refine h.trans ?_
  unfold run
  rw [wp_ret]
  exact fupd_intro
theorem st_bind (x : GS) {α β : Type} {Q : β → sProp 𝕄} (p : Prog (TpuEff nD τ sig (Elt F) Λ₀ .tc) α) (k : α → Prog (TpuEff nD τ sig (Elt F) Λ₀ .tc) β)
    (h : St m c K KS x ⊢ run c p (fun v => run c (k v) Q)) : St m c K KS x ⊢ run c (p >>= k) Q := by
  refine h.trans ?_
  unfold run
  rw [wp_bind]
theorem oval_copy (s : ℕ) (h : 7 ≤ s) (f : Fin 4) : k0_pay62 (X m s (src c f) f) (w2v m c) = oval m c f (s - 6) := by
  unfold oval
  rw [show 7 + (s - 6) = s + 1 by omega, X_copy m s (by omega) c f]
end

/-! ## The states between the parts of the program -/

def g0 : GS := ⟨0, ⟨0, 0, 0, 0, 0, 0, .any, .any, .away, .away⟩, ⟨0, 0, 0, 0, 0, 0, .any, .any, .away, .away⟩, ⟨0, 0, 0, 0, 0, 0, .any, .any, .away, .away⟩, ⟨0, 0, 0, 0, 0, 0, .any, .any, .away, .away⟩, ⟨0, 0, .any, .any, .any⟩, ⟨0, 0, .any, .any, .any⟩, 0, 0, 0⟩
def g1 : GS := ⟨2, ⟨0, 0, 0, 0, 0, 2, .any, .any, .away, .away⟩, ⟨0, 0, 0, 0, 0, 2, .any, .any, .away, .away⟩, ⟨0, 0, 0, 0, 0, 2, .any, .any, .away, .away⟩, ⟨0, 0, 0, 0, 0, 2, .any, .any, .away, .away⟩, ⟨0, 0, .any, .any, .any⟩, ⟨0, 0, .any, .any, .any⟩, 2, 0, 3⟩
def g2 : GS := ⟨2, ⟨0, 0, 0, 0, 0, 2, .any, .any, .away, .away⟩, ⟨0, 0, 0, 0, 0, 2, .any, .any, .away, .away⟩, ⟨0, 0, 0, 0, 0, 2, .any, .any, .away, .away⟩, ⟨0, 0, 0, 0, 0, 2, .any, .any, .away, .away⟩, ⟨1, 0, .half 0, .any, .any⟩, ⟨1, 0, .half 0, .any, .any⟩, 2, 0, 3⟩
def g3 : GS := ⟨2, ⟨0, 0, 0, 0, 0, 2, .full 0, .any, .away, .away⟩, ⟨0, 0, 0, 0, 0, 2, .any, .any, .away, .away⟩, ⟨0, 0, 0, 0, 0, 2, .any, .any, .away, .away⟩, ⟨0, 0, 0, 0, 0, 2, .any, .any, .away, .away⟩, ⟨2, 1, .full 0, .half 1, .full 0⟩, ⟨1, 0, .half 0, .any, .any⟩, 2, 0, 3⟩
def g4 : GS := ⟨4, ⟨1, 0, 0, 0, 0, 2, .half 0, .any, .away, .away⟩, ⟨0, 0, 0, 0, 0, 2, .any, .any, .away, .away⟩, ⟨1, 0, 0, 0, 0, 2, .half 0, .any, .away, .away⟩, ⟨0, 0, 0, 0, 0, 2, .any, .any, .away, .away⟩, ⟨2, 1, .full 0, .half 1, .full 0⟩, ⟨1, 0, .half 0, .any, .any⟩, 2, 0, 3⟩
def g5 : GS := ⟨4, ⟨1, 0, 0, 0, 0, 2, .half 0, .any, .away, .away⟩, ⟨0, 0, 0, 0, 0, 2, .any, .any, .away, .away⟩, ⟨1, 0, 0, 0, 0, 2, .half 0, .any, .away, .away⟩, ⟨0, 0, 0, 0, 0, 2, .any, .any, .away, .away⟩, ⟨2, 1, .full 0, .half 1, .full 0⟩, ⟨2, 1, .full 0, .half 1, .full 0⟩, 2, 0, 3⟩
def g6 : GS := ⟨5, ⟨1, 0, 0, 0, 0, 2, .half 0, .any, .away, .away⟩, ⟨1, 0, 0, 0, 0, 2, .half 0, .any, .away, .away⟩, ⟨1, 0, 0, 0, 0, 2, .half 0, .any, .away, .away⟩, ⟨0, 0, 0, 0, 0, 2, .full 0, .any, .away, .away⟩, ⟨2, 1, .full 0, .half 1, .full 0⟩, ⟨2, 1, .full 0, .half 1, .full 0⟩, 2, 0, 3⟩
def g7 : GS := ⟨6, ⟨1, 0, 0, 0, 0, 2, .half 0, .any, .away, .away⟩, ⟨1, 0, 0, 0, 0, 2, .half 0, .any, .away, .away⟩, ⟨1, 0, 0, 0, 0, 2, .half 0, .any, .away, .away⟩, ⟨1, 0, 0, 0, 0, 2, .half 0, .any, .away, .away⟩, ⟨3, 2, .half 2, .full 1, .full 1⟩, ⟨2, 1, .full 0, .half 1, .full 0⟩, 2, 0, 3⟩
def g8 : GS := ⟨6, ⟨1, 0, 0, 0, 0, 2, .half 0, .any, .away, .away⟩, ⟨1, 0, 0, 0, 0, 2, .half 0, .any, .away, .away⟩, ⟨1, 0, 0, 0, 0, 2, .half 0, .any, .away, .away⟩, ⟨1, 0, 0, 0, 0, 2, .half 0, .any, .away, .away⟩, ⟨3, 2, .half 2, .full 1, .full 1⟩, ⟨3, 2, .half 2, .full 1, .full 1⟩, 2, 0, 3⟩
def g9 : GS := ⟨7, ⟨1, 0, 1, 1, 0, 2, .half 0, .full 1, .away, .away⟩, ⟨1, 0, 0, 0, 0, 2, .half 0, .any, .away, .away⟩, ⟨1, 0, 0, 0, 0, 2, .half 0, .any, .away, .away⟩, ⟨1, 0, 0, 0, 0, 2, .half 0, .any, .away, .away⟩, ⟨3, 2, .half 2, .full 1, .full 1⟩, ⟨3, 2, .half 2, .full 1, .full 1⟩, 2, 0, 3⟩
def g10 : GS := ⟨9, ⟨2, 0, 1, 1, 0, 2, .half 0, .half 1, .away, .away⟩, ⟨1, 0, 1, 1, 0, 2, .half 0, .full 1, .away, .away⟩, ⟨1, 0, 0, 0, 0, 2, .half 0, .any, .away, .away⟩, ⟨1, 0, 0, 0, 0, 2, .half 0, .any, .away, .away⟩, ⟨3, 2, .half 2, .full 1, .full 1⟩, ⟨3, 2, .half 2, .full 1, .full 1⟩, 2, 0, 3⟩
def g11 : GS := ⟨10, ⟨2, 0, 1, 1, 0, 2, .half 0, .half 1, .away, .away⟩, ⟨2, 0, 1, 1, 0, 2, .half 0, .half 1, .away, .away⟩, ⟨1, 0, 1, 0, 0, 2, .half 0, .full 1, .full 0, .away⟩, ⟨1, 0, 0, 0, 0, 2, .half 0, .any, .away, .away⟩, ⟨3, 2, .half 2, .full 1, .full 1⟩, ⟨3, 2, .half 2, .full 1, .full 1⟩, 2, 0, 3⟩
def g12 : GS := ⟨12, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨1, 0, 1, 0, 0, 2, .half 0, .any, .full 0, .away⟩, ⟨3, 2, .half 2, .full 1, .full 1⟩, ⟨3, 2, .half 2, .full 1, .full 1⟩, 2, 0, 3⟩
def g13 : GS := ⟨14, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨3, 3, .full 2, .full 1, .full 1⟩, ⟨3, 2, .half 2, .full 1, .full 1⟩, 2, 0, 3⟩
def g14 : GS := ⟨14, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨4, 3, .full 2, .half 3, .full 2⟩, ⟨3, 3, .full 2, .full 1, .full 1⟩, 2, 0, 3⟩
def g15 : GS := ⟨14, ⟨2, 0, 2, 1, 0, 2, .half 0, .half 1, .away, .full 1⟩, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨4, 3, .full 2, .half 3, .full 2⟩, ⟨4, 3, .full 2, .half 3, .full 2⟩, 2, 0, 3⟩
def g16 : GS := ⟨16, ⟨3, 1, 2, 2, 1, 3, .half 2, .half 1, .away, .away⟩, ⟨2, 0, 1, 1, 0, 2, .half 0, .half 1, .away, .away⟩, ⟨2, 0, 1, 1, 0, 2, .half 0, .half 1, .away, .away⟩, ⟨2, 0, 1, 1, 0, 2, .half 0, .half 1, .away, .away⟩, ⟨4, 3, .full 2, .half 3, .full 2⟩, ⟨4, 3, .full 2, .half 3, .full 2⟩, 2, 0, 3⟩
def g17 : GS := ⟨16, ⟨3, 1, 2, 2, 1, 3, .half 2, .half 1, .away, .away⟩, ⟨2, 1, 2, 1, 0, 2, .full 2, .half 1, .away, .full 1⟩, ⟨2, 0, 1, 1, 0, 2, .half 0, .half 1, .away, .away⟩, ⟨2, 0, 1, 1, 0, 2, .half 0, .half 1, .away, .away⟩, ⟨4, 3, .full 2, .half 3, .full 2⟩, ⟨4, 3, .full 2, .half 3, .full 2⟩, 2, 0, 3⟩
def g18 : GS := ⟨18, ⟨3, 1, 2, 2, 1, 3, .half 2, .half 1, .away, .away⟩, ⟨3, 1, 2, 2, 1, 3, .half 2, .half 1, .away, .away⟩, ⟨2, 0, 2, 1, 0, 2, .half 0, .half 1, .away, .full 1⟩, ⟨2, 0, 1, 1, 0, 2, .half 0, .half 1, .away, .away⟩, ⟨4, 3, .full 2, .half 3, .full 2⟩, ⟨4, 3, .full 2, .half 3, .full 2⟩, 2, 0, 3⟩
def g19 : GS := ⟨19, ⟨3, 1, 2, 2, 1, 3, .half 2, .half 1, .away, .away⟩, ⟨3, 1, 2, 2, 1, 3, .half 2, .half 1, .away, .away⟩, ⟨2, 1, 2, 2, 1, 3, .full 2, .half 1, .away, .away⟩, ⟨2, 0, 1, 1, 0, 2, .half 0, .half 1, .away, .away⟩, ⟨4, 3, .full 2, .half 3, .full 2⟩, ⟨4, 3, .full 2, .half 3, .full 2⟩, 2, 0, 3⟩
def g20 : GS := ⟨20, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨2, 1, 2, 1, 0, 2, .any, .half 1, .away, .full 1⟩, ⟨4, 3, .full 2, .half 3, .full 2⟩, ⟨4, 3, .full 2, .half 3, .full 2⟩, 2, 0, 3⟩
def g21 : GS := ⟨22, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨4, 4, .full 2, .full 3, .full 2⟩, ⟨4, 3, .full 2, .half 3, .full 2⟩, 2, 0, 3⟩
def g22 : GS := ⟨22, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨5, 4, .half 4, .full 3, .full 3⟩, ⟨4, 4, .full 2, .full 3, .full 2⟩, 2, 0, 3⟩
def g23 : GS := ⟨22, ⟨3, 1, 3, 2, 1, 3, .half 2, .half 1, .full 2, .away⟩, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨5, 4, .half 4, .full 3, .full 3⟩, ⟨5, 4, .half 4, .full 3, .full 3⟩, 2, 0, 3⟩
def g24 : GS := ⟨24, ⟨4, 2, 3, 3, 2, 4, .half 2, .half 3, .away, .away⟩, ⟨3, 1, 2, 2, 1, 3, .half 2, .half 1, .away, .away⟩, ⟨3, 1, 2, 2, 1, 3, .half 2, .half 1, .away, .away⟩, ⟨3, 1, 2, 2, 1, 3, .half 2, .half 1, .away, .away⟩, ⟨5, 4, .half 4, .full 3, .full 3⟩, ⟨5, 4, .half 4, .full 3, .full 3⟩, 2, 0, 3⟩
def g25 : GS := ⟨24, ⟨4, 2, 3, 3, 2, 4, .half 2, .half 3, .away, .away⟩, ⟨3, 2, 3, 2, 1, 3, .half 2, .full 3, .full 2, .away⟩, ⟨3, 1, 2, 2, 1, 3, .half 2, .half 1, .away, .away⟩, ⟨3, 1, 2, 2, 1, 3, .half 2, .half 1, .away, .away⟩, ⟨5, 4, .half 4, .full 3, .full 3⟩, ⟨5, 4, .half 4, .full 3, .full 3⟩, 2, 0, 3⟩
def g26 : GS := ⟨26, ⟨4, 2, 3, 3, 2, 4, .half 2, .half 3, .away, .away⟩, ⟨4, 2, 3, 3, 2, 4, .half 2, .half 3, .away, .away⟩, ⟨3, 1, 3, 2, 1, 3, .half 2, .half 1, .full 2, .away⟩, ⟨3, 1, 2, 2, 1, 3, .half 2, .half 1, .away, .away⟩, ⟨5, 4, .half 4, .full 3, .full 3⟩, ⟨5, 4, .half 4, .full 3, .full 3⟩, 2, 0, 3⟩
def g27 : GS := ⟨27, ⟨4, 2, 3, 3, 2, 4, .half 2, .half 3, .away, .away⟩, ⟨4, 2, 3, 3, 2, 4, .half 2, .half 3, .away, .away⟩, ⟨3, 2, 3, 3, 2, 4, .half 2, .full 3, .away, .away⟩, ⟨3, 1, 2, 2, 1, 3, .half 2, .half 1, .away, .away⟩, ⟨5, 4, .half 4, .full 3, .full 3⟩, ⟨5, 4, .half 4, .full 3, .full 3⟩, 2, 0, 3⟩
def g28 : GS := ⟨28, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨3, 2, 3, 2, 1, 3, .half 2, .any, .full 2, .away⟩, ⟨5, 4, .half 4, .full 3, .full 3⟩, ⟨5, 4, .half 4, .full 3, .full 3⟩, 2, 0, 3⟩
def g29 : GS := ⟨30, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨5, 5, .full 4, .full 3, .full 3⟩, ⟨5, 4, .half 4, .full 3, .full 3⟩, 2, 0, 3⟩
def g30 : GS := ⟨30, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨6, 5, .full 4, .half 5, .full 4⟩, ⟨5, 5, .full 4, .full 3, .full 3⟩, 2, 0, 3⟩
def g31 : GS := ⟨30, ⟨4, 2, 4, 3, 2, 4, .half 2, .half 3, .away, .full 3⟩, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨6, 5, .full 4, .half 5, .full 4⟩, ⟨6, 5, .full 4, .half 5, .full 4⟩, 2, 0, 3⟩
def g32 : GS := ⟨32, ⟨5, 3, 4, 4, 3, 5, .half 4, .half 3, .away, .away⟩, ⟨4, 2, 3, 3, 2, 4, .half 2, .half 3, .away, .away⟩, ⟨4, 2, 3, 3, 2, 4, .half 2, .half 3, .away, .away⟩, ⟨4, 2, 3, 3, 2, 4, .half 2, .half 3, .away, .away⟩, ⟨6, 5, .full 4, .half 5, .full 4⟩, ⟨6, 5, .full 4, .half 5, .full 4⟩, 2, 0, 3⟩
def g33 : GS := ⟨32, ⟨5, 3, 4, 4, 3, 5, .half 4, .half 3, .away, .away⟩, ⟨4, 3, 4, 3, 2, 4, .full 4, .half 3, .away, .full 3⟩, ⟨4, 2, 3, 3, 2, 4, .half 2, .half 3, .away, .away⟩, ⟨4, 2, 3, 3, 2, 4, .half 2, .half 3, .away, .away⟩, ⟨6, 5, .full 4, .half 5, .full 4⟩, ⟨6, 5, .full 4, .half 5, .full 4⟩, 2, 0, 3⟩
def g34 : GS := ⟨34, ⟨5, 3, 4, 4, 3, 5, .half 4, .half 3, .away, .away⟩, ⟨5, 3, 4, 4, 3, 5, .half 4, .half 3, .away, .away⟩, ⟨4, 2, 4, 3, 2, 4, .half 2, .half 3, .away, .full 3⟩, ⟨4, 2, 3, 3, 2, 4, .half 2, .half 3, .away, .away⟩, ⟨6, 5, .full 4, .half 5, .full 4⟩, ⟨6, 5, .full 4, .half 5, .full 4⟩, 2, 0, 3⟩
def g35 : GS := ⟨35, ⟨5, 3, 4, 4, 3, 5, .half 4, .half 3, .away, .away⟩, ⟨5, 3, 4, 4, 3, 5, .half 4, .half 3, .away, .away⟩, ⟨4, 3, 4, 4, 3, 5, .full 4, .half 3, .away, .away⟩, ⟨4, 2, 3, 3, 2, 4, .half 2, .half 3, .away, .away⟩, ⟨6, 5, .full 4, .half 5, .full 4⟩, ⟨6, 5, .full 4, .half 5, .full 4⟩, 2, 0, 3⟩
def g36 : GS := ⟨36, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨4, 3, 4, 3, 2, 4, .any, .half 3, .away, .full 3⟩, ⟨6, 5, .full 4, .half 5, .full 4⟩, ⟨6, 5, .full 4, .half 5, .full 4⟩, 2, 0, 3⟩
def g37 : GS := ⟨38, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨6, 6, .full 4, .full 5, .full 4⟩, ⟨6, 5, .full 4, .half 5, .full 4⟩, 2, 0, 3⟩
def g38 : GS := ⟨38, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨7, 6, .half 6, .full 5, .full 5⟩, ⟨6, 6, .full 4, .full 5, .full 4⟩, 2, 0, 3⟩
def g39 : GS := ⟨38, ⟨5, 3, 5, 4, 3, 5, .half 4, .half 3, .full 4, .away⟩, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨7, 6, .half 6, .full 5, .full 5⟩, ⟨7, 6, .half 6, .full 5, .full 5⟩, 2, 0, 3⟩
def g40 : GS := ⟨40, ⟨6, 4, 5, 5, 4, 6, .half 4, .half 5, .away, .away⟩, ⟨5, 3, 4, 4, 3, 5, .half 4, .half 3, .away, .away⟩, ⟨5, 3, 4, 4, 3, 5, .half 4, .half 3, .away, .away⟩, ⟨5, 3, 4, 4, 3, 5, .half 4, .half 3, .away, .away⟩, ⟨7, 6, .half 6, .full 5, .full 5⟩, ⟨7, 6, .half 6, .full 5, .full 5⟩, 2, 0, 3⟩
def g41 : GS := ⟨40, ⟨6, 4, 5, 5, 4, 6, .half 4, .half 5, .away, .away⟩, ⟨5, 4, 5, 4, 3, 5, .half 4, .full 5, .full 4, .away⟩, ⟨5, 3, 4, 4, 3, 5, .half 4, .half 3, .away, .away⟩, ⟨5, 3, 4, 4, 3, 5, .half 4, .half 3, .away, .away⟩, ⟨7, 6, .half 6, .full 5, .full 5⟩, ⟨7, 6, .half 6, .full 5, .full 5⟩, 2, 0, 3⟩
def g42 : GS := ⟨42, ⟨6, 4, 5, 5, 4, 6, .half 4, .half 5, .away, .away⟩, ⟨6, 4, 5, 5, 4, 6, .half 4, .half 5, .away, .away⟩, ⟨5, 3, 5, 4, 3, 5, .half 4, .half 3, .full 4, .away⟩, ⟨5, 3, 4, 4, 3, 5, .half 4, .half 3, .away, .away⟩, ⟨7, 6, .half 6, .full 5, .full 5⟩, ⟨7, 6, .half 6, .full 5, .full 5⟩, 2, 0, 3⟩
def g43 : GS := ⟨43, ⟨6, 4, 5, 5, 4, 6, .half 4, .half 5, .away, .away⟩, ⟨6, 4, 5, 5, 4, 6, .half 4, .half 5, .away, .away⟩, ⟨5, 4, 5, 5, 4, 6, .half 4, .full 5, .away, .away⟩, ⟨5, 3, 4, 4, 3, 5, .half 4, .half 3, .away, .away⟩, ⟨7, 6, .half 6, .full 5, .full 5⟩, ⟨7, 6, .half 6, .full 5, .full 5⟩, 2, 0, 3⟩
def g44 : GS := ⟨44, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨5, 4, 5, 4, 3, 5, .half 4, .any, .full 4, .away⟩, ⟨7, 6, .half 6, .full 5, .full 5⟩, ⟨7, 6, .half 6, .full 5, .full 5⟩, 2, 0, 3⟩
def g45 : GS := ⟨46, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨7, 7, .full 6, .full 5, .full 5⟩, ⟨7, 6, .half 6, .full 5, .full 5⟩, 2, 0, 3⟩
def g46 : GS := ⟨46, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨8, 7, .full 6, .half 7, .full 6⟩, ⟨7, 7, .full 6, .full 5, .full 5⟩, 2, 0, 3⟩
def g47 : GS := ⟨46, ⟨6, 4, 6, 5, 4, 6, .half 4, .half 5, .away, .full 5⟩, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨8, 7, .full 6, .half 7, .full 6⟩, ⟨8, 7, .full 6, .half 7, .full 6⟩, 2, 0, 3⟩
def g48 : GS := ⟨48, ⟨7, 5, 6, 6, 5, 7, .half 6, .half 5, .away, .away⟩, ⟨6, 4, 5, 5, 4, 6, .half 4, .half 5, .away, .away⟩, ⟨6, 4, 5, 5, 4, 6, .half 4, .half 5, .away, .away⟩, ⟨6, 4, 5, 5, 4, 6, .half 4, .half 5, .away, .away⟩, ⟨8, 7, .full 6, .half 7, .full 6⟩, ⟨8, 7, .full 6, .half 7, .full 6⟩, 2, 0, 3⟩
def g49 : GS := ⟨48, ⟨7, 5, 6, 6, 5, 7, .half 6, .half 5, .away, .away⟩, ⟨6, 5, 6, 5, 4, 6, .full 6, .half 5, .away, .full 5⟩, ⟨6, 4, 5, 5, 4, 6, .half 4, .half 5, .away, .away⟩, ⟨6, 4, 5, 5, 4, 6, .half 4, .half 5, .away, .away⟩, ⟨8, 7, .full 6, .half 7, .full 6⟩, ⟨8, 7, .full 6, .half 7, .full 6⟩, 2, 0, 3⟩
def g50 : GS := ⟨50, ⟨7, 5, 6, 6, 5, 7, .half 6, .half 5, .away, .away⟩, ⟨7, 5, 6, 6, 5, 7, .half 6, .half 5, .away, .away⟩, ⟨6, 4, 6, 5, 4, 6, .half 4, .half 5, .away, .full 5⟩, ⟨6, 4, 5, 5, 4, 6, .half 4, .half 5, .away, .away⟩, ⟨8, 7, .full 6, .half 7, .full 6⟩, ⟨8, 7, .full 6, .half 7, .full 6⟩, 2, 0, 3⟩
def g51 : GS := ⟨51, ⟨7, 5, 6, 6, 5, 7, .half 6, .half 5, .away, .away⟩, ⟨7, 5, 6, 6, 5, 7, .half 6, .half 5, .away, .away⟩, ⟨6, 5, 6, 6, 5, 7, .full 6, .half 5, .away, .away⟩, ⟨6, 4, 5, 5, 4, 6, .half 4, .half 5, .away, .away⟩, ⟨8, 7, .full 6, .half 7, .full 6⟩, ⟨8, 7, .full 6, .half 7, .full 6⟩, 2, 0, 3⟩
def g52 : GS := ⟨52, ⟨7, 5, 6, 6, 5, 7, .half 6, .half 5, .away, .away⟩, ⟨7, 5, 6, 6, 5, 7, .half 6, .half 5, .away, .away⟩, ⟨7, 5, 6, 6, 5, 7, .half 6, .half 5, .away, .away⟩, ⟨6, 5, 6, 5, 4, 6, .any, .half 5, .away, .full 5⟩, ⟨8, 7, .full 6, .half 7, .full 6⟩, ⟨8, 7, .full 6, .half 7, .full 6⟩, 2, 0, 3⟩
def g53 : GS := ⟨54, ⟨7, 5, 6, 6, 5, 7, .half 6, .half 5, .away, .away⟩, ⟨7, 5, 6, 6, 5, 7, .half 6, .half 5, .away, .away⟩, ⟨7, 5, 6, 6, 5, 7, .half 6, .half 5, .away, .away⟩, ⟨7, 5, 6, 6, 5, 7, .half 6, .half 5, .away, .away⟩, ⟨8, 8, .full 6, .full 7, .full 6⟩, ⟨8, 7, .full 6, .half 7, .full 6⟩, 2, 0, 3⟩
def g54 : GS := ⟨54, ⟨7, 5, 6, 6, 5, 7, .half 6, .half 5, .away, .away⟩, ⟨7, 5, 6, 6, 5, 7, .half 6, .half 5, .away, .away⟩, ⟨7, 5, 6, 6, 5, 7, .half 6, .half 5, .away, .away⟩, ⟨7, 5, 6, 6, 5, 7, .half 6, .half 5, .away, .away⟩, ⟨8, 8, .full 6, .full 7, .full 7⟩, ⟨8, 8, .full 6, .full 7, .full 7⟩, 2, 0, 3⟩
def g55 : GS := ⟨55, ⟨7, 6, 7, 7, 5, 7, .half 6, .full 7, .away, .away⟩, ⟨7, 5, 6, 6, 5, 7, .half 6, .half 5, .away, .away⟩, ⟨7, 5, 6, 6, 5, 7, .half 6, .half 5, .away, .away⟩, ⟨7, 5, 6, 6, 5, 7, .half 6, .half 5, .away, .away⟩, ⟨8, 8, .full 6, .full 7, .full 7⟩, ⟨8, 8, .full 6, .full 7, .full 7⟩, 2, 0, 3⟩
def g56 : GS := ⟨56, ⟨7, 6, 7, 7, 5, 7, .half 6, .full 7, .away, .away⟩, ⟨7, 6, 7, 7, 5, 7, .half 6, .full 7, .away, .away⟩, ⟨7, 5, 6, 6, 5, 7, .half 6, .half 5, .away, .away⟩, ⟨7, 5, 6, 6, 5, 7, .half 6, .half 5, .away, .away⟩, ⟨8, 8, .full 6, .full 7, .full 7⟩, ⟨8, 8, .full 6, .full 7, .full 7⟩, 2, 0, 3⟩
def g57 : GS := ⟨56, ⟨7, 6, 7, 7, 5, 7, .half 6, .full 7, .away, .away⟩, ⟨7, 6, 7, 7, 5, 7, .half 6, .full 7, .away, .away⟩, ⟨7, 6, 7, 6, 5, 7, .half 6, .full 7, .full 6, .away⟩, ⟨7, 5, 6, 6, 5, 7, .half 6, .half 5, .away, .away⟩, ⟨8, 8, .full 6, .full 7, .full 7⟩, ⟨8, 8, .full 6, .full 7, .full 7⟩, 2, 0, 3⟩
def g58 : GS := ⟨57, ⟨7, 6, 7, 7, 5, 7, .half 6, .full 7, .away, .away⟩, ⟨7, 6, 7, 7, 5, 7, .half 6, .full 7, .away, .away⟩, ⟨7, 6, 7, 7, 5, 7, .half 6, .full 7, .away, .away⟩, ⟨7, 6, 7, 6, 5, 7, .half 6, .any, .full 6, .away⟩, ⟨8, 8, .full 6, .full 7, .full 7⟩, ⟨8, 8, .full 6, .full 7, .full 7⟩, 2, 0, 3⟩
def g59 : GS := ⟨59, ⟨8, 7, 7, 7, 6, 8, .any, .half 7, .away, .away⟩, ⟨7, 6, 7, 7, 5, 7, .half 6, .full 7, .away, .away⟩, ⟨7, 6, 7, 7, 5, 7, .half 6, .full 7, .away, .away⟩, ⟨7, 6, 7, 7, 5, 7, .half 6, .full 7, .away, .away⟩, ⟨8, 8, .full 6, .full 7, .full 7⟩, ⟨8, 8, .full 6, .full 7, .full 7⟩, 2, 0, 3⟩
def g60 : GS := ⟨60, ⟨8, 7, 7, 7, 6, 8, .any, .half 7, .away, .away⟩, ⟨8, 7, 7, 7, 6, 8, .any, .half 7, .away, .away⟩, ⟨7, 6, 7, 7, 5, 7, .half 6, .full 7, .away, .away⟩, ⟨7, 6, 7, 7, 5, 7, .half 6, .full 7, .away, .away⟩, ⟨8, 8, .full 6, .full 7, .full 7⟩, ⟨8, 8, .full 6, .full 7, .full 7⟩, 2, 1, 3⟩
def g61 : GS := ⟨61, ⟨8, 7, 7, 7, 6, 8, .any, .half 7, .away, .away⟩, ⟨8, 7, 7, 7, 6, 8, .any, .half 7, .away, .away⟩, ⟨8, 7, 7, 7, 6, 8, .any, .half 7, .away, .away⟩, ⟨7, 6, 7, 7, 5, 7, .half 6, .full 7, .away, .away⟩, ⟨8, 8, .full 6, .full 7, .full 7⟩, ⟨8, 8, .full 6, .full 7, .full 7⟩, 2, 2, 3⟩
def g62 : GS := ⟨62, ⟨8, 7, 7, 7, 6, 8, .any, .half 7, .away, .away⟩, ⟨8, 7, 7, 7, 6, 8, .any, .half 7, .away, .away⟩, ⟨8, 7, 7, 7, 6, 8, .any, .half 7, .away, .away⟩, ⟨8, 6, 7, 7, 6, 8, .half 6, .half 7, .away, .away⟩, ⟨8, 8, .full 6, .full 7, .full 7⟩, ⟨8, 8, .full 6, .full 7, .full 7⟩, 2, 3, 3⟩
def g63 : GS := ⟨62, ⟨8, 8, 8, 7, 6, 8, .any, .any, .away, .full 7⟩, ⟨8, 7, 7, 7, 6, 8, .any, .half 7, .away, .away⟩, ⟨8, 7, 7, 7, 6, 8, .any, .half 7, .away, .away⟩, ⟨8, 7, 7, 7, 6, 8, .any, .half 7, .away, .away⟩, ⟨8, 8, .full 6, .full 7, .full 7⟩, ⟨8, 8, .full 6, .full 7, .full 7⟩, 2, 4, 3⟩
def g64 : GS := ⟨63, ⟨9, 8, 8, 7, 7, 9, .any, .any, .away, .half 7⟩, ⟨8, 7, 7, 7, 6, 8, .any, .half 7, .away, .away⟩, ⟨8, 7, 7, 7, 6, 8, .any, .half 7, .away, .away⟩, ⟨8, 7, 7, 7, 6, 8, .any, .half 7, .away, .away⟩, ⟨8, 8, .full 6, .full 7, .full 7⟩, ⟨8, 8, .full 6, .full 7, .full 7⟩, 2, 5, 3⟩
def g65 : GS := ⟨64, ⟨9, 8, 8, 7, 7, 9, .any, .any, .away, .half 7⟩, ⟨9, 8, 8, 7, 7, 9, .any, .any, .away, .half 7⟩, ⟨8, 7, 7, 7, 6, 8, .any, .half 7, .away, .away⟩, ⟨8, 7, 7, 7, 6, 8, .any, .half 7, .away, .away⟩, ⟨8, 8, .full 6, .full 7, .full 7⟩, ⟨8, 8, .full 6, .full 7, .full 7⟩, 2, 5, 3⟩
def g66 : GS := ⟨64, ⟨9, 8, 8, 7, 7, 9, .any, .any, .away, .half 7⟩, ⟨9, 8, 8, 7, 7, 9, .any, .any, .away, .half 7⟩, ⟨8, 8, 8, 7, 7, 9, .any, .any, .away, .full 7⟩, ⟨8, 7, 7, 7, 6, 8, .any, .half 7, .away, .away⟩, ⟨8, 8, .full 6, .full 7, .full 7⟩, ⟨8, 8, .full 6, .full 7, .full 7⟩, 2, 6, 3⟩
def g67 : GS := ⟨65, ⟨9, 8, 8, 7, 7, 9, .any, .any, .away, .half 7⟩, ⟨9, 8, 8, 7, 7, 9, .any, .any, .away, .half 7⟩, ⟨9, 8, 8, 7, 7, 9, .any, .any, .away, .half 7⟩, ⟨8, 7, 7, 7, 6, 8, .any, .half 7, .away, .away⟩, ⟨8, 8, .full 6, .full 7, .full 7⟩, ⟨8, 8, .full 6, .full 7, .full 7⟩, 2, 7, 3⟩
def g68 : GS := ⟨66, ⟨9, 8, 8, 7, 7, 9, .any, .any, .away, .half 7⟩, ⟨9, 8, 8, 7, 7, 9, .any, .any, .away, .half 7⟩, ⟨9, 8, 8, 7, 7, 9, .any, .any, .away, .half 7⟩, ⟨9, 8, 8, 7, 7, 9, .any, .any, .away, .half 7⟩, ⟨8, 8, .full 6, .full 7, .full 7⟩, ⟨8, 8, .full 6, .full 7, .full 7⟩, 2, 7, 3⟩
def g69 : GS := ⟨66, ⟨9, 9, 9, 7, 7, 9, .any, .any, .full 8, .any⟩, ⟨9, 8, 8, 7, 7, 9, .any, .any, .away, .half 7⟩, ⟨9, 8, 8, 7, 7, 9, .any, .any, .away, .half 7⟩, ⟨9, 8, 8, 7, 7, 9, .any, .any, .away, .half 7⟩, ⟨8, 8, .full 6, .full 7, .full 7⟩, ⟨8, 8, .full 6, .full 7, .full 7⟩, 2, 8, 3⟩
def g70 : GS := ⟨68, ⟨10, 9, 9, 8, 8, 10, .any, .any, .half 8, .away⟩, ⟨9, 8, 8, 7, 7, 9, .any, .any, .away, .half 7⟩, ⟨9, 8, 8, 7, 7, 9, .any, .any, .away, .half 7⟩, ⟨9, 8, 8, 7, 7, 9, .any, .any, .away, .half 7⟩, ⟨8, 8, .full 6, .full 7, .full 7⟩, ⟨8, 8, .full 6, .full 7, .full 7⟩, 2, 9, 3⟩
def g71 : GS := ⟨69, ⟨10, 9, 9, 8, 8, 10, .any, .any, .half 8, .away⟩, ⟨9, 9, 9, 8, 8, 10, .any, .any, .full 8, .away⟩, ⟨9, 8, 8, 7, 7, 9, .any, .any, .away, .half 7⟩, ⟨9, 8, 8, 7, 7, 9, .any, .any, .away, .half 7⟩, ⟨8, 8, .full 6, .full 7, .full 7⟩, ⟨8, 8, .full 6, .full 7, .full 7⟩, 2, 9, 3⟩
def g72 : GS := ⟨70, ⟨10, 9, 9, 8, 8, 10, .any, .any, .half 8, .away⟩, ⟨10, 9, 9, 8, 8, 10, .any, .any, .half 8, .away⟩, ⟨9, 8, 9, 7, 7, 9, .any, .any, .full 8, .half 7⟩, ⟨9, 8, 8, 7, 7, 9, .any, .any, .away, .half 7⟩, ⟨8, 8, .full 6, .full 7, .full 7⟩, ⟨8, 8, .full 6, .full 7, .full 7⟩, 2, 10, 3⟩
def g73 : GS := ⟨72, ⟨10, 9, 9, 8, 8, 10, .any, .any, .half 8, .away⟩, ⟨10, 9, 9, 8, 8, 10, .any, .any, .half 8, .away⟩, ⟨10, 9, 9, 8, 8, 10, .any, .any, .half 8, .away⟩, ⟨9, 8, 8, 7, 7, 9, .any, .any, .away, .half 7⟩, ⟨8, 8, .full 6, .full 7, .full 7⟩, ⟨8, 8, .full 6, .full 7, .full 7⟩, 2, 10, 3⟩
def g74 : GS := ⟨73, ⟨10, 9, 9, 8, 8, 10, .any, .any, .half 8, .away⟩, ⟨10, 9, 9, 8, 8, 10, .any, .any, .half 8, .away⟩, ⟨10, 9, 9, 8, 8, 10, .any, .any, .half 8, .away⟩, ⟨9, 9, 9, 8, 8, 10, .any, .any, .full 8, .away⟩, ⟨8, 8, .full 6, .full 7, .full 7⟩, ⟨8, 8, .full 6, .full 7, .full 7⟩, 2, 11, 3⟩
def g75 : GS := ⟨74, ⟨10, 9, 10, 8, 8, 10, .any, .any, .half 8, .full 9⟩, ⟨10, 9, 9, 8, 8, 10, .any, .any, .half 8, .away⟩, ⟨10, 9, 9, 8, 8, 10, .any, .any, .half 8, .away⟩, ⟨10, 9, 9, 8, 8, 10, .any, .any, .half 8, .away⟩, ⟨8, 8, .full 6, .full 7, .full 7⟩, ⟨8, 8, .full 6, .full 7, .full 7⟩, 2, 12, 3⟩
def g76 : GS := ⟨76, ⟨11, 10, 10, 9, 9, 11, .any, .any, .away, .half 9⟩, ⟨10, 9, 9, 8, 8, 10, .any, .any, .half 8, .away⟩, ⟨10, 9, 9, 8, 8, 10, .any, .any, .half 8, .away⟩, ⟨10, 9, 9, 8, 8, 10, .any, .any, .half 8, .away⟩, ⟨8, 8, .full 6, .full 7, .full 7⟩, ⟨8, 8, .full 6, .full 7, .full 7⟩, 2, 12, 3⟩
def g77 : GS := ⟨77, ⟨11, 10, 10, 9, 9, 11, .any, .any, .away, .half 9⟩, ⟨10, 10, 10, 9, 9, 11, .any, .any, .away, .full 9⟩, ⟨10, 9, 9, 8, 8, 10, .any, .any, .half 8, .away⟩, ⟨10, 9, 9, 8, 8, 10, .any, .any, .half 8, .away⟩, ⟨8, 8, .full 6, .full 7, .full 7⟩, ⟨8, 8, .full 6, .full 7, .full 7⟩, 2, 13, 3⟩
def g78 : GS := ⟨78, ⟨11, 10, 10, 9, 9, 11, .any, .any, .away, .half 9⟩, ⟨11, 10, 10, 9, 9, 11, .any, .any, .away, .half 9⟩, ⟨10, 9, 9, 8, 8, 10, .any, .any, .half 8, .away⟩, ⟨10, 9, 9, 8, 8, 10, .any, .any, .half 8, .away⟩, ⟨8, 8, .full 6, .full 7, .full 7⟩, ⟨8, 8, .full 6, .full 7, .full 7⟩, 2, 14, 3⟩
def g79 : GS := ⟨80, ⟨11, 10, 10, 9, 9, 11, .any, .any, .away, .half 9⟩, ⟨11, 10, 10, 9, 9, 11, .any, .any, .away, .half 9⟩, ⟨11, 10, 10, 9, 9, 11, .any, .any, .away, .half 9⟩, ⟨10, 9, 9, 8, 8, 10, .any, .any, .half 8, .away⟩, ⟨8, 8, .full 6, .full 7, .full 7⟩, ⟨8, 8, .full 6, .full 7, .full 7⟩, 2, 14, 3⟩
def g80 : GS := ⟨80, ⟨11, 10, 10, 9, 9, 11, .any, .any, .away, .half 9⟩, ⟨11, 10, 10, 9, 9, 11, .any, .any, .away, .half 9⟩, ⟨11, 10, 10, 9, 9, 11, .any, .any, .away, .half 9⟩, ⟨10, 9, 10, 8, 8, 10, .any, .any, .half 8, .full 9⟩, ⟨8, 8, .full 6, .full 7, .full 7⟩, ⟨8, 8, .full 6, .full 7, .full 7⟩, 2, 15, 3⟩
def g81 : GS := ⟨82, ⟨11, 10, 10, 9, 9, 11, .any, .any, .away, .half 9⟩, ⟨11, 10, 10, 9, 9, 11, .any, .any, .away, .half 9⟩, ⟨11, 10, 10, 9, 9, 11, .any, .any, .away, .half 9⟩, ⟨11, 10, 10, 9, 9, 11, .any, .any, .away, .half 9⟩, ⟨8, 8, .full 6, .full 7, .full 7⟩, ⟨8, 8, .full 6, .full 7, .full 7⟩, 2, 16, 3⟩
def g82 : GS := ⟨83, ⟨11, 11, 11, 10, 10, 12, .any, .any, .full 10, .away⟩, ⟨11, 10, 10, 9, 9, 11, .any, .any, .away, .half 9⟩, ⟨11, 10, 10, 9, 9, 11, .any, .any, .away, .half 9⟩, ⟨11, 10, 10, 9, 9, 11, .any, .any, .away, .half 9⟩, ⟨8, 8, .full 6, .full 7, .full 7⟩, ⟨8, 8, .full 6, .full 7, .full 7⟩, 2, 16, 3⟩
def g83 : GS := ⟨84, ⟨12, 11, 11, 10, 10, 12, .any, .any, .half 10, .away⟩, ⟨11, 10, 11, 9, 9, 11, .any, .any, .full 10, .half 9⟩, ⟨11, 10, 10, 9, 9, 11, .any, .any, .away, .half 9⟩, ⟨11, 10, 10, 9, 9, 11, .any, .any, .away, .half 9⟩, ⟨8, 8, .full 6, .full 7, .full 7⟩, ⟨8, 8, .full 6, .full 7, .full 7⟩, 2, 17, 3⟩
def g84 : GS := ⟨86, ⟨12, 11, 11, 10, 10, 12, .any, .any, .half 10, .away⟩, ⟨12, 11, 11, 10, 10, 12, .any, .any, .half 10, .away⟩, ⟨11, 10, 10, 9, 9, 11, .any, .any, .away, .half 9⟩, ⟨11, 10, 10, 9, 9, 11, .any, .any, .away, .half 9⟩, ⟨8, 8, .full 6, .full 7, .full 7⟩, ⟨8, 8, .full 6, .full 7, .full 7⟩, 2, 17, 3⟩
def g85 : GS := ⟨87, ⟨12, 11, 11, 10, 10, 12, .any, .any, .half 10, .away⟩, ⟨12, 11, 11, 10, 10, 12, .any, .any, .half 10, .away⟩, ⟨11, 11, 11, 10, 10, 12, .any, .any, .full 10, .away⟩, ⟨11, 10, 10, 9, 9, 11, .any, .any, .away, .half 9⟩, ⟨8, 8, .full 6, .full 7, .full 7⟩, ⟨8, 8, .full 6, .full 7, .full 7⟩, 2, 18, 3⟩
def g86 : GS := ⟨88, ⟨12, 11, 11, 10, 10, 12, .any, .any, .half 10, .away⟩, ⟨12, 11, 11, 10, 10, 12, .any, .any, .half 10, .away⟩, ⟨12, 11, 11, 10, 10, 12, .any, .any, .half 10, .away⟩, ⟨11, 10, 10, 9, 9, 11, .any, .any, .away, .half 9⟩, ⟨8, 8, .full 6, .full 7, .full 7⟩, ⟨8, 8, .full 6, .full 7, .full 7⟩, 2, 19, 3⟩
def g87 : GS := ⟨90, ⟨12, 11, 11, 10, 10, 12, .any, .any, .half 10, .away⟩, ⟨12, 11, 11, 10, 10, 12, .any, .any, .half 10, .away⟩, ⟨12, 11, 11, 10, 10, 12, .any, .any, .half 10, .away⟩, ⟨12, 11, 11, 10, 10, 12, .any, .any, .half 10, .away⟩, ⟨8, 8, .full 6, .full 7, .full 7⟩, ⟨8, 8, .full 6, .full 7, .full 7⟩, 2, 19, 3⟩
def g88 : GS := ⟨90, ⟨12, 12, 12, 10, 10, 12, .any, .any, .any, .full 11⟩, ⟨12, 11, 11, 10, 10, 12, .any, .any, .half 10, .away⟩, ⟨12, 11, 11, 10, 10, 12, .any, .any, .half 10, .away⟩, ⟨12, 11, 11, 10, 10, 12, .any, .any, .half 10, .away⟩, ⟨8, 8, .full 6, .full 7, .full 7⟩, ⟨8, 8, .full 6, .full 7, .full 7⟩, 2, 20, 3⟩
def g89 : GS := ⟨92, ⟨13, 12, 12, 11, 11, 13, .any, .any, .away, .half 11⟩, ⟨12, 11, 11, 10, 10, 12, .any, .any, .half 10, .away⟩, ⟨12, 11, 11, 10, 10, 12, .any, .any, .half 10, .away⟩, ⟨12, 11, 11, 10, 10, 12, .any, .any, .half 10, .away⟩, ⟨8, 8, .full 6, .full 7, .full 7⟩, ⟨8, 8, .full 6, .full 7, .full 7⟩, 2, 21, 3⟩
def g90 : GS := ⟨93, ⟨13, 12, 12, 11, 11, 13, .any, .any, .away, .half 11⟩, ⟨12, 12, 12, 11, 11, 13, .any, .any, .away, .full 11⟩, ⟨12, 11, 11, 10, 10, 12, .any, .any, .half 10, .away⟩, ⟨12, 11, 11, 10, 10, 12, .any, .any, .half 10, .away⟩, ⟨8, 8, .full 6, .full 7, .full 7⟩, ⟨8, 8, .full 6, .full 7, .full 7⟩, 2, 21, 3⟩
def g91 : GS := ⟨94, ⟨13, 12, 12, 11, 11, 13, .any, .any, .away, .half 11⟩, ⟨13, 12, 12, 11, 11, 13, .any, .any, .away, .half 11⟩, ⟨12, 11, 12, 10, 10, 12, .any, .any, .half 10, .full 11⟩, ⟨12, 11, 11, 10, 10, 12, .any, .any, .half 10, .away⟩, ⟨8, 8, .full 6, .full 7, .full 7⟩, ⟨8, 8, .full 6, .full 7, .full 7⟩, 2, 22, 3⟩
def g92 : GS := ⟨96, ⟨13, 12, 12, 11, 11, 13, .any, .any, .away, .half 11⟩, ⟨13, 12, 12, 11, 11, 13, .any, .any, .away, .half 11⟩, ⟨13, 12, 12, 11, 11, 13, .any, .any, .away, .half 11⟩, ⟨12, 11, 11, 10, 10, 12, .any, .any, .half 10, .away⟩, ⟨8, 8, .full 6, .full 7, .full 7⟩, ⟨8, 8, .full 6, .full 7, .full 7⟩, 2, 22, 3⟩
def g93 : GS := ⟨97, ⟨13, 12, 12, 11, 11, 13, .any, .any, .away, .half 11⟩, ⟨13, 12, 12, 11, 11, 13, .any, .any, .away, .half 11⟩, ⟨13, 12, 12, 11, 11, 13, .any, .any, .away, .half 11⟩, ⟨12, 12, 12, 11, 11, 13, .any, .any, .away, .full 11⟩, ⟨8, 8, .full 6, .full 7, .full 7⟩, ⟨8, 8, .full 6, .full 7, .full 7⟩, 2, 23, 3⟩
def g94 : GS := ⟨98, ⟨13, 12, 13, 11, 11, 13, .any, .any, .full 12, .half 11⟩, ⟨13, 12, 12, 11, 11, 13, .any, .any, .away, .half 11⟩, ⟨13, 12, 12, 11, 11, 13, .any, .any, .away, .half 11⟩, ⟨13, 12, 12, 11, 11, 13, .any, .any, .away, .half 11⟩, ⟨8, 8, .full 6, .full 7, .full 7⟩, ⟨8, 8, .full 6, .full 7, .full 7⟩, 2, 24, 3⟩
def g95 : GS := ⟨100, ⟨14, 13, 13, 12, 12, 14, .any, .any, .half 12, .away⟩, ⟨13, 12, 12, 11, 11, 13, .any, .any, .away, .half 11⟩, ⟨13, 12, 12, 11, 11, 13, .any, .any, .away, .half 11⟩, ⟨13, 12, 12, 11, 11, 13, .any, .any, .away, .half 11⟩, ⟨8, 8, .full 6, .full 7, .full 7⟩, ⟨8, 8, .full 6, .full 7, .full 7⟩, 2, 24, 3⟩
def g96 : GS := ⟨101, ⟨14, 13, 13, 12, 12, 14, .any, .any, .half 12, .away⟩, ⟨13, 13, 13, 12, 12, 14, .any, .any, .full 12, .away⟩, ⟨13, 12, 12, 11, 11, 13, .any, .any, .away, .half 11⟩, ⟨13, 12, 12, 11, 11, 13, .any, .any, .away, .half 11⟩, ⟨8, 8, .full 6, .full 7, .full 7⟩, ⟨8, 8, .full 6, .full 7, .full 7⟩, 2, 25, 3⟩
def g97 : GS := ⟨102, ⟨14, 13, 13, 12, 12, 14, .any, .any, .half 12, .away⟩, ⟨14, 13, 13, 12, 12, 14, .any, .any, .half 12, .away⟩, ⟨13, 12, 12, 11, 11, 13, .any, .any, .away, .half 11⟩, ⟨13, 12, 12, 11, 11, 13, .any, .any, .away, .half 11⟩, ⟨8, 8, .full 6, .full 7, .full 7⟩, ⟨8, 8, .full 6, .full 7, .full 7⟩, 2, 26, 3⟩
def g98 : GS := ⟨104, ⟨14, 13, 13, 12, 12, 14, .any, .any, .half 12, .away⟩, ⟨14, 13, 13, 12, 12, 14, .any, .any, .half 12, .away⟩, ⟨14, 13, 13, 12, 12, 14, .any, .any, .half 12, .away⟩, ⟨13, 12, 12, 11, 11, 13, .any, .any, .away, .half 11⟩, ⟨8, 8, .full 6, .full 7, .full 7⟩, ⟨8, 8, .full 6, .full 7, .full 7⟩, 2, 26, 3⟩
def g99 : GS := ⟨104, ⟨14, 13, 13, 12, 12, 14, .any, .any, .half 12, .away⟩, ⟨14, 13, 13, 12, 12, 14, .any, .any, .half 12, .away⟩, ⟨14, 13, 13, 12, 12, 14, .any, .any, .half 12, .away⟩, ⟨13, 12, 13, 11, 11, 13, .any, .any, .full 12, .half 11⟩, ⟨8, 8, .full 6, .full 7, .full 7⟩, ⟨8, 8, .full 6, .full 7, .full 7⟩, 2, 27, 3⟩
def g100 : GS := ⟨106, ⟨14, 13, 13, 12, 12, 14, .any, .any, .half 12, .away⟩, ⟨14, 13, 13, 12, 12, 14, .any, .any, .half 12, .away⟩, ⟨14, 13, 13, 12, 12, 14, .any, .any, .half 12, .away⟩, ⟨14, 13, 13, 12, 12, 14, .any, .any, .half 12, .away⟩, ⟨8, 8, .full 6, .full 7, .full 7⟩, ⟨8, 8, .full 6, .full 7, .full 7⟩, 2, 28, 3⟩
def g101 : GS := ⟨106, ⟨14, 14, 14, 12, 12, 14, .any, .any, .any, .full 13⟩, ⟨14, 13, 13, 12, 12, 14, .any, .any, .half 12, .away⟩, ⟨14, 13, 13, 12, 12, 14, .any, .any, .half 12, .away⟩, ⟨14, 13, 13, 12, 12, 14, .any, .any, .half 12, .away⟩, ⟨8, 8, .full 6, .full 7, .full 7⟩, ⟨8, 8, .full 6, .full 7, .full 7⟩, 2, 29, 3⟩
def g102 : GS := ⟨106, ⟨14, 14, 14, 12, 12, 14, .any, .any, .any, .full 13⟩, ⟨14, 14, 14, 12, 12, 14, .any, .any, .any, .full 13⟩, ⟨14, 13, 13, 12, 12, 14, .any, .any, .half 12, .away⟩, ⟨14, 13, 13, 12, 12, 14, .any, .any, .half 12, .away⟩, ⟨8, 8, .full 6, .full 7, .full 7⟩, ⟨8, 8, .full 6, .full 7, .full 7⟩, 2, 29, 3⟩
def g103 : GS := ⟨106, ⟨14, 14, 14, 12, 12, 14, .any, .any, .any, .full 13⟩, ⟨14, 14, 14, 12, 12, 14, .any, .any, .any, .full 13⟩, ⟨14, 14, 14, 12, 12, 14, .any, .any, .any, .full 13⟩, ⟨14, 13, 13, 12, 12, 14, .any, .any, .half 12, .away⟩, ⟨8, 8, .full 6, .full 7, .full 7⟩, ⟨8, 8, .full 6, .full 7, .full 7⟩, 2, 30, 3⟩
def g104 : GS := ⟨106, ⟨14, 14, 14, 12, 12, 14, .any, .any, .any, .full 13⟩, ⟨14, 14, 14, 12, 12, 14, .any, .any, .any, .full 13⟩, ⟨14, 14, 14, 12, 12, 14, .any, .any, .any, .full 13⟩, ⟨14, 14, 14, 12, 12, 14, .any, .any, .any, .full 13⟩, ⟨8, 8, .full 6, .full 7, .full 7⟩, ⟨8, 8, .full 6, .full 7, .full 7⟩, 2, 31, 3⟩
def g105 : GS := ⟨106, ⟨14, 14, 14, 12, 12, 14, .any, .any, .any, .full 13⟩, ⟨14, 14, 14, 12, 12, 14, .any, .any, .any, .full 13⟩, ⟨14, 14, 14, 12, 12, 14, .any, .any, .any, .full 13⟩, ⟨14, 14, 14, 12, 12, 14, .any, .any, .any, .full 13⟩, ⟨8, 8, .full 6, .full 7, .full 7⟩, ⟨8, 8, .full 6, .full 7, .full 7⟩, 2, 32, 3⟩

end Cert.Ring
-- ==== Proof.Cut.lean ====
/- The buffers cut into the slots the kernel uses, and put together again. -/
module

public import proofs.«01_k».proof.Proof.Credits
public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

/-! ## Buffers cut into slots -/

theorem slots_split {T : Type} [Fintype T] [DecidableEq T] {ℓ : Loc nD τ sig} (K : T → Finset (Idx ℓ))
    (hd : ∀ t t', t ≠ t' → Disjoint (K t) (K t')) (hc : ∀ i, ∃ t, i ∈ K t) :
    iprop(∃ f : Buf (Elt F) ℓ, ℓ ↦{fullShare} f) ⊢ (bigSep Finset.univ fun t => slot ℓ (K t) : sProp 𝕄) := by
  iintro ⟨%f, H⟩
  have hU : (Finset.univ : Finset (Idx ℓ)) = Finset.univ.biUnion K :=
    (Finset.eq_univ_iff_forall.mpr fun i => (hc i).elim fun t h => Finset.mem_biUnion.mpr ⟨t, Finset.mem_univ _, h⟩).symm
  ihave H := (Entails.of_eq ((congrArg (fun S => (ℓ ↦[S]{fullShare} f : sProp 𝕄)) hU).trans (pointsTo_biUnion Finset.univ K fun t _ t' _ h => hd t t' h))) $$ H
  iapply (show (bigSep Finset.univ fun t => (ℓ ↦[K t]{fullShare} f : sProp 𝕄)) ⊢ (bigSep Finset.univ fun t => slot ℓ (K t)) from
    bigSep_mono fun t _ => BIClass.exists_intro (Φ := fun f : Buf (Elt F) ℓ => (ℓ ↦[K t]{fullShare} f : sProp 𝕄)) f)
  iexact H

theorem slots_join {T : Type} [Fintype T] [DecidableEq T] {ℓ : Loc nD τ sig} (K : T → Finset (Idx ℓ)) (t₀ : T)
    (hd : ∀ t t', t ≠ t' → Disjoint (K t) (K t')) (hc : ∀ i, ∃ t, i ∈ K t) :
    (bigSep Finset.univ fun t => slot ℓ (K t) : sProp 𝕄) ⊢ iprop(∃ f : Buf (Elt F) ℓ, ℓ ↦{fullShare} f) := by
  have hU : Finset.univ.biUnion K = (Finset.univ : Finset (Idx ℓ)) :=
    (Finset.eq_univ_iff_forall.mpr fun i => (hc i).elim fun t h => Finset.mem_biUnion.mpr ⟨t, Finset.mem_univ _, h⟩)
  unfold slot
  iintro H
  ihave H := (BI.bigSep_exists_pi Finset.univ (fun (t : T) (f : Buf (Elt F) ℓ) => (ℓ ↦[K t]{fullShare} f : sProp 𝕄))) $$ H
  icases H with ⟨%fs, H⟩
  ihave H := (pointsTo_biUnion_join Finset.univ K fs (fs t₀) fun t _ t' _ h => hd t t' h) $$ H
  icases H with ⟨%g, -, H⟩
  iexists g
  iapply (Entails.of_eq (congrArg (fun S => (ℓ ↦[S]{fullShare} g : sProp 𝕄)) hU))
  iexact H

theorem slab_disjoint (t t' : Fin 4 × Fin 2) (h : t ≠ t') : Disjoint (slabR t.1 t.2).set (slabR t'.1 t'.2).set := by
  by_cases h1 : t.1 = t'.1
  · refine Rect.disjoint_of_separated _ _ (1 : Fin 4) ?_
    have h2 : t.2.val ≠ t'.2.val := fun e => h (Prod.ext h1 (Fin.ext e))
    show (1 = 0 ∨ t.2.val + 1 * (1 - 1) < t'.2.val) ∨ (1 = 0 ∨ t'.2.val + 1 * (1 - 1) < t.2.val)
    omega
  · refine Rect.disjoint_of_separated _ _ (0 : Fin 4) ?_
    have h2 : t.1.val ≠ t'.1.val := fun e => h1 (Fin.ext e)
    show (1 = 0 ∨ t.1.val + 1 * (1 - 1) < t'.1.val) ∨ (1 = 0 ∨ t'.1.val + 1 * (1 - 1) < t.1.val)
    omega
theorem slab_cover (i : S4x2x256x1024.Idx) : ∃ t : Fin 4 × Fin 2, i ∈ (slabR t.1 t.2).set := by
  refine ⟨(i 0, i 1), Rect.mem_set_unit.mpr fun a => ?_⟩
  fin_cases a
  · exact ⟨le_refl _, Nat.lt_succ_self _⟩
  · exact ⟨le_refl _, Nat.lt_succ_self _⟩
  · have h2 : (i (2 : Fin 4)).val < 256 := (i (2 : Fin 4)).isLt
    show 0 ≤ (i (2 : Fin 4)).val ∧ (i (2 : Fin 4)).val < 0 + 256
    omega
  · have h2 : (i (3 : Fin 4)).val < 1024 := (i (3 : Fin 4)).isLt
    show 0 ≤ (i (3 : Fin 4)).val ∧ (i (3 : Fin 4)).val < 0 + 1024
    omega
theorem xb_disjoint (t t' : Fin 2 × Fin 2) (h : t ≠ t') : Disjoint (xbR t.1 t.2).set (xbR t'.1 t'.2).set := by
  by_cases h1 : t.1 = t'.1
  · refine Rect.disjoint_of_separated _ _ (1 : Fin 4) ?_
    have h2 : t.2.val ≠ t'.2.val := fun e => h (Prod.ext h1 (Fin.ext e))
    show (1 = 0 ∨ t.2.val + 1 * (1 - 1) < t'.2.val) ∨ (1 = 0 ∨ t'.2.val + 1 * (1 - 1) < t.2.val)
    omega
  · refine Rect.disjoint_of_separated _ _ (0 : Fin 4) ?_
    have h2 : t.1.val ≠ t'.1.val := fun e => h1 (Fin.ext e)
    show (1 = 0 ∨ t.1.val + 1 * (1 - 1) < t'.1.val) ∨ (1 = 0 ∨ t'.1.val + 1 * (1 - 1) < t.1.val)
    omega
theorem xb_cover (i : S2x2x512x1024.Idx) : ∃ t : Fin 2 × Fin 2, i ∈ (xbR t.1 t.2).set := by
  refine ⟨(i 0, i 1), Rect.mem_set_unit.mpr fun a => ?_⟩
  fin_cases a
  · exact ⟨le_refl _, Nat.lt_succ_self _⟩
  · exact ⟨le_refl _, Nat.lt_succ_self _⟩
  · have h2 : (i (2 : Fin 4)).val < 512 := (i (2 : Fin 4)).isLt
    show 0 ≤ (i (2 : Fin 4)).val ∧ (i (2 : Fin 4)).val < 0 + 512
    omega
  · have h2 : (i (3 : Fin 4)).val < 1024 := (i (3 : Fin 4)).isLt
    show 0 ≤ (i (3 : Fin 4)).val ∧ (i (3 : Fin 4)).val < 0 + 1024
    omega
theorem pt_disjoint (t t' : Fin 2) (h : t ≠ t') : Disjoint (ptR t).set (ptR t').set := by
  refine Rect.disjoint_of_separated _ _ (0 : Fin 3) ?_
  have h2 : t.val ≠ t'.val := fun e => h (Fin.ext e)
  show (1 = 0 ∨ t.val + 1 * (1 - 1) < t'.val) ∨ (1 = 0 ∨ t'.val + 1 * (1 - 1) < t.val)
  omega
theorem pt_cover (i : S2x512x1024.Idx) : ∃ t : Fin 2, i ∈ (ptR t).set := by
  refine ⟨i 0, Rect.mem_set_unit.mpr fun a => ?_⟩
  fin_cases a
  · exact ⟨le_refl _, Nat.lt_succ_self _⟩
  · have h2 : (i (1 : Fin 3)).val < 512 := (i (1 : Fin 3)).isLt
    show 0 ≤ (i (1 : Fin 3)).val ∧ (i (1 : Fin 3)).val < 0 + 512
    omega
  · have h2 : (i (2 : Fin 3)).val < 1024 := (i (2 : Fin 3)).isLt
    show 0 ≤ (i (2 : Fin 3)).val ∧ (i (2 : Fin 3)).val < 0 + 1024
    omega

theorem sbK (t : Fin 4 × Fin 2) : (sbV t.1 t.2).view.set = (slabR t.1 t.2).set := (sb_set t.1 t.2).trans (View.set_slice_whole _ _)
theorem cmK (t : Fin 4 × Fin 2) : (cmV t.1 t.2).view.set = (slabR t.1 t.2).set := (cm_set t.1 t.2).trans (View.set_slice_whole _ _)
theorem xbK (t : Fin 2 × Fin 2) : (xbV t.1 t.2).view.set = (xbR t.1 t.2).set := (xb_set t.1 t.2).trans (View.set_slice_whole _ _)
theorem ptK (t : Fin 2) : (ptA.access (ptR t)).set = (ptR t).set := View.set_slice_whole _ _

section
variable (c : Dev nD)

abbrev anyOf (b : Ref sig .tc) : sProp 𝕄 := iprop(∃ f : Buf (Elt F) ((c : Thread nD τ).loc b), ((c : Thread nD τ).loc b) ↦{fullShare} f)

theorem sb_split : anyOf (F := F) c cc0_scratch2
    ⊢ (bigSep Finset.univ fun f : Fin 4 => bigSep Finset.univ fun b : Fin 2 => slot ((sbV f b).view.loc (c : Thread nD τ)) (sbV f b).view.set : sProp 𝕄) := by
  rw [← bigSep_univ_prod (fun t : Fin 4 × Fin 2 => (slot ((sbV t.1 t.2).view.loc (c : Thread nD τ)) (sbV t.1 t.2).view.set : sProp 𝕄))]
  exact slots_split (ℓ := (c : Thread nD τ).loc cc0_scratch2) (fun t : Fin 4 × Fin 2 => (sbV t.1 t.2).view.set)
    (fun t t' h => by rw [sbK, sbK]; exact slab_disjoint t t' h) (fun i => (slab_cover i).imp fun t h => by rw [sbK]; exact h)
theorem sb_unsplit : (bigSep Finset.univ fun f : Fin 4 => bigSep Finset.univ fun b : Fin 2 => slot ((sbV f b).view.loc (c : Thread nD τ)) (sbV f b).view.set : sProp 𝕄)
    ⊢ anyOf (F := F) c cc0_scratch2 := by
  rw [← bigSep_univ_prod (fun t : Fin 4 × Fin 2 => (slot ((sbV t.1 t.2).view.loc (c : Thread nD τ)) (sbV t.1 t.2).view.set : sProp 𝕄))]
  exact slots_join (ℓ := (c : Thread nD τ).loc cc0_scratch2) (fun t : Fin 4 × Fin 2 => (sbV t.1 t.2).view.set) (0, 0)
    (fun t t' h => by rw [sbK, sbK]; exact slab_disjoint t t' h) (fun i => (slab_cover i).imp fun t h => by rw [sbK]; exact h)
theorem cm_split : anyOf (F := F) c cc0_scratch3
    ⊢ (bigSep Finset.univ fun f : Fin 4 => bigSep Finset.univ fun b : Fin 2 => cmSlot (F := F) (c, f, b) : sProp 𝕄) := by
  rw [← bigSep_univ_prod (fun t : Fin 4 × Fin 2 => cmSlot (F := F) (c, t.1, t.2))]
  exact slots_split (ℓ := (c : Thread nD τ).loc cc0_scratch3) (fun t : Fin 4 × Fin 2 => (cmV t.1 t.2).view.set)
    (fun t t' h => by rw [cmK, cmK]; exact slab_disjoint t t' h) (fun i => (slab_cover i).imp fun t h => by rw [cmK]; exact h)
theorem cm_unsplit : (bigSep Finset.univ fun f : Fin 4 => bigSep Finset.univ fun b : Fin 2 => cmSlot (F := F) (c, f, b) : sProp 𝕄)
    ⊢ anyOf (F := F) c cc0_scratch3 := by
  rw [← bigSep_univ_prod (fun t : Fin 4 × Fin 2 => cmSlot (F := F) (c, t.1, t.2))]
  exact slots_join (ℓ := (c : Thread nD τ).loc cc0_scratch3) (fun t : Fin 4 × Fin 2 => (cmV t.1 t.2).view.set) (0, 0)
    (fun t t' h => by rw [cmK, cmK]; exact slab_disjoint t t' h) (fun i => (slab_cover i).imp fun t h => by rw [cmK]; exact h)
theorem xb_split : anyOf (F := F) c cc0_scratch0
    ⊢ (bigSep Finset.univ fun d : Fin 2 => bigSep Finset.univ fun b : Fin 2 => slot ((xbV d b).view.loc (c : Thread nD τ)) (xbV d b).view.set : sProp 𝕄) := by
  rw [← bigSep_univ_prod (fun t : Fin 2 × Fin 2 => (slot ((xbV t.1 t.2).view.loc (c : Thread nD τ)) (xbV t.1 t.2).view.set : sProp 𝕄))]
  exact slots_split (ℓ := (c : Thread nD τ).loc cc0_scratch0) (fun t : Fin 2 × Fin 2 => (xbV t.1 t.2).view.set)
    (fun t t' h => by rw [xbK, xbK]; exact xb_disjoint t t' h) (fun i => (xb_cover i).imp fun t h => by rw [xbK]; exact h)
theorem xb_unsplit : (bigSep Finset.univ fun d : Fin 2 => bigSep Finset.univ fun b : Fin 2 => slot ((xbV d b).view.loc (c : Thread nD τ)) (xbV d b).view.set : sProp 𝕄)
    ⊢ anyOf (F := F) c cc0_scratch0 := by
  rw [← bigSep_univ_prod (fun t : Fin 2 × Fin 2 => (slot ((xbV t.1 t.2).view.loc (c : Thread nD τ)) (xbV t.1 t.2).view.set : sProp 𝕄))]
  exact slots_join (ℓ := (c : Thread nD τ).loc cc0_scratch0) (fun t : Fin 2 × Fin 2 => (xbV t.1 t.2).view.set) (0, 0)
    (fun t t' h => by rw [xbK, xbK]; exact xb_disjoint t t' h) (fun i => (xb_cover i).imp fun t h => by rw [xbK]; exact h)
theorem pt_split : anyOf (F := F) c cc0_scratch1
    ⊢ (bigSep Finset.univ fun d : Fin 2 => slot (ptA.view.loc (c : Thread nD τ)) (ptA.access (ptR d)).set : sProp 𝕄) :=
  slots_split (ℓ := (c : Thread nD τ).loc cc0_scratch1) (fun t : Fin 2 => (ptA.access (ptR t)).set)
    (fun t t' h => by rw [ptK, ptK]; exact pt_disjoint t t' h) (fun i => (pt_cover i).imp fun t h => by rw [ptK]; exact h)
theorem pt_unsplit : (bigSep Finset.univ fun d : Fin 2 => slot (ptA.view.loc (c : Thread nD τ)) (ptA.access (ptR d)).set : sProp 𝕄)
    ⊢ anyOf (F := F) c cc0_scratch1 :=
  slots_join (ℓ := (c : Thread nD τ).loc cc0_scratch1) (fun t : Fin 2 => (ptA.access (ptR t)).set) 0
    (fun t t' h => by rw [ptK, ptK]; exact pt_disjoint t t' h) (fun i => (pt_cover i).imp fun t h => by rw [ptK]; exact h)

/-! ## The argument cut into four shares -/

abbrev xPts : sProp 𝕄 := ((c : Thread nD τ).loc main_arg0) ↦{fullShare} (xin m c : Buf (Elt F) ((c : Thread nD τ).loc main_arg0))
theorem x_split : xPts m c ⊢ iprop((xq m c 0 0 ∗ xq m c 0 1) ∗ xq m c 1 0 ∗ xq m c 1 1) := by
  iintro H
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  unfold xq qx
  isplitl [Hl]; · iexact Hl
  iexact Hr
theorem x_unsplit : iprop((xq m c 0 0 ∗ xq m c 0 1) ∗ xq m c 1 0 ∗ xq m c 1 1) ⊢ xPts m c := by
  unfold xq qx
  iintro ⟨Hl, Hr⟩
  iapply (pointsTo_share (PosShare.mem_left_op_right fullShare)).2
  isplitl [Hl]
  · iapply (pointsTo_share (PosShare.mem_left_op_right fullShare.left)).2
    iexact Hl
  · iapply (pointsTo_share (PosShare.mem_left_op_right fullShare.right)).2
    iexact Hr
end

/-! ## A family over the kinds of semaphores -/

abbrev KdI : Type := Fin 1 ⊕ Fin 4 ⊕ (Fin 2 × Fin 2) ⊕ (Fin 4 × Fin 2) ⊕ (Fin 4 × Fin 2)
def kdE : KdI ≃ Kd where
  toFun
    | .inl _ => .bar
    | .inr (.inl f) => .cred f
    | .inr (.inr (.inl x)) => .load x.1 x.2
    | .inr (.inr (.inr (.inl x))) => .send x.1 x.2
    | .inr (.inr (.inr (.inr x))) => .recv x.1 x.2
  invFun
    | .bar => .inl 0
    | .cred f => .inr (.inl f)
    | .load d b => .inr (.inr (.inl (d, b)))
    | .send f b => .inr (.inr (.inr (.inl (f, b))))
    | .recv f b => .inr (.inr (.inr (.inr (f, b))))
  left_inv := by
    rintro (i | f | ⟨f, d⟩ | ⟨f, d⟩ | ⟨f, d⟩)
    · exact congrArg Sum.inl (Subsingleton.elim _ _)
    all_goals rfl
  right_inv := by rintro (_ | _ | _ | _ | _) <;> rfl
theorem kd_split (Φ : Kd → sProp 𝕄) : bigSep Finset.univ Φ
    = iprop(Φ .bar ∗ (bigSep Finset.univ fun f : Fin 4 => Φ (.cred f))
        ∗ (bigSep Finset.univ fun d : Fin 2 => iprop(Φ (.load d 0) ∗ Φ (.load d 1)))
        ∗ (bigSep Finset.univ fun f : Fin 4 => iprop(Φ (.send f 0) ∗ Φ (.send f 1)))
        ∗ (bigSep Finset.univ fun f : Fin 4 => iprop(Φ (.recv f 0) ∗ Φ (.recv f 1)))) := by
  rw [bigSep_univ_equiv kdE Φ, bigSep_univ_sum, bigSep_univ_sum, bigSep_univ_sum, bigSep_univ_sum, bigSep_univ_prod, bigSep_univ_prod, bigSep_univ_prod,
    bigSep_univ_of_subsingleton (0 : Fin 1)]
  simp only [bigSep_fin_two]
  rfl
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_two (Φ : Fin 2 → sProp 𝕄) : bigSep Finset.univ Φ = iprop(Φ 0 ∗ Φ 1) :=
  bigSep_univ_eq_bigSepL [0, 1] (by decide) (by decide) Φ

end Cert.Ring
-- ==== Proof.Start.lean ====
/- From the launch to the first state of the kernel. -/
module

public import proofs.«01_k».proof.Proof.Cut

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

section
variable (c : Dev nD) (K : Dev nD × Kd → ℕ) (KS : Key → ℕ)

/-- What flow `f` takes from the launch. -/
def flIn (f : Fin 4) : sProp 𝕄 :=
  iprop((bigSep Finset.univ fun s : Fin 14 => dutyTok ER (cell c (.send f (sl s.val))) (s.val / 2) 0)
    ∗ (bigSep Finset.univ fun s : Fin 14 => dutyTok ER (cell (dst c f) (.recv f (sl s.val))) (s.val / 2) 0)
    ∗ (bigSep Finset.univ fun s : Fin 14 => writeTok ES ((dst c f, f, sl s.val) : Key) (s.val / 2 + 1))
    ∗ recvCr c f 0
    ∗ (bigSep Finset.univ fun d : Fin 12 => dutyTok ER (cell (src c f) (.cred f)) 0 d.val)
    ∗ credCr c f 0
    ∗ (atPos ER (cell c (.send f 0)) 0 ∅ 0 ∗ atPos ER (cell c (.send f 1)) 0 ∅ 0)
    ∗ (atPos ER (cell c (.recv f 0)) 0 ∅ 0 ∗ atPos ER (cell c (.recv f 1)) 0 ∅ 0)
    ∗ (readerAt ES ((c, f, 0) : Key) 1 ∗ readerAt ES ((c, f, 1) : Key) 1)
    ∗ (slot ((sbV f 0).view.loc (c : Thread nD τ)) (sbV f 0).view.set ∗ slot ((sbV f 1).view.loc (c : Thread nD τ)) (sbV f 1).view.set)
    ∗ atPos ER (cell c (.cred f)) 0 ∅ 0)

theorem fl_start (f : Fin 4) : iprop(Ctx m K KS ∗ flIn (F := F) c f) ⊢ Fl m c f ⟨0, 0, 0, 0, 0, 0, .any, .any, .away, .away⟩ := by
  unfold flIn
  iintro ⟨#Hc, H1, H2, H3, Hrc, Hct, Hcc, ⟨Hs0, Hs1⟩, ⟨Hr0, Hr1⟩, Hrd, Hsb, Hcr⟩
  ihave #Hcs0 := (ctx_reached m K KS c (.send f 0)) $$ Hc
  ihave #Hcs1 := (ctx_reached m K KS c (.send f 1)) $$ Hc
  ihave #Hcr0 := (ctx_reached m K KS c (.recv f 0)) $$ Hc
  ihave #Hcr1 := (ctx_reached m K KS c (.recv f 1)) $$ Hc
  unfold Fl sendTok sendTok1 sendCr credTok pos2 rdr sbS cmS credSt ownGr gr
  rw [bigSep_ico 14, bigSep_ico 12, bigSep_sep', bigSep_sep', Finset.Ico_self, bigSep_empty, Finset.range_zero, bigSep_empty, bigSep_empty]
  isplitl [H1 H2 H3]
  · isplitl [H1]; · iexact H1
    isplitl [H2]; · iexact H2
    iexact H3
  isplitr; · iempintro
  isplitl [Hrc]; · iexact Hrc
  isplitl [Hct]; · iexact Hct
  isplitl [Hcc]; · iexact Hcc
  isplitl [Hs0 Hs1]
  · isplitl [Hs0]
    · isplitl [Hs0]; · iexact Hs0
      iexact Hcs0
    · isplitl [Hs1]; · iexact Hs1
      iexact Hcs1
  isplitl [Hr0 Hr1]
  · isplitl [Hr0]
    · isplitl [Hr0]; · iexact Hr0
      iexact Hcr0
    · isplitl [Hr1]; · iexact Hr1
      iexact Hcr1
  isplitl [Hrd]; · iexact Hrd
  isplitl [Hsb]; · iexact Hsb
  isplitr
  · isplitr <;> iempintro
  isplitl [Hcr]
  · iexists ∅
    isplitr; · ipureintro; exact ⟨Finset.empty_subset _, Nat.zero_le _⟩
    isplitl [Hcr]; · iexact Hcr
    rw [bigSep_empty]; iempintro
  isplitr <;> iempintro

/-- What direction `d` takes from the launch. -/
def ddIn (d : Fin 2) : sProp 𝕄 :=
  iprop((bigSep Finset.univ fun s : Fin 8 => dutyTok ER (cell c (.load d (sl s.val))) (s.val / 2) 0)
    ∗ (atPos ER (cell c (.load d 0)) 0 ∅ 0 ∗ atPos ER (cell c (.load d 1)) 0 ∅ 0)
    ∗ (slot ((xbV d 0).view.loc (c : Thread nD τ)) (xbV d 0).view.set ∗ slot ((xbV d 1).view.loc (c : Thread nD τ)) (xbV d 1).view.set)
    ∗ (xq m c d 0 ∗ xq m c d 1)
    ∗ slot (ptA.view.loc (c : Thread nD τ)) (ptA.access (ptR d)).set)

theorem dd_start (d : Fin 2) : iprop(Ctx m K KS ∗ ddIn m c d) ⊢ DD m c d ⟨0, 0, .any, .any, .any⟩ := by
  unfold ddIn
  iintro ⟨#Hc, Ht, ⟨Hs0, Hs1⟩, ⟨Hx0, Hx1⟩, ⟨Hq0, Hq1⟩, Hp⟩
  ihave #Hcs0 := (ctx_reached m K KS c (.load d 0)) $$ Hc
  ihave #Hcs1 := (ctx_reached m K KS c (.load d 1)) $$ Hc
  unfold DD loadTok loadCr pos2 xbS ptS
  rw [bigSep_ico 8, Finset.Ico_self, bigSep_empty]
  isplitl [Ht]; · iexact Ht
  isplitr; · iempintro
  isplitl [Hs0 Hs1]
  · isplitl [Hs0]
    · isplitl [Hs0]; · iexact Hs0
      iexact Hcs0
    · isplitl [Hs1]; · iexact Hs1
      iexact Hcs1
  isplitl [Hx0 Hx1 Hq0 Hq1]
  · isplitl [Hx0 Hq0]
    · isplitl [Hx0]; · iexact Hx0
      iexact Hq0
    · isplitl [Hx1]; · iexact Hx1
      iexact Hq1
  iexact Hp

/-- The receive slots handed over to the invariants: every slot may be written for the first time. -/
theorem release_all : iprop(Ctx m K KS ∗ (bigSep Finset.univ fun f : Fin 4 => bigSep Finset.univ fun b : Fin 2 => readerAt ES ((c, f, b) : Key) 0)
      ∗ (bigSep Finset.univ fun f : Fin 4 => bigSep Finset.univ fun b : Fin 2 => cmSlot (F := F) (c, f, b)))
    ⊢ |={Set.univ}=> iprop((bigSep Finset.univ fun f : Fin 4 => iprop(readerAt ES ((c, f, 0) : Key) 1 ∗ readerAt ES ((c, f, 1) : Key) 1))
      ∗ (bigSep Finset.univ fun f : Fin 4 => iprop(grant (F := F) c f 0 ∗ grant c f 1))) := by
  rw [← bigSep_sep', ← bigSep_sep']
  refine (bigSep_with (R := Ctx m K KS) (Ψ := fun f : Fin 4 => iprop(|={Set.univ}=> ((readerAt ES ((c, f, 0) : Key) 1 ∗ readerAt ES ((c, f, 1) : Key) 1)
      ∗ grant (F := F) c f 0 ∗ grant c f 1))) fun f _ => ?_).trans (bigSep_fupd _ _)
  rw [bigSep_two, bigSep_two]
  iintro ⟨#Hc, ⟨Hr0, Hr1⟩, Hs0, Hs1⟩
  ihave #Hi0 := (ctx_slot m K KS (c, f, 0)) $$ Hc
  ihave #Hi1 := (ctx_slot m K KS (c, f, 1)) $$ Hc
  ihave #Hcr0 := (ctx_reached m K KS c (.recv f 0)) $$ Hc
  ihave #Hcr1 := (ctx_reached m K KS c (.recv f 1)) $$ Hc
  imod (slot_release (E := ES) (ι := KS (c, f, 0)) (S := cmSlot (F := F) (c, f, 0)) (Es := Set.univ) (Set.mem_univ _)
    (slot_slot_false (cm_nonempty f 0)) 0) $$ [Hr0 Hs0] with ⟨Hr0, #Hrel0⟩
  · isplitr; · iexact Hi0
    isplitl [Hr0]; · iexact Hr0
    iexact Hs0
  imod (slot_release (E := ES) (ι := KS (c, f, 1)) (S := cmSlot (F := F) (c, f, 1)) (Es := Set.univ) (Set.mem_univ _)
    (slot_slot_false (cm_nonempty f 1)) 0) $$ [Hr1 Hs1] with ⟨Hr1, #Hrel1⟩
  · isplitr; · iexact Hi1
    isplitl [Hr1]; · iexact Hr1
    iexact Hs1
  imodintro
  isplitl [Hr0 Hr1]
  · isplitl [Hr0]; · iexact Hr0
    iexact Hr1
  unfold grant
  isplitr
  · isplitr; · iexact Hrel0
    iexact Hcr0
  · isplitr; · iexact Hrel1
    iexact Hcr1

theorem barPay_prv : iprop((grant (F := F) c 0 0 ∗ grant c 0 1) ∗ grant c 2 0 ∗ grant c 2 1) ⊢ barPay (prv c) 0 := by
  show _ ⊢ iprop(grant (dst (prv c) 0) 0 0 ∗ grant (dst (prv c) 0) 0 1 ∗ grant (dst (prv c) 2) 2 0 ∗ grant (dst (prv c) 2) 2 1)
  have e0 : dst (prv c) 0 = c := nxt_prv c
  have e2 : dst (prv c) 2 = c := nxt_prv c
  rw [e0, e2]
  iintro ⟨⟨H1, H2⟩, H3, H4⟩
  isplitl [H1]; · iexact H1
  isplitl [H2]; · iexact H2
  isplitl [H3]; · iexact H3
  iexact H4
theorem barPay_nxt : iprop((grant (F := F) c 1 0 ∗ grant c 1 1) ∗ grant c 3 0 ∗ grant c 3 1) ⊢ barPay (nxt c) 1 := by
  show _ ⊢ iprop(grant (dst (nxt c) 1) 1 0 ∗ grant (dst (nxt c) 1) 1 1 ∗ grant (dst (nxt c) 3) 3 0 ∗ grant (dst (nxt c) 3) 3 1)
  have e0 : dst (nxt c) 1 = c := prv_nxt c
  have e2 : dst (nxt c) 3 = c := prv_nxt c
  rw [e0, e2]
  iintro ⟨⟨H1, H2⟩, H3, H4⟩
  isplitl [H1]; · iexact H1
  isplitl [H2]; · iexact H2
  isplitl [H3]; · iexact H3
  iexact H4

/-- What a device holds when the launch is done, its buffers aside. -/
def start : sProp 𝕄 :=
  iprop(G' m c ∗ (cred (tallyAt (cell c .bar) 1 2) ∗ (bigSep Finset.univ fun f : Fin 4 => recvCr (F := F) c f 0)
        ∗ bigSep Finset.univ fun f : Fin 4 => credCr (F := F) c f 0) ∗ levAts L lv ∗ xPts m c)
/-- The kernel's own buffers. -/
def bufs : sProp 𝕄 :=
  iprop(anyOf c cc0_scratch0 ∗ anyOf c cc0_scratch1 ∗ anyOf c cc0_scratch2 ∗ anyOf c cc0_scratch3 ∗ anyOf c cc0_scratch4 ∗ anyOf c cc0_scratch5)

abbrev w1Pts : sProp 𝕄 := ((c : Thread nD τ).loc cc0_stg0_0) ↦{fullShare} (w1in m c : Buf (Elt F) ((c : Thread nD τ).loc cc0_stg0_0))
abbrev w2Pts : sProp 𝕄 := ((c : Thread nD τ).loc cc0_stg1_0) ↦{fullShare} (w2in m c : Buf (Elt F) ((c : Thread nD τ).loc cc0_stg1_0))

theorem st_start (W : Set (SemLoc sig × ℕ)) :
    iprop(Ctx0 m K KS ∗ lin c ∗ (cred (tallyAt (cell c .bar) 1 2) ∗ (bigSep Finset.univ fun f : Fin 4 => recvCr (F := F) c f 0)
        ∗ bigSep Finset.univ fun f : Fin 4 => credCr (F := F) c f 0) ∗ levAts L lv ∗ xPts m c ∗ bufs c ∗ w1Pts m c ∗ w2Pts m c ∗ anyOf c cc0_stg2_0
        ∗ ∃ W, owes (c : Thread nD τ) (owedFrom c 0) W)
      ⊢ |={Set.univ}=> St m c K KS g0 := by
  unfold bufs lin payToks
  iintro ⟨#H0, ⟨Hpos, ⟨⟨Hb0, Hb1⟩, Hct, Hlt, Hst, Hrt⟩, Hrd, Hwt⟩, ⟨Hcb, Hrc, Hcc⟩, #Hlev, Hx, ⟨Hxb, Hpt, Hsb, Hcm, Hv1, Hv2⟩, Hw1, Hw2, Ho, HO⟩
  ihave #Hc := (show iprop(levAts L lv ∗ Ctx0 m K KS) ⊢ Ctx m K KS from (by unfold Ctx Ctx0; exact .rfl)) $$ []
  · isplitr; · iexact Hlev
    iexact H0
  ihave #Hbr := (ctx_reached m K KS c .bar) $$ Hc
  ihave Hpos := (Entails.of_eq (kd_split (fun k : Kd => (atPos ER (cell c k) 0 ∅ 0 : sProp 𝕄)))) $$ Hpos
  icases Hpos with ⟨HpB, HpC, HpL, HpS, HpR⟩
  ihave Hxb := (xb_split (F := F) c) $$ Hxb
  ihave Hpt := (pt_split (F := F) c) $$ Hpt
  ihave Hsb := (sb_split (F := F) c) $$ Hsb
  ihave Hcm := (cm_split (F := F) c) $$ Hcm
  ihave Hx := (x_split m c) $$ Hx
  imod (release_all m c K KS) $$ [Hrd Hcm] with ⟨Hrd, Hgr⟩
  · isplitr; · iexact Hc
    isplitl [Hrd]; · iexact Hrd
    iexact Hcm
  imodintro
  ihave Hsb := (show (bigSep Finset.univ fun f : Fin 4 => bigSep Finset.univ fun b : Fin 2 => slot ((sbV f b).view.loc (c : Thread nD τ)) (sbV f b).view.set : sProp 𝕄)
    ⊢ (bigSep Finset.univ fun f : Fin 4 => iprop(slot ((sbV f 0).view.loc (c : Thread nD τ)) (sbV f 0).view.set ∗ slot ((sbV f 1).view.loc (c : Thread nD τ)) (sbV f 1).view.set))
    from bigSep_mono fun f _ => Entails.of_eq (bigSep_two _)) $$ Hsb
  ihave HF := (show iprop(Ctx m K KS ∗ bigSep Finset.univ fun f : Fin 4 => flIn (F := F) c f) ⊢ (bigSep Finset.univ fun f : Fin 4 => Fl m c f ⟨0, 0, 0, 0, 0, 0, .any, .any, .away, .away⟩)
    from bigSep_with fun f _ => fl_start m c K KS f) $$ [Hst Hrt Hwt Hrc Hct Hcc HpS HpR Hrd Hsb HpC]
  · isplitr; · iexact Hc
    unfold flIn
    simp only [bigSep_sep' (Finset.univ : Finset (Fin 4))]
    isplitl [Hst]; · iexact Hst
    isplitl [Hrt]; · iexact Hrt
    isplitl [Hwt]; · iexact Hwt
    isplitl [Hrc]; · iexact Hrc
    isplitl [Hct]; · iexact Hct
    isplitl [Hcc]; · iexact Hcc
    isplitl [HpS]; · iexact HpS
    isplitl [HpR]; · iexact HpR
    isplitl [Hrd]; · iexact Hrd
    isplitl [Hsb]; · iexact Hsb
    iexact HpC
  ihave HF := (Entails.of_eq (bigSep_four (fun f : Fin 4 => Fl m c f ⟨0, 0, 0, 0, 0, 0, .any, .any, .away, .away⟩))) $$ HF
  ihave Hxb := (Entails.of_eq (bigSep_two (fun d : Fin 2 => (bigSep Finset.univ fun b : Fin 2 => slot ((xbV d b).view.loc (c : Thread nD τ)) (xbV d b).view.set : sProp 𝕄)))) $$ Hxb
  icases Hxb with ⟨Hxb0, Hxb1⟩
  ihave Hxb0 := (Entails.of_eq (bigSep_two (fun b : Fin 2 => (slot ((xbV 0 b).view.loc (c : Thread nD τ)) (xbV 0 b).view.set : sProp 𝕄)))) $$ Hxb0
  ihave Hxb1 := (Entails.of_eq (bigSep_two (fun b : Fin 2 => (slot ((xbV 1 b).view.loc (c : Thread nD τ)) (xbV 1 b).view.set : sProp 𝕄)))) $$ Hxb1
  ihave Hpt := (Entails.of_eq (bigSep_two (fun d : Fin 2 => (slot (ptA.view.loc (c : Thread nD τ)) (ptA.access (ptR d)).set : sProp 𝕄)))) $$ Hpt
  icases Hpt with ⟨Hpt0, Hpt1⟩
  icases Hx with ⟨Hx0, Hx1⟩
  ihave Hlt := (Entails.of_eq (bigSep_two (fun d : Fin 2 => (bigSep Finset.univ fun s : Fin 8 => dutyTok ER (cell c (.load d (sl s.val))) (s.val / 2) 0 : sProp 𝕄)))) $$ Hlt
  icases Hlt with ⟨Hlt0, Hlt1⟩
  ihave HpL := (Entails.of_eq (bigSep_two (fun d : Fin 2 => (iprop(atPos ER (cell c (.load d 0)) 0 ∅ 0 ∗ atPos ER (cell c (.load d 1)) 0 ∅ 0) : sProp 𝕄)))) $$ HpL
  icases HpL with ⟨HpL0, HpL1⟩
  ihave Hgr := (Entails.of_eq (bigSep_four (fun f : Fin 4 => (iprop(grant (F := F) c f 0 ∗ grant c f 1) : sProp 𝕄)))) $$ Hgr
  icases Hgr with ⟨Hg0, Hg1, Hg2, Hg3⟩
  unfold St g0
  dsimp only
  isplitr; · iexact Hc
  isplitl [HO]; · unfold OW; iexact HO
  isplitl [HF]; · iexact HF
  isplitl [Hxb0 Hxb1 Hpt0 Hpt1 Hx0 Hx1 Hlt0 Hlt1 HpL0 HpL1]
  · isplitl [Hxb0 Hpt0 Hx0 Hlt0 HpL0]
    · iapply (dd_start m c K KS 0)
      unfold ddIn
      isplitr; · iexact Hc
      isplitl [Hlt0]; · iexact Hlt0
      isplitl [HpL0]; · iexact HpL0
      isplitl [Hxb0]; · iexact Hxb0
      isplitl [Hx0]; · iexact Hx0
      iexact Hpt0
    · iapply (dd_start m c K KS 1)
      unfold ddIn
      isplitr; · iexact Hc
      isplitl [Hlt1]; · iexact Hlt1
      isplitl [HpL1]; · iexact HpL1
      isplitl [Hxb1]; · iexact Hxb1
      isplitl [Hx1]; · iexact Hx1
      iexact Hpt1
  isplitl [Hw1 Hw2 Hv1 Hv2]
  · unfold Ws w1bS w2bS
    isplitl [Hw1]; · iexact Hw1
    isplitl [Hw2]; · iexact Hw2
    isplitl [Hv1]; · iexact Hv1
    iexact Hv2
  isplitl [Ho]
  · unfold OutS
    icases Ho with ⟨%g, Ho⟩
    iexists g
    isplitr; · ipureintro; intro i hi; exact absurd hi (Nat.not_lt_zero i)
    iexact Ho
  iapply (show iprop((dutyTok ER (cell (prv c) .bar) 0 0 ∗ barPay (F := F) (prv c) 0) ∗ (dutyTok ER (cell (nxt c) .bar) 0 1 ∗ barPay (nxt c) 1)
      ∗ cred (tallyAt (cell c .bar) 1 2) ∗ pos c .bar 0) ⊢ BarS c 0 from (by
    unfold BarS; rw [if_pos (by decide : 0 ≤ 2)]; exact .rfl))
  isplitl [Hb0 Hg0 Hg2]
  · isplitl [Hb0]; · iexact Hb0
    iapply (barPay_prv (F := F) c)
    isplitl [Hg0]; · iexact Hg0
    iexact Hg2
  isplitl [Hb1 Hg1 Hg3]
  · isplitl [Hb1]; · iexact Hb1
    iapply (barPay_nxt (F := F) c)
    isplitl [Hg1]; · iexact Hg1
    iexact Hg3
  isplitl [Hcb]; · iexact Hcb
  isplitl [HpB]; · iexact HpB
  iexact Hbr

end

end Cert.Ring
-- ==== Proof.Finish.lean ====
/- From the last state of the kernel to what the launch takes back. -/
module

public import proofs.«01_k».proof.Proof.Start

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

section
variable (c : Dev nD) (K : Dev nD × Kd → ℕ) (KS : Key → ℕ)

/-- A semaphore whose rounds are over is handed back at zero. -/
theorem close (k : Kd) (R : ℕ) (hR : ∀ r, R ≤ r → dutK (some k) r = ∅) :
    iprop(Ctx m K KS ∗ atPos ER (cell c k) R ∅ 0) ⊢ |={Set.univ}=> (semVal (cell c k) 0 : sProp 𝕄) := by
  iintro ⟨#Hc, Hp⟩
  ihave #Hi := (ctx_inv m K KS c k) $$ Hc
  iapply (cell_close ER (Rd m) (κ := K (c, k)) (Set.mem_univ _) (fun h => h) (R := R) fun r hr => (duties_eq m c k r).trans (hR r hr))
  isplitr; · iexact Hi
  iexact Hp

theorem close2 (k : Fin 2 → Kd) (n R : ℕ) (h0 : rnd 0 n = R) (h1 : rnd 1 n = R) (hR : ∀ b r, R ≤ r → dutK (some (k b)) r = ∅) :
    iprop(Ctx m K KS ∗ pos2 c k n) ⊢ |={Set.univ}=> iprop((semVal (cell c (k 0)) 0 ∗ semVal (cell c (k 1)) 0) : sProp 𝕄) := by
  unfold pos2
  rw [h0, h1]
  iintro ⟨#Hc, ⟨H0, -⟩, H1, -⟩
  imod (close m c K KS (k 0) R (hR 0)) $$ [H0] with H0
  · isplitr; · iexact Hc
    iexact H0
  imod (close m c K KS (k 1) R (hR 1)) $$ [H1] with H1
  · isplitr; · iexact Hc
    iexact H1
  imodintro
  isplitl [H0]; · iexact H0
  iexact H1

theorem close_cred (f : Fin 4) : iprop(Ctx m K KS ∗ credSt c f 12) ⊢ |={Set.univ}=> (semVal (cell c (.cred f)) 0 : sProp 𝕄) := by
  unfold credSt
  iintro ⟨#Hc, %T, %hT, Hp, -⟩
  have hT' : T = Finset.range 12 := Finset.eq_of_subset_of_card_le hT.1 (by rw [Finset.card_range]; exact hT.2)
  ihave #Hi := (ctx_inv m K KS c (.cred f)) $$ Hc
  imod (fupd_skip ER (Rd m) (κ := K (c, .cred f)) (g := cell c (.cred f)) (R := 0) (m := 12) (T := T) (by rw [dut_cred, hT']) (exp_cred m c f).symm
    (Es := Set.univ) (Set.mem_univ _)) $$ [Hp] with ⟨Hp, -⟩
  · isplitr; · iexact Hi
    iexact Hp
  iapply (close m c K KS (.cred f) 1 fun r hr => if_neg (by omega))
  isplitr; · iexact Hc
  iexact Hp

/-- What flow `f` gives back. -/
def flOut (f : Fin 4) : sProp 𝕄 :=
  iprop((slot ((sbV f 0).view.loc (c : Thread nD τ)) (sbV f 0).view.set ∗ slot ((sbV f 1).view.loc (c : Thread nD τ)) (sbV f 1).view.set)
    ∗ (cmSlot (F := F) (c, f, 0) ∗ cmSlot (F := F) (c, f, 1))
    ∗ semVal (cell c (.cred f)) 0
    ∗ (semVal (cell c (.send f 0)) 0 ∗ semVal (cell c (.send f 1)) 0)
    ∗ (semVal (cell c (.recv f 0)) 0 ∗ semVal (cell c (.recv f 1)) 0))

theorem fl_end (f : Fin 4) : iprop(Ctx m K KS ∗ Fl m c f ⟨14, 14, 14, 12, 12, 14, .any, .any, .any, .full 13⟩) ⊢ |={Set.univ}=> flOut (F := F) c f := by
  unfold Fl flOut
  dsimp only
  iintro ⟨#Hc, -, -, -, -, -, Hs, Hr, -, Hsb, ⟨Hc0, Hc1⟩, Hcr, -⟩
  imod (close2 m c K KS (.send f) 14 7 rfl rfl fun b r hr => if_neg (by omega)) $$ [Hs] with Hs
  · isplitr; · iexact Hc
    iexact Hs
  imod (close2 m c K KS (.recv f) 14 7 rfl rfl fun b r hr => if_neg (by omega)) $$ [Hr] with Hr
  · isplitr; · iexact Hc
    iexact Hr
  imod (close_cred m c K KS f) $$ [Hcr] with Hcr
  · isplitr; · iexact Hc
    iexact Hcr
  ihave Hc0 := (cm_whole m c f 0 .any rfl) $$ Hc0
  ihave Hc1 := (cm_whole m c f 1 (.full 13) rfl) $$ Hc1
  imodintro
  isplitl [Hsb]; · iexact Hsb
  isplitl [Hc0 Hc1]
  · isplitl [Hc0]; · iexact Hc0
    iexact Hc1
  isplitl [Hcr]; · iexact Hcr
  isplitl [Hs]; · iexact Hs
  iexact Hr

/-- What direction `d` gives back. -/
def ddOut (d : Fin 2) : sProp 𝕄 :=
  iprop((slot ((xbV d 0).view.loc (c : Thread nD τ)) (xbV d 0).view.set ∗ slot ((xbV d 1).view.loc (c : Thread nD τ)) (xbV d 1).view.set)
    ∗ (xq m c d 0 ∗ xq m c d 1) ∗ slot (ptA.view.loc (c : Thread nD τ)) (ptA.access (ptR d)).set
    ∗ (semVal (cell c (.load d 0)) 0 ∗ semVal (cell c (.load d 1)) 0))

theorem dd_end (d : Fin 2) : iprop(Ctx m K KS ∗ DD m c d ⟨8, 8, .full 6, .full 7, .full 7⟩) ⊢ |={Set.univ}=> ddOut m c d := by
  unfold DD ddOut
  dsimp only
  iintro ⟨#Hc, -, -, Hs, ⟨H0, H1⟩, Hp⟩
  imod (close2 m c K KS (.load d) 8 4 rfl rfl fun b r hr => if_neg (by omega)) $$ [Hs] with Hs
  · isplitr; · iexact Hc
    iexact Hs
  ihave H0 := (xb_whole m c d 0 (.full 6) rfl) $$ H0
  ihave H1 := (xb_whole m c d 1 (.full 7) rfl) $$ H1
  ihave Hp := (show ptS m c d (.full 7) ⊢ slot (ptA.view.loc (c : Thread nD τ)) (ptA.access (ptR d)).set from pt_whole m c d (.full 7) rfl) $$ Hp
  ihave H0 := (show xbS m c d 0 .any ⊢ iprop(slot ((xbV d 0).view.loc (c : Thread nD τ)) (xbV d 0).view.set ∗ xq m c d 0) from .rfl) $$ H0
  ihave H1 := (show xbS m c d 1 .any ⊢ iprop(slot ((xbV d 1).view.loc (c : Thread nD τ)) (xbV d 1).view.set ∗ xq m c d 1) from .rfl) $$ H1
  icases H0 with ⟨H0, Hx0⟩
  icases H1 with ⟨H1, Hx1⟩
  imodintro
  isplitl [H0 H1]
  · isplitl [H0]; · iexact H0
    iexact H1
  isplitl [Hx0 Hx1]
  · isplitl [Hx0]; · iexact Hx0
    iexact Hx1
  isplitl [Hp]; · iexact Hp
  iexact Hs

/-- What a device holds when its kernel is done. -/
def done : sProp 𝕄 :=
  iprop(xPts m c ∗ bufs c ∗ (bigSep Finset.univ fun k : Kd => semVal (cell c k) 0) ∗ w1Pts m c ∗ w2Pts m c
    ∗ (∃ g, ⌜OutOk m c 32 g⌝ ∗ (oA.view.loc (c : Thread nD τ) ↦[Finset.univ]{fullShare} g)) ∗ ∃ W, owes (c : Thread nD τ) (owedFrom c 106) W)

theorem st_end : St m c K KS g105 ⊢ |={Set.univ}=> done m c := by
  unfold St g105
  dsimp only
  iintro ⟨#Hc, HO, ⟨HF0, HF1, HF2, HF3⟩, ⟨HD0, HD1⟩, HW, HOut, HB⟩
  imod (show iprop(Ctx m K KS ∗ bigSep Finset.univ fun f : Fin 4 => Fl m c f ⟨14, 14, 14, 12, 12, 14, .any, .any, .any, .full 13⟩) ⊢ |={Set.univ}=> (bigSep Finset.univ fun f : Fin 4 => flOut (F := F) c f)
    from (bigSep_with fun f _ => fl_end m c K KS f).trans (bigSep_fupd _ _)) $$ [HF0 HF1 HF2 HF3] with HF
  · isplitr; · iexact Hc
    iapply (Entails.of_eq (bigSep_four (fun f : Fin 4 => Fl m c f ⟨14, 14, 14, 12, 12, 14, .any, .any, .any, .full 13⟩)).symm)
    isplitl [HF0]; · iexact HF0
    isplitl [HF1]; · iexact HF1
    isplitl [HF2]; · iexact HF2
    iexact HF3
  imod (dd_end m c K KS 0) $$ [HD0] with HD0
  · isplitr; · iexact Hc
    iexact HD0
  imod (dd_end m c K KS 1) $$ [HD1] with HD1
  · isplitr; · iexact Hc
    iexact HD1
  unfold BarS
  rw [if_neg (by decide : ¬ 3 ≤ 2)]
  icases HB with ⟨-, -, HB, -⟩
  imod (close m c K KS .bar 1 fun r hr => if_neg (by omega)) $$ [HB] with HB
  · isplitr; · iexact Hc
    iexact HB
  imodintro
  ihave HF := (show (bigSep Finset.univ fun f : Fin 4 => flOut (F := F) c f) ⊢
    iprop((bigSep Finset.univ fun f : Fin 4 => (iprop(slot ((sbV f 0).view.loc (c : Thread nD τ)) (sbV f 0).view.set ∗ slot ((sbV f 1).view.loc (c : Thread nD τ)) (sbV f 1).view.set) : sProp 𝕄))
    ∗ (bigSep Finset.univ fun f : Fin 4 => iprop(cmSlot (F := F) (c, f, 0) ∗ cmSlot (F := F) (c, f, 1)))
    ∗ (bigSep Finset.univ fun f : Fin 4 => (semVal (cell c (.cred f)) 0 : sProp 𝕄))
    ∗ (bigSep Finset.univ fun f : Fin 4 => (iprop(semVal (cell c (.send f 0)) 0 ∗ semVal (cell c (.send f 1)) 0) : sProp 𝕄))
    ∗ (bigSep Finset.univ fun f : Fin 4 => (iprop(semVal (cell c (.recv f 0)) 0 ∗ semVal (cell c (.recv f 1)) 0) : sProp 𝕄))) from Entails.of_eq (by
      unfold flOut; simp only [bigSep_sep'])) $$ HF
  icases HF with ⟨Hsb, Hcm, Hcr, Hs, Hr⟩
  unfold ddOut
  icases HD0 with ⟨Hb0, Hx0, Hp0, Hl0⟩
  icases HD1 with ⟨Hb1, Hx1, Hp1, Hl1⟩
  unfold done bufs
  ihave HW := (show Ws m c 2 ⊢ iprop(w1Pts m c ∗ w2Pts m c
      ∗ (w1bA.view.loc (c : Thread nD τ) ↦[Finset.univ]{fullShare} (w1v m c : Buf (Elt F) (w1bA.view.loc (c : Thread nD τ))))
      ∗ (w2bA.view.loc (c : Thread nD τ) ↦[Finset.univ]{fullShare} (w2v m c : Buf (Elt F) (w2bA.view.loc (c : Thread nD τ))))) from .rfl) $$ HW
  icases HW with ⟨Hw1, Hw2, Hv1, Hv2⟩
  isplitl [Hx0 Hx1]
  · iapply (x_unsplit m c)
    isplitl [Hx0]; · iexact Hx0
    iexact Hx1
  isplitl [Hb0 Hb1 Hp0 Hp1 Hsb Hcm Hv1 Hv2]
  · isplitl [Hb0 Hb1]
    · iapply (xb_unsplit (F := F) c)
      iapply (Entails.of_eq (bigSep_two (fun d : Fin 2 => (bigSep Finset.univ fun b : Fin 2 => slot ((xbV d b).view.loc (c : Thread nD τ)) (xbV d b).view.set : sProp 𝕄))).symm)
      isplitl [Hb0]
      · iapply (Entails.of_eq (bigSep_two (fun b : Fin 2 => (slot ((xbV 0 b).view.loc (c : Thread nD τ)) (xbV 0 b).view.set : sProp 𝕄))).symm)
        iexact Hb0
      · iapply (Entails.of_eq (bigSep_two (fun b : Fin 2 => (slot ((xbV 1 b).view.loc (c : Thread nD τ)) (xbV 1 b).view.set : sProp 𝕄))).symm)
        iexact Hb1
    isplitl [Hp0 Hp1]
    · iapply (pt_unsplit (F := F) c)
      iapply (Entails.of_eq (bigSep_two (fun d : Fin 2 => (slot (ptA.view.loc (c : Thread nD τ)) (ptA.access (ptR d)).set : sProp 𝕄))).symm)
      isplitl [Hp0]; · iexact Hp0
      iexact Hp1
    isplitl [Hsb]
    · iapply (sb_unsplit (F := F) c)
      iapply (show (bigSep Finset.univ fun f : Fin 4 => iprop(slot ((sbV f 0).view.loc (c : Thread nD τ)) (sbV f 0).view.set ∗ slot ((sbV f 1).view.loc (c : Thread nD τ)) (sbV f 1).view.set) : sProp 𝕄) ⊢
        (bigSep Finset.univ fun f : Fin 4 => bigSep Finset.univ fun b : Fin 2 => slot ((sbV f b).view.loc (c : Thread nD τ)) (sbV f b).view.set)
        from bigSep_mono fun f _ => Entails.of_eq (bigSep_two (fun b : Fin 2 => (slot ((sbV f b).view.loc (c : Thread nD τ)) (sbV f b).view.set : sProp 𝕄))).symm)
      iexact Hsb
    isplitl [Hcm]
    · iapply (cm_unsplit (F := F) c)
      iapply (show (bigSep Finset.univ fun f : Fin 4 => iprop(cmSlot (F := F) (c, f, 0) ∗ cmSlot (F := F) (c, f, 1)) : sProp 𝕄) ⊢
        (bigSep Finset.univ fun f : Fin 4 => bigSep Finset.univ fun b : Fin 2 => cmSlot (F := F) (c, f, b))
        from bigSep_mono fun f _ => Entails.of_eq (bigSep_two (fun b : Fin 2 => cmSlot (F := F) (c, f, b))).symm)
      iexact Hcm
    isplitl [Hv1]; · iexists _; iexact Hv1
    iexists _; iexact Hv2
  isplitl [HB Hcr Hl0 Hl1 Hs Hr]
  · iapply (Entails.of_eq (kd_split (fun k : Kd => (semVal (cell c k) 0 : sProp 𝕄))).symm)
    isplitl [HB]; · iexact HB
    isplitl [Hcr]; · iexact Hcr
    isplitl [Hl0 Hl1]
    · iapply (Entails.of_eq (bigSep_two (fun d : Fin 2 => (iprop(semVal (cell c (.load d 0)) 0 ∗ semVal (cell c (.load d 1)) 0) : sProp 𝕄))).symm)
      isplitl [Hl0]; · iexact Hl0
      iexact Hl1
    isplitl [Hs]; · iexact Hs
    iexact Hr
  isplitl [Hw1]; · iexact Hw1
  isplitl [Hw2]; · iexact Hw2
  isplitl [HOut]; · unfold OutS; iexact HOut
  unfold OW; iexact HO

end

end Cert.Ring
-- ==== Proof.Parts1.lean ====
/- Parts 1 to 17 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part1 {Q : (Σ' (d0 : Dev nD) (v2 : BitVec 32) (v5 : BitVec 32) (v7 : BitVec 32) (v26 : BitVec 32), BitVec 32) → sProp 𝕄} (h : ∀ u1 u2 u3 u4 u5 : BitVec 32, St m c K KS g1 ⊢ Q ⟨c, u1, u2, u3, u4, u5⟩) :
    St m c K KS g0 ⊢ run c (k0_part1 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 ) Q := by
  simp only [k0_part1_eq_skeleton]; unfold k0_part1_skel
  simp only [semSignalWord, semWaitWord, Prog.lift, Prog.bind_op, Prog.bind_ret, Prog.pure_eq_ret, wp_deviceId]
  refine st_ldw1 m c K KS (funext fun a => by fin_cases a <;> rfl) _ ?_
  refine st_ldw1b0 m c K KS (funext fun a => by fin_cases a <;> rfl) _ (by decide +kernel) (fun _ => ?_)
  refine st_stw1b m c K KS (funext fun a => by fin_cases a <;> rfl) _ (by decide +kernel) rfl ?_
  refine st_ldw2 m c K KS (funext fun a => by fin_cases a <;> rfl) _ ?_
  refine st_ldw2b0 m c K KS (funext fun a => by fin_cases a <;> rfl) _ (by decide +kernel) (fun _ => ?_)
  refine st_stw2b m c K KS (funext fun a => by fin_cases a <;> rfl) _ (by decide +kernel) rfl ?_
  refine st_bar0 m c K KS _ ((show ∀ c : Dev nD, (⟨k0_dev1 c, k0_dev1_lt c⟩ : Dev nD) = prv c by decide +kernel) c) _ rfl _ (by decide +kernel) ?_
  refine st_bar1 m c K KS _ ((show ∀ c : Dev nD, (⟨k0_dev2 c, k0_dev2_lt c⟩ : Dev nD) = nxt c by decide +kernel) c) _ rfl _ (by decide +kernel) ?_
  refine st_barw m c K KS _ rfl _ (by decide +kernel) ?_
  exact st_ret m c K KS _ _ (h _ _ _ _ _)

theorem part2 (v2 v27 : BitVec 32) {Q : (Σ' (v29 : BitVec 32) (v31 : BitVec 32) (v34 : BitVec 32), BitVec 32) → sProp 𝕄} (h : ∀ u0 u1 u2 u3 : BitVec 32, St m c K KS g2 ⊢ Q ⟨u0, u1, u2, u3⟩) :
    St m c K KS g1 ⊢ run c (k0_part2 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v27) Q := by
  simp only [k0_part2_eq_skeleton]; unfold k0_part2_skel
  simp only [semSignalWord, semWaitWord, Prog.lift, Prog.bind_op, Prog.bind_ret, Prog.pure_eq_ret, wp_deviceId]
  refine st_load m c K KS 0 0 _ ((show ∀ c : Dev nD, k0_off1 c 0#32 = xOff c 0 0 by decide +kernel) c) _ (by decide +kernel) ?_
  refine st_load m c K KS 1 0 _ ((show ∀ c : Dev nD, k0_off1 c 512#32 = xOff c 1 0 by decide +kernel) c) _ (by decide +kernel) ?_
  exact st_ret m c K KS _ _ (h _ _ _ _)

theorem part3 (v52 : BitVec 32) {Q : PUnit → sProp 𝕄} (h : St m c K KS g3 ⊢ Q ⟨⟩) :
    St m c K KS g2 ⊢ run c (k0_part3 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v52) Q := by
  simp only [k0_part3_eq_skeleton]; unfold k0_part3_skel
  simp only [semSignalWord, semWaitWord, Prog.lift, Prog.bind_op, Prog.bind_ret, Prog.pure_eq_ret, wp_deviceId]
  refine st_loaded m c K KS 0 0 _ (by decide +kernel) ?_
  refine st_load m c K KS 0 1 _ ((show ∀ c : Dev nD, k0_off2 c 0#32 = xOff c 0 1 by decide +kernel) c) _ (by decide +kernel) ?_
  refine st_ldxb m c K KS 0 0 0 _ (by decide +kernel) ?_
  refine st_ldw1b m c K KS (funext fun a => by fin_cases a <;> rfl) _ (by decide +kernel) ?_
  refine st_ldpt0 m c K KS 0 _ (by decide +kernel) (fun _ => ?_)
  refine st_part m c K KS 0 0 _ (by decide +kernel) rfl ?_
  refine st_ldpt m c K KS 0 0 0 _ (by decide +kernel) ?_
  refine st_ldsb0 m c K KS 0 0 _ (by decide +kernel) (fun _ => ?_)
  refine st_put m c K KS 0 0 _ (by decide +kernel) (X_zero m c 0).symm ?_
  exact st_ret m c K KS _ _ h

theorem part4 (v2 v7 : BitVec 32) {Q : (Σ' (v106 : BitVec 32), BitVec 32) → sProp 𝕄} (h : ∀ u0 u1 : BitVec 32, St m c K KS g4 ⊢ Q ⟨u0, u1⟩) :
    St m c K KS g3 ⊢ run c (k0_part4 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7) Q := by
  simp only [k0_part4_eq_skeleton]; unfold k0_part4_skel
  simp only [semSignalWord, semWaitWord, Prog.lift, Prog.bind_op, Prog.bind_ret, Prog.pure_eq_ret, wp_deviceId]
  refine st_sendA m c K KS 0 0 _ ((show ∀ c : Dev nD, (⟨k0_dev3 c, k0_dev3_lt c⟩ : Dev nD) = dst c 0 by decide +kernel) c) _ (by decide +kernel) ?_
  refine st_ldpt m c K KS 0 1 0 _ (by decide +kernel) ?_
  refine st_ldsb0 m c K KS 2 0 _ (by decide +kernel) (fun _ => ?_)
  refine st_put m c K KS 2 0 _ (by decide +kernel) (X_zero m c 2).symm ?_
  refine st_sendA m c K KS 2 0 _ ((show ∀ c : Dev nD, (⟨k0_dev4 c, k0_dev4_lt c⟩ : Dev nD) = dst c 2 by decide +kernel) c) _ (by decide +kernel) ?_
  exact st_ret m c K KS _ _ (h _ _)

theorem part5 (v106 c8_i32_106 : BitVec 32) {Q : (FVec F S256x1024 .bf16) → sProp 𝕄} (h : St m c K KS g5 ⊢ Q ((k0_pay7 (half (part m c 1 0) 0)))) :
    St m c K KS g4 ⊢ run c (k0_part5 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v106 c8_i32_106) Q := by
  simp only [k0_part5_eq_skeleton]; unfold k0_part5_skel
  simp only [semSignalWord, semWaitWord, Prog.lift, Prog.bind_op, Prog.bind_ret, Prog.pure_eq_ret, wp_deviceId]
  refine st_loaded m c K KS 1 0 _ (by decide +kernel) ?_
  refine st_load m c K KS 1 1 _ ((show ∀ c : Dev nD, k0_off3 c 0#32 = xOff c 1 1 by decide +kernel) c) _ (by decide +kernel) ?_
  refine st_ldxb m c K KS 1 0 0 _ (by decide +kernel) ?_
  refine st_ldw1b m c K KS (funext fun a => by fin_cases a <;> rfl) _ (by decide +kernel) ?_
  refine st_ldpt0 m c K KS 1 _ (by decide +kernel) (fun _ => ?_)
  refine st_part m c K KS 1 0 _ (by decide +kernel) rfl ?_
  refine st_ldpt m c K KS 1 0 0 _ (by decide +kernel) ?_
  refine st_ldsb0 m c K KS 1 0 _ (by decide +kernel) (fun _ => ?_)
  exact st_ret m c K KS _ _ h

theorem part6 (v5 : BitVec 32) {Q : PUnit → sProp 𝕄} (h : St m c K KS g6 ⊢ Q ⟨⟩) :
    St m c K KS g5 ⊢ run c (k0_part6 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 ((k0_pay7 (half (part m c 1 0) 0)))) Q := by
  simp only [k0_part6_eq_skeleton]; unfold k0_part6_skel
  simp only [semSignalWord, semWaitWord, Prog.lift, Prog.bind_op, Prog.bind_ret, Prog.pure_eq_ret, wp_deviceId]
  refine st_put m c K KS 1 0 _ (by decide +kernel) (X_zero m c 1).symm ?_
  refine st_sendA m c K KS 1 0 _ ((show ∀ c : Dev nD, (⟨k0_dev5 c, k0_dev5_lt c⟩ : Dev nD) = dst c 1 by decide +kernel) c) _ (by decide +kernel) ?_
  refine st_ldpt m c K KS 1 1 0 _ (by decide +kernel) ?_
  refine st_ldsb0 m c K KS 3 0 _ (by decide +kernel) (fun _ => ?_)
  refine st_put m c K KS 3 0 _ (by decide +kernel) (X_zero m c 3).symm ?_
  exact st_ret m c K KS _ _ h

theorem part7 (v2 : BitVec 32) {Q : (Σ' (v184 : BitVec 32), BitVec 32) → sProp 𝕄} (h : ∀ u0 u1 : BitVec 32, St m c K KS g7 ⊢ Q ⟨u0, u1⟩) :
    St m c K KS g6 ⊢ run c (k0_part7 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2) Q := by
  simp only [k0_part7_eq_skeleton]; unfold k0_part7_skel
  simp only [semSignalWord, semWaitWord, Prog.lift, Prog.bind_op, Prog.bind_ret, Prog.pure_eq_ret, wp_deviceId]
  refine st_sendA m c K KS 3 0 _ ((show ∀ c : Dev nD, (⟨k0_dev6 c, k0_dev6_lt c⟩ : Dev nD) = dst c 3 by decide +kernel) c) _ (by decide +kernel) ?_
  refine st_loaded m c K KS 0 1 _ (by decide +kernel) ?_
  refine st_load m c K KS 0 2 _ ((show ∀ c : Dev nD, k0_off2 c 1#32 = xOff c 0 2 by decide +kernel) c) _ (by decide +kernel) ?_
  refine st_ldxb m c K KS 0 1 1 _ (by decide +kernel) ?_
  refine st_ldw1b m c K KS (funext fun a => by fin_cases a <;> rfl) _ (by decide +kernel) ?_
  refine st_ldpt0 m c K KS 0 _ (by decide +kernel) (fun _ => ?_)
  refine st_part m c K KS 0 1 _ (by decide +kernel) rfl ?_
  exact st_ret m c K KS _ _ (h _ _)

theorem part8 (v7 v184 c1_i32_195 : BitVec 32) {Q : PUnit → sProp 𝕄} (h : St m c K KS g8 ⊢ Q ⟨⟩) :
    St m c K KS g7 ⊢ run c (k0_part8 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7 v184 c1_i32_195) Q := by
  simp only [k0_part8_eq_skeleton]; unfold k0_part8_skel
  simp only [semSignalWord, semWaitWord, Prog.lift, Prog.bind_op, Prog.bind_ret, Prog.pure_eq_ret, wp_deviceId]
  refine st_loaded m c K KS 1 1 _ (by decide +kernel) ?_
  refine st_load m c K KS 1 2 _ ((show ∀ c : Dev nD, k0_off3 c 1#32 = xOff c 1 2 by decide +kernel) c) _ (by decide +kernel) ?_
  refine st_ldxb m c K KS 1 1 1 _ (by decide +kernel) ?_
  refine st_ldw1b m c K KS (funext fun a => by fin_cases a <;> rfl) _ (by decide +kernel) ?_
  refine st_ldpt0 m c K KS 1 _ (by decide +kernel) (fun _ => ?_)
  refine st_part m c K KS 1 1 _ (by decide +kernel) rfl ?_
  exact st_ret m c K KS _ _ h

theorem part9 (v5 v7 : BitVec 32) {Q : PUnit → sProp 𝕄} (h : St m c K KS g9 ⊢ Q ⟨⟩) :
    St m c K KS g8 ⊢ run c (k0_part9 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part9_eq_skeleton]; unfold k0_part9_skel
  simp only [semSignalWord, semWaitWord, Prog.lift, Prog.bind_op, Prog.bind_ret, Prog.pure_eq_ret, wp_deviceId]
  refine st_recv m c K KS 0 0 _ (by decide +kernel) ?_
  refine st_ldcm m c K KS 0 0 0 _ (by decide +kernel) ?_
  refine st_ldpt m c K KS 0 0 1 _ (by decide +kernel) ?_
  refine st_ldsb0 m c K KS 0 1 _ (by decide +kernel) (fun _ => ?_)
  refine st_put m c K KS 0 1 _ (by decide +kernel) (X_sum m 0 (by decide) c 0).symm ?_
  refine st_credit m c K KS 0 0 _ ((show ∀ c : Dev nD, (⟨k0_dev7 c, k0_dev7_lt c⟩ : Dev nD) = src c 0 by decide +kernel) c) _ rfl _ (by decide +kernel) ?_
  exact st_ret m c K KS _ _ h

theorem part10 (v5 v7 : BitVec 32) {Q : (Σ' (v257 : BitVec 32), BitVec 32) → sProp 𝕄} (h : ∀ u0 u1 : BitVec 32, St m c K KS g10 ⊢ Q ⟨u0, u1⟩) :
    St m c K KS g9 ⊢ run c (k0_part10 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part10_eq_skeleton]; unfold k0_part10_skel
  simp only [semSignalWord, semWaitWord, Prog.lift, Prog.bind_op, Prog.bind_ret, Prog.pure_eq_ret, wp_deviceId]
  refine st_sendA m c K KS 0 1 _ ((show ∀ c : Dev nD, (⟨k0_dev8 c, k0_dev8_lt c⟩ : Dev nD) = dst c 0 by decide +kernel) c) _ (by decide +kernel) ?_
  refine st_recv m c K KS 1 0 _ (by decide +kernel) ?_
  refine st_ldcm m c K KS 1 0 0 _ (by decide +kernel) ?_
  refine st_ldpt m c K KS 1 0 1 _ (by decide +kernel) ?_
  refine st_ldsb0 m c K KS 1 1 _ (by decide +kernel) (fun _ => ?_)
  refine st_put m c K KS 1 1 _ (by decide +kernel) (X_sum m 0 (by decide) c 1).symm ?_
  refine st_credit m c K KS 1 0 _ ((show ∀ c : Dev nD, (⟨k0_dev9 c, k0_dev9_lt c⟩ : Dev nD) = src c 1 by decide +kernel) c) _ rfl _ (by decide +kernel) ?_
  exact st_ret m c K KS _ _ (h _ _)

theorem part11 (v5 v7 v257 c0_i32_292 : BitVec 32) {Q : (BitVec 32) → sProp 𝕄} (h : ∀ u0 : BitVec 32, St m c K KS g11 ⊢ Q u0) :
    St m c K KS g10 ⊢ run c (k0_part11 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v257 c0_i32_292) Q := by
  simp only [k0_part11_eq_skeleton]; unfold k0_part11_skel
  simp only [semSignalWord, semWaitWord, Prog.lift, Prog.bind_op, Prog.bind_ret, Prog.pure_eq_ret, wp_deviceId]
  refine st_sendA m c K KS 1 1 _ ((show ∀ c : Dev nD, (⟨k0_dev10 c, k0_dev10_lt c⟩ : Dev nD) = dst c 1 by decide +kernel) c) _ (by decide +kernel) ?_
  refine st_recv m c K KS 2 0 _ (by decide +kernel) ?_
  refine st_ldcm m c K KS 2 0 0 _ (by decide +kernel) ?_
  refine st_ldpt m c K KS 0 1 1 _ (by decide +kernel) ?_
  refine st_ldsb0 m c K KS 2 1 _ (by decide +kernel) (fun _ => ?_)
  refine st_put m c K KS 2 1 _ (by decide +kernel) (X_sum m 0 (by decide) c 2).symm ?_
  exact st_ret m c K KS _ _ (h _)

theorem part12 (v5 v7 v285 : BitVec 32) {Q : (FVec F S256x1024 .f32) → sProp 𝕄} (h : St m c K KS g12 ⊢ Q ((k0_pay15 (X m 0 (src c 3) 3) (half (part m c 1 1) 1)))) :
    St m c K KS g11 ⊢ run c (k0_part12 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v285) Q := by
  simp only [k0_part12_eq_skeleton]; unfold k0_part12_skel
  simp only [semSignalWord, semWaitWord, Prog.lift, Prog.bind_op, Prog.bind_ret, Prog.pure_eq_ret, wp_deviceId]
  refine st_credit m c K KS 2 0 _ ((show ∀ c : Dev nD, (⟨k0_dev11 c, k0_dev11_lt c⟩ : Dev nD) = src c 2 by decide +kernel) c) _ rfl _ (by decide +kernel) ?_
  refine st_sendA m c K KS 2 1 _ ((show ∀ c : Dev nD, (⟨k0_dev12 c, k0_dev12_lt c⟩ : Dev nD) = dst c 2 by decide +kernel) c) _ (by decide +kernel) ?_
  refine st_recv m c K KS 3 0 _ (by decide +kernel) ?_
  refine st_ldcm m c K KS 3 0 0 _ (by decide +kernel) ?_
  refine st_ldpt m c K KS 1 1 1 _ (by decide +kernel) ?_
  exact st_ret m c K KS _ _ h

theorem part13 (v2 v5 v7 : BitVec 32) {Q : (BitVec 32) → sProp 𝕄} (h : ∀ u0 : BitVec 32, St m c K KS g13 ⊢ Q u0) :
    St m c K KS g12 ⊢ run c (k0_part13 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7 ((k0_pay15 (X m 0 (src c 3) 3) (half (part m c 1 1) 1)))) Q := by
  simp only [k0_part13_eq_skeleton]; unfold k0_part13_skel
  simp only [semSignalWord, semWaitWord, Prog.lift, Prog.bind_op, Prog.bind_ret, Prog.pure_eq_ret, wp_deviceId]
  refine st_ldsb0 m c K KS 3 1 _ (by decide +kernel) (fun _ => ?_)
  refine st_put m c K KS 3 1 _ (by decide +kernel) (X_sum m 0 (by decide) c 3).symm ?_
  refine st_credit m c K KS 3 0 _ ((show ∀ c : Dev nD, (⟨k0_dev13 c, k0_dev13_lt c⟩ : Dev nD) = src c 3 by decide +kernel) c) _ rfl _ (by decide +kernel) ?_
  refine st_sendA m c K KS 3 1 _ ((show ∀ c : Dev nD, (⟨k0_dev14 c, k0_dev14_lt c⟩ : Dev nD) = dst c 3 by decide +kernel) c) _ (by decide +kernel) ?_
  refine st_loaded m c K KS 0 2 _ (by decide +kernel) ?_
  exact st_ret m c K KS _ _ (h _)

theorem part14 (v2 v336 : BitVec 32) {Q : PUnit → sProp 𝕄} (h : St m c K KS g14 ⊢ Q ⟨⟩) :
    St m c K KS g13 ⊢ run c (k0_part14 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v336) Q := by
  simp only [k0_part14_eq_skeleton]; unfold k0_part14_skel
  simp only [semSignalWord, semWaitWord, Prog.lift, Prog.bind_op, Prog.bind_ret, Prog.pure_eq_ret, wp_deviceId]
  refine st_load m c K KS 0 3 _ ((show ∀ c : Dev nD, k0_off2 c 2#32 = xOff c 0 3 by decide +kernel) c) _ (by decide +kernel) ?_
  refine st_ldxb m c K KS 0 0 2 _ (by decide +kernel) ?_
  refine st_ldw1b m c K KS (funext fun a => by fin_cases a <;> rfl) _ (by decide +kernel) ?_
  refine st_ldpt0 m c K KS 0 _ (by decide +kernel) (fun _ => ?_)
  refine st_part m c K KS 0 2 _ (by decide +kernel) rfl ?_
  refine st_loaded m c K KS 1 2 _ (by decide +kernel) ?_
  exact st_ret m c K KS _ _ h

theorem part15 (v7 : BitVec 32) {Q : PUnit → sProp 𝕄} (h : St m c K KS g15 ⊢ Q ⟨⟩) :
    St m c K KS g14 ⊢ run c (k0_part15 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7) Q := by
  simp only [k0_part15_eq_skeleton]; unfold k0_part15_skel
  simp only [semSignalWord, semWaitWord, Prog.lift, Prog.bind_op, Prog.bind_ret, Prog.pure_eq_ret, wp_deviceId]
  refine st_load m c K KS 1 3 _ ((show ∀ c : Dev nD, k0_off3 c 2#32 = xOff c 1 3 by decide +kernel) c) _ (by decide +kernel) ?_
  refine st_ldxb m c K KS 1 0 2 _ (by decide +kernel) ?_
  refine st_ldw1b m c K KS (funext fun a => by fin_cases a <;> rfl) _ (by decide +kernel) ?_
  refine st_ldpt0 m c K KS 1 _ (by decide +kernel) (fun _ => ?_)
  refine st_part m c K KS 1 2 _ (by decide +kernel) rfl ?_
  refine st_recv m c K KS 0 1 _ (by decide +kernel) ?_
  exact st_ret m c K KS _ _ h

theorem part16 (v5 v7 : BitVec 32) {Q : PUnit → sProp 𝕄} (h : St m c K KS g16 ⊢ Q ⟨⟩) :
    St m c K KS g15 ⊢ run c (k0_part16 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part16_eq_skeleton]; unfold k0_part16_skel
  simp only [semSignalWord, semWaitWord, Prog.lift, Prog.bind_op, Prog.bind_ret, Prog.pure_eq_ret, wp_deviceId]
  refine st_waitA m c K KS 0 0 _ (by decide +kernel) ?_
  refine st_ldcm m c K KS 0 1 1 _ (by decide +kernel) ?_
  refine st_ldpt m c K KS 0 0 2 _ (by decide +kernel) ?_
  refine st_ldsb0 m c K KS 0 0 _ (by decide +kernel) (fun _ => ?_)
  refine st_put m c K KS 0 2 _ (by decide +kernel) (X_sum m 1 (by decide) c 0).symm ?_
  refine st_credit m c K KS 0 1 _ ((show ∀ c : Dev nD, (⟨k0_dev15 c, k0_dev15_lt c⟩ : Dev nD) = src c 0 by decide +kernel) c) _ rfl _ (by decide +kernel) ?_
  refine st_take m c K KS 0 0 _ rfl _ (by decide +kernel) ?_
  refine st_sendA m c K KS 0 2 _ ((show ∀ c : Dev nD, (⟨k0_dev16 c, k0_dev16_lt c⟩ : Dev nD) = dst c 0 by decide +kernel) c) _ (by decide +kernel) ?_
  exact st_ret m c K KS _ _ h

theorem part17 (v5 : BitVec 32) {Q : PUnit → sProp 𝕄} (h : St m c K KS g17 ⊢ Q ⟨⟩) :
    St m c K KS g16 ⊢ run c (k0_part17 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v5) Q := by
  simp only [k0_part17_eq_skeleton]; unfold k0_part17_skel
  simp only [semSignalWord, semWaitWord, Prog.lift, Prog.bind_op, Prog.bind_ret, Prog.pure_eq_ret, wp_deviceId]
  refine st_recv m c K KS 1 1 _ (by decide +kernel) ?_
  refine st_waitA m c K KS 1 0 _ (by decide +kernel) ?_
  refine st_ldcm m c K KS 1 1 1 _ (by decide +kernel) ?_
  refine st_ldpt m c K KS 1 0 2 _ (by decide +kernel) ?_
  refine st_ldsb0 m c K KS 1 0 _ (by decide +kernel) (fun _ => ?_)
  refine st_put m c K KS 1 2 _ (by decide +kernel) (X_sum m 1 (by decide) c 1).symm ?_
  exact st_ret m c K KS _ _ h

end

end Cert.Ring
-- ==== Proof.Parts2.lean ====
/- Parts 18 to 34 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part18 (v5 v7 : BitVec 32) {Q : PUnit → sProp 𝕄} (h : St m c K KS g18 ⊢ Q ⟨⟩) :
    St m c K KS g17 ⊢ run c (k0_part18 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part18_eq_skeleton]; unfold k0_part18_skel
  simp only [semSignalWord, semWaitWord, Prog.lift, Prog.bind_op, Prog.bind_ret, Prog.pure_eq_ret, wp_deviceId]
  refine st_credit m c K KS 1 1 _ ((show ∀ c : Dev nD, (⟨k0_dev17 c, k0_dev17_lt c⟩ : Dev nD) = src c 1 by decide +kernel) c) _ rfl _ (by decide +kernel) ?_
  refine st_take m c K KS 1 0 _ rfl _ (by decide +kernel) ?_
  refine st_sendA m c K KS 1 2 _ ((show ∀ c : Dev nD, (⟨k0_dev18 c, k0_dev18_lt c⟩ : Dev nD) = dst c 1 by decide +kernel) c) _ (by decide +kernel) ?_
  refine st_recv m c K KS 2 1 _ (by decide +kernel) ?_
  exact st_ret m c K KS _ _ h

theorem part19 (v5 v7 : BitVec 32) {Q : PUnit → sProp 𝕄} (h : St m c K KS g19 ⊢ Q ⟨⟩) :
    St m c K KS g18 ⊢ run c (k0_part19 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part19_eq_skeleton]; unfold k0_part19_skel
  simp only [semSignalWord, semWaitWord, Prog.lift, Prog.bind_op, Prog.bind_ret, Prog.pure_eq_ret, wp_deviceId]
  refine st_waitA m c K KS 2 0 _ (by decide +kernel) ?_
  refine st_ldcm m c K KS 2 1 1 _ (by decide +kernel) ?_
  refine st_ldpt m c K KS 0 1 2 _ (by decide +kernel) ?_
  refine st_ldsb0 m c K KS 2 0 _ (by decide +kernel) (fun _ => ?_)
  refine st_put m c K KS 2 2 _ (by decide +kernel) (X_sum m 1 (by decide) c 2).symm ?_
  refine st_credit m c K KS 2 1 _ ((show ∀ c : Dev nD, (⟨k0_dev19 c, k0_dev19_lt c⟩ : Dev nD) = src c 2 by decide +kernel) c) _ rfl _ (by decide +kernel) ?_
  refine st_take m c K KS 2 0 _ rfl _ (by decide +kernel) ?_
  exact st_ret m c K KS _ _ h

theorem part20 (v5 : BitVec 32) {Q : (FVec F S256x1024 .bf16) → sProp 𝕄} (h : St m c K KS g20 ⊢ Q ((k0_pay22 (X m 1 (src c 3) 3) (half (part m c 1 2) 1)))) :
    St m c K KS g19 ⊢ run c (k0_part20 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part20_eq_skeleton]; unfold k0_part20_skel
  simp only [semSignalWord, semWaitWord, Prog.lift, Prog.bind_op, Prog.bind_ret, Prog.pure_eq_ret, wp_deviceId]
  refine st_sendA m c K KS 2 2 _ ((show ∀ c : Dev nD, (⟨k0_dev20 c, k0_dev20_lt c⟩ : Dev nD) = dst c 2 by decide +kernel) c) _ (by decide +kernel) ?_
  refine st_recv m c K KS 3 1 _ (by decide +kernel) ?_
  refine st_waitA m c K KS 3 0 _ (by decide +kernel) ?_
  refine st_ldcm m c K KS 3 1 1 _ (by decide +kernel) ?_
  refine st_ldpt m c K KS 1 1 2 _ (by decide +kernel) ?_
  exact st_ret m c K KS _ _ h

theorem part21 (v2 v5 v7 : BitVec 32) {Q : (BitVec 32) → sProp 𝕄} (h : ∀ u0 : BitVec 32, St m c K KS g21 ⊢ Q u0) :
    St m c K KS g20 ⊢ run c (k0_part21 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7 ((k0_pay22 (X m 1 (src c 3) 3) (half (part m c 1 2) 1)))) Q := by
  simp only [k0_part21_eq_skeleton]; unfold k0_part21_skel
  simp only [semSignalWord, semWaitWord, Prog.lift, Prog.bind_op, Prog.bind_ret, Prog.pure_eq_ret, wp_deviceId]
  refine st_ldsb0 m c K KS 3 0 _ (by decide +kernel) (fun _ => ?_)
  refine st_put m c K KS 3 2 _ (by decide +kernel) (X_sum m 1 (by decide) c 3).symm ?_
  refine st_credit m c K KS 3 1 _ ((show ∀ c : Dev nD, (⟨k0_dev21 c, k0_dev21_lt c⟩ : Dev nD) = src c 3 by decide +kernel) c) _ rfl _ (by decide +kernel) ?_
  refine st_take m c K KS 3 0 _ rfl _ (by decide +kernel) ?_
  refine st_sendA m c K KS 3 2 _ ((show ∀ c : Dev nD, (⟨k0_dev22 c, k0_dev22_lt c⟩ : Dev nD) = dst c 3 by decide +kernel) c) _ (by decide +kernel) ?_
  refine st_loaded m c K KS 0 3 _ (by decide +kernel) ?_
  exact st_ret m c K KS _ _ (h _)

theorem part22 (v2 v527 : BitVec 32) {Q : PUnit → sProp 𝕄} (h : St m c K KS g22 ⊢ Q ⟨⟩) :
    St m c K KS g21 ⊢ run c (k0_part22 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v527) Q := by
  simp only [k0_part22_eq_skeleton]; unfold k0_part22_skel
  simp only [semSignalWord, semWaitWord, Prog.lift, Prog.bind_op, Prog.bind_ret, Prog.pure_eq_ret, wp_deviceId]
  refine st_load m c K KS 0 4 _ ((show ∀ c : Dev nD, k0_off2 c 3#32 = xOff c 0 4 by decide +kernel) c) _ (by decide +kernel) ?_
  refine st_ldxb m c K KS 0 1 3 _ (by decide +kernel) ?_
  refine st_ldw1b m c K KS (funext fun a => by fin_cases a <;> rfl) _ (by decide +kernel) ?_
  refine st_ldpt0 m c K KS 0 _ (by decide +kernel) (fun _ => ?_)
  refine st_part m c K KS 0 3 _ (by decide +kernel) rfl ?_
  refine st_loaded m c K KS 1 3 _ (by decide +kernel) ?_
  exact st_ret m c K KS _ _ h

theorem part23 (v7 : BitVec 32) {Q : PUnit → sProp 𝕄} (h : St m c K KS g23 ⊢ Q ⟨⟩) :
    St m c K KS g22 ⊢ run c (k0_part23 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7) Q := by
  simp only [k0_part23_eq_skeleton]; unfold k0_part23_skel
  simp only [semSignalWord, semWaitWord, Prog.lift, Prog.bind_op, Prog.bind_ret, Prog.pure_eq_ret, wp_deviceId]
  refine st_load m c K KS 1 4 _ ((show ∀ c : Dev nD, k0_off3 c 3#32 = xOff c 1 4 by decide +kernel) c) _ (by decide +kernel) ?_
  refine st_ldxb m c K KS 1 1 3 _ (by decide +kernel) ?_
  refine st_ldw1b m c K KS (funext fun a => by fin_cases a <;> rfl) _ (by decide +kernel) ?_
  refine st_ldpt0 m c K KS 1 _ (by decide +kernel) (fun _ => ?_)
  refine st_part m c K KS 1 3 _ (by decide +kernel) rfl ?_
  refine st_recv m c K KS 0 2 _ (by decide +kernel) ?_
  exact st_ret m c K KS _ _ h

theorem part24 (v5 v7 : BitVec 32) {Q : PUnit → sProp 𝕄} (h : St m c K KS g24 ⊢ Q ⟨⟩) :
    St m c K KS g23 ⊢ run c (k0_part24 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part24_eq_skeleton]; unfold k0_part24_skel
  simp only [semSignalWord, semWaitWord, Prog.lift, Prog.bind_op, Prog.bind_ret, Prog.pure_eq_ret, wp_deviceId]
  refine st_waitA m c K KS 0 1 _ (by decide +kernel) ?_
  refine st_ldcm m c K KS 0 0 2 _ (by decide +kernel) ?_
  refine st_ldpt m c K KS 0 0 3 _ (by decide +kernel) ?_
  refine st_ldsb0 m c K KS 0 1 _ (by decide +kernel) (fun _ => ?_)
  refine st_put m c K KS 0 3 _ (by decide +kernel) (X_sum m 2 (by decide) c 0).symm ?_
  refine st_credit m c K KS 0 2 _ ((show ∀ c : Dev nD, (⟨k0_dev23 c, k0_dev23_lt c⟩ : Dev nD) = src c 0 by decide +kernel) c) _ rfl _ (by decide +kernel) ?_
  refine st_take m c K KS 0 1 _ rfl _ (by decide +kernel) ?_
  refine st_sendA m c K KS 0 3 _ ((show ∀ c : Dev nD, (⟨k0_dev24 c, k0_dev24_lt c⟩ : Dev nD) = dst c 0 by decide +kernel) c) _ (by decide +kernel) ?_
  exact st_ret m c K KS _ _ h

theorem part25 (v5 : BitVec 32) {Q : PUnit → sProp 𝕄} (h : St m c K KS g25 ⊢ Q ⟨⟩) :
    St m c K KS g24 ⊢ run c (k0_part25 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v5) Q := by
  simp only [k0_part25_eq_skeleton]; unfold k0_part25_skel
  simp only [semSignalWord, semWaitWord, Prog.lift, Prog.bind_op, Prog.bind_ret, Prog.pure_eq_ret, wp_deviceId]
  refine st_recv m c K KS 1 2 _ (by decide +kernel) ?_
  refine st_waitA m c K KS 1 1 _ (by decide +kernel) ?_
  refine st_ldcm m c K KS 1 0 2 _ (by decide +kernel) ?_
  refine st_ldpt m c K KS 1 0 3 _ (by decide +kernel) ?_
  refine st_ldsb0 m c K KS 1 1 _ (by decide +kernel) (fun _ => ?_)
  refine st_put m c K KS 1 3 _ (by decide +kernel) (X_sum m 2 (by decide) c 1).symm ?_
  exact st_ret m c K KS _ _ h

theorem part26 (v5 v7 : BitVec 32) {Q : PUnit → sProp 𝕄} (h : St m c K KS g26 ⊢ Q ⟨⟩) :
    St m c K KS g25 ⊢ run c (k0_part26 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part26_eq_skeleton]; unfold k0_part26_skel
  simp only [semSignalWord, semWaitWord, Prog.lift, Prog.bind_op, Prog.bind_ret, Prog.pure_eq_ret, wp_deviceId]
  refine st_credit m c K KS 1 2 _ ((show ∀ c : Dev nD, (⟨k0_dev25 c, k0_dev25_lt c⟩ : Dev nD) = src c 1 by decide +kernel) c) _ rfl _ (by decide +kernel) ?_
  refine st_take m c K KS 1 1 _ rfl _ (by decide +kernel) ?_
  refine st_sendA m c K KS 1 3 _ ((show ∀ c : Dev nD, (⟨k0_dev26 c, k0_dev26_lt c⟩ : Dev nD) = dst c 1 by decide +kernel) c) _ (by decide +kernel) ?_
  refine st_recv m c K KS 2 2 _ (by decide +kernel) ?_
  exact st_ret m c K KS _ _ h

theorem part27 (v5 v7 : BitVec 32) {Q : PUnit → sProp 𝕄} (h : St m c K KS g27 ⊢ Q ⟨⟩) :
    St m c K KS g26 ⊢ run c (k0_part27 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part27_eq_skeleton]; unfold k0_part27_skel
  simp only [semSignalWord, semWaitWord, Prog.lift, Prog.bind_op, Prog.bind_ret, Prog.pure_eq_ret, wp_deviceId]
  refine st_waitA m c K KS 2 1 _ (by decide +kernel) ?_
  refine st_ldcm m c K KS 2 0 2 _ (by decide +kernel) ?_
  refine st_ldpt m c K KS 0 1 3 _ (by decide +kernel) ?_
  refine st_ldsb0 m c K KS 2 1 _ (by decide +kernel) (fun _ => ?_)
  refine st_put m c K KS 2 3 _ (by decide +kernel) (X_sum m 2 (by decide) c 2).symm ?_
  refine st_credit m c K KS 2 2 _ ((show ∀ c : Dev nD, (⟨k0_dev27 c, k0_dev27_lt c⟩ : Dev nD) = src c 2 by decide +kernel) c) _ rfl _ (by decide +kernel) ?_
  refine st_take m c K KS 2 1 _ rfl _ (by decide +kernel) ?_
  exact st_ret m c K KS _ _ h

theorem part28 (v5 : BitVec 32) {Q : (FVec F S256x1024 .bf16) → sProp 𝕄} (h : St m c K KS g28 ⊢ Q ((k0_pay29 (X m 2 (src c 3) 3) (half (part m c 1 3) 1)))) :
    St m c K KS g27 ⊢ run c (k0_part28 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part28_eq_skeleton]; unfold k0_part28_skel
  simp only [semSignalWord, semWaitWord, Prog.lift, Prog.bind_op, Prog.bind_ret, Prog.pure_eq_ret, wp_deviceId]
  refine st_sendA m c K KS 2 3 _ ((show ∀ c : Dev nD, (⟨k0_dev28 c, k0_dev28_lt c⟩ : Dev nD) = dst c 2 by decide +kernel) c) _ (by decide +kernel) ?_
  refine st_recv m c K KS 3 2 _ (by decide +kernel) ?_
  refine st_waitA m c K KS 3 1 _ (by decide +kernel) ?_
  refine st_ldcm m c K KS 3 0 2 _ (by decide +kernel) ?_
  refine st_ldpt m c K KS 1 1 3 _ (by decide +kernel) ?_
  exact st_ret m c K KS _ _ h

theorem part29 (v2 v5 v7 : BitVec 32) {Q : (BitVec 32) → sProp 𝕄} (h : ∀ u0 : BitVec 32, St m c K KS g29 ⊢ Q u0) :
    St m c K KS g28 ⊢ run c (k0_part29 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7 ((k0_pay29 (X m 2 (src c 3) 3) (half (part m c 1 3) 1)))) Q := by
  simp only [k0_part29_eq_skeleton]; unfold k0_part29_skel
  simp only [semSignalWord, semWaitWord, Prog.lift, Prog.bind_op, Prog.bind_ret, Prog.pure_eq_ret, wp_deviceId]
  refine st_ldsb0 m c K KS 3 1 _ (by decide +kernel) (fun _ => ?_)
  refine st_put m c K KS 3 3 _ (by decide +kernel) (X_sum m 2 (by decide) c 3).symm ?_
  refine st_credit m c K KS 3 2 _ ((show ∀ c : Dev nD, (⟨k0_dev29 c, k0_dev29_lt c⟩ : Dev nD) = src c 3 by decide +kernel) c) _ rfl _ (by decide +kernel) ?_
  refine st_take m c K KS 3 1 _ rfl _ (by decide +kernel) ?_
  refine st_sendA m c K KS 3 3 _ ((show ∀ c : Dev nD, (⟨k0_dev30 c, k0_dev30_lt c⟩ : Dev nD) = dst c 3 by decide +kernel) c) _ (by decide +kernel) ?_
  refine st_loaded m c K KS 0 4 _ (by decide +kernel) ?_
  exact st_ret m c K KS _ _ (h _)

theorem part30 (v2 v718 : BitVec 32) {Q : PUnit → sProp 𝕄} (h : St m c K KS g30 ⊢ Q ⟨⟩) :
    St m c K KS g29 ⊢ run c (k0_part30 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v718) Q := by
  simp only [k0_part30_eq_skeleton]; unfold k0_part30_skel
  simp only [semSignalWord, semWaitWord, Prog.lift, Prog.bind_op, Prog.bind_ret, Prog.pure_eq_ret, wp_deviceId]
  refine st_load m c K KS 0 5 _ ((show ∀ c : Dev nD, k0_off2 c 4#32 = xOff c 0 5 by decide +kernel) c) _ (by decide +kernel) ?_
  refine st_ldxb m c K KS 0 0 4 _ (by decide +kernel) ?_
  refine st_ldw1b m c K KS (funext fun a => by fin_cases a <;> rfl) _ (by decide +kernel) ?_
  refine st_ldpt0 m c K KS 0 _ (by decide +kernel) (fun _ => ?_)
  refine st_part m c K KS 0 4 _ (by decide +kernel) rfl ?_
  refine st_loaded m c K KS 1 4 _ (by decide +kernel) ?_
  exact st_ret m c K KS _ _ h

theorem part31 (v7 : BitVec 32) {Q : PUnit → sProp 𝕄} (h : St m c K KS g31 ⊢ Q ⟨⟩) :
    St m c K KS g30 ⊢ run c (k0_part31 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7) Q := by
  simp only [k0_part31_eq_skeleton]; unfold k0_part31_skel
  simp only [semSignalWord, semWaitWord, Prog.lift, Prog.bind_op, Prog.bind_ret, Prog.pure_eq_ret, wp_deviceId]
  refine st_load m c K KS 1 5 _ ((show ∀ c : Dev nD, k0_off3 c 4#32 = xOff c 1 5 by decide +kernel) c) _ (by decide +kernel) ?_
  refine st_ldxb m c K KS 1 0 4 _ (by decide +kernel) ?_
  refine st_ldw1b m c K KS (funext fun a => by fin_cases a <;> rfl) _ (by decide +kernel) ?_
  refine st_ldpt0 m c K KS 1 _ (by decide +kernel) (fun _ => ?_)
  refine st_part m c K KS 1 4 _ (by decide +kernel) rfl ?_
  refine st_recv m c K KS 0 3 _ (by decide +kernel) ?_
  exact st_ret m c K KS _ _ h

theorem part32 (v5 v7 : BitVec 32) {Q : PUnit → sProp 𝕄} (h : St m c K KS g32 ⊢ Q ⟨⟩) :
    St m c K KS g31 ⊢ run c (k0_part32 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part32_eq_skeleton]; unfold k0_part32_skel
  simp only [semSignalWord, semWaitWord, Prog.lift, Prog.bind_op, Prog.bind_ret, Prog.pure_eq_ret, wp_deviceId]
  refine st_waitA m c K KS 0 2 _ (by decide +kernel) ?_
  refine st_ldcm m c K KS 0 1 3 _ (by decide +kernel) ?_
  refine st_ldpt m c K KS 0 0 4 _ (by decide +kernel) ?_
  refine st_ldsb0 m c K KS 0 0 _ (by decide +kernel) (fun _ => ?_)
  refine st_put m c K KS 0 4 _ (by decide +kernel) (X_sum m 3 (by decide) c 0).symm ?_
  refine st_credit m c K KS 0 3 _ ((show ∀ c : Dev nD, (⟨k0_dev31 c, k0_dev31_lt c⟩ : Dev nD) = src c 0 by decide +kernel) c) _ rfl _ (by decide +kernel) ?_
  refine st_take m c K KS 0 2 _ rfl _ (by decide +kernel) ?_
  refine st_sendA m c K KS 0 4 _ ((show ∀ c : Dev nD, (⟨k0_dev32 c, k0_dev32_lt c⟩ : Dev nD) = dst c 0 by decide +kernel) c) _ (by decide +kernel) ?_
  exact st_ret m c K KS _ _ h

theorem part33 (v5 : BitVec 32) {Q : PUnit → sProp 𝕄} (h : St m c K KS g33 ⊢ Q ⟨⟩) :
    St m c K KS g32 ⊢ run c (k0_part33 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v5) Q := by
  simp only [k0_part33_eq_skeleton]; unfold k0_part33_skel
  simp only [semSignalWord, semWaitWord, Prog.lift, Prog.bind_op, Prog.bind_ret, Prog.pure_eq_ret, wp_deviceId]
  refine st_recv m c K KS 1 3 _ (by decide +kernel) ?_
  refine st_waitA m c K KS 1 2 _ (by decide +kernel) ?_
  refine st_ldcm m c K KS 1 1 3 _ (by decide +kernel) ?_
  refine st_ldpt m c K KS 1 0 4 _ (by decide +kernel) ?_
  refine st_ldsb0 m c K KS 1 0 _ (by decide +kernel) (fun _ => ?_)
  refine st_put m c K KS 1 4 _ (by decide +kernel) (X_sum m 3 (by decide) c 1).symm ?_
  exact st_ret m c K KS _ _ h

theorem part34 (v5 v7 : BitVec 32) {Q : PUnit → sProp 𝕄} (h : St m c K KS g34 ⊢ Q ⟨⟩) :
    St m c K KS g33 ⊢ run c (k0_part34 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part34_eq_skeleton]; unfold k0_part34_skel
  simp only [semSignalWord, semWaitWord, Prog.lift, Prog.bind_op, Prog.bind_ret, Prog.pure_eq_ret, wp_deviceId]
  refine st_credit m c K KS 1 3 _ ((show ∀ c : Dev nD, (⟨k0_dev33 c, k0_dev33_lt c⟩ : Dev nD) = src c 1 by decide +kernel) c) _ rfl _ (by decide +kernel) ?_
  refine st_take m c K KS 1 2 _ rfl _ (by decide +kernel) ?_
  refine st_sendA m c K KS 1 4 _ ((show ∀ c : Dev nD, (⟨k0_dev34 c, k0_dev34_lt c⟩ : Dev nD) = dst c 1 by decide +kernel) c) _ (by decide +kernel) ?_
  refine st_recv m c K KS 2 3 _ (by decide +kernel) ?_
  exact st_ret m c K KS _ _ h

end

end Cert.Ring
-- ==== Proof.Parts3.lean ====
/- Parts 35 to 51 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part35 (v5 v7 : BitVec 32) {Q : PUnit → sProp 𝕄} (h : St m c K KS g35 ⊢ Q ⟨⟩) :
    St m c K KS g34 ⊢ run c (k0_part35 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part35_eq_skeleton]; unfold k0_part35_skel
  simp only [semSignalWord, semWaitWord, Prog.lift, Prog.bind_op, Prog.bind_ret, Prog.pure_eq_ret, wp_deviceId]
  refine st_waitA m c K KS 2 2 _ (by decide +kernel) ?_
  refine st_ldcm m c K KS 2 1 3 _ (by decide +kernel) ?_
  refine st_ldpt m c K KS 0 1 4 _ (by decide +kernel) ?_
  refine st_ldsb0 m c K KS 2 0 _ (by decide +kernel) (fun _ => ?_)
  refine st_put m c K KS 2 4 _ (by decide +kernel) (X_sum m 3 (by decide) c 2).symm ?_
  refine st_credit m c K KS 2 3 _ ((show ∀ c : Dev nD, (⟨k0_dev35 c, k0_dev35_lt c⟩ : Dev nD) = src c 2 by decide +kernel) c) _ rfl _ (by decide +kernel) ?_
  refine st_take m c K KS 2 2 _ rfl _ (by decide +kernel) ?_
  exact st_ret m c K KS _ _ h

theorem part36 (v5 : BitVec 32) {Q : (FVec F S256x1024 .bf16) → sProp 𝕄} (h : St m c K KS g36 ⊢ Q ((k0_pay36 (X m 3 (src c 3) 3) (half (part m c 1 4) 1)))) :
    St m c K KS g35 ⊢ run c (k0_part36 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part36_eq_skeleton]; unfold k0_part36_skel
  simp only [semSignalWord, semWaitWord, Prog.lift, Prog.bind_op, Prog.bind_ret, Prog.pure_eq_ret, wp_deviceId]
  refine st_sendA m c K KS 2 4 _ ((show ∀ c : Dev nD, (⟨k0_dev36 c, k0_dev36_lt c⟩ : Dev nD) = dst c 2 by decide +kernel) c) _ (by decide +kernel) ?_
  refine st_recv m c K KS 3 3 _ (by decide +kernel) ?_
  refine st_waitA m c K KS 3 2 _ (by decide +kernel) ?_
  refine st_ldcm m c K KS 3 1 3 _ (by decide +kernel) ?_
  refine st_ldpt m c K KS 1 1 4 _ (by decide +kernel) ?_
  exact st_ret m c K KS _ _ h

theorem part37 (v2 v5 v7 : BitVec 32) {Q : (BitVec 32) → sProp 𝕄} (h : ∀ u0 : BitVec 32, St m c K KS g37 ⊢ Q u0) :
    St m c K KS g36 ⊢ run c (k0_part37 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7 ((k0_pay36 (X m 3 (src c 3) 3) (half (part m c 1 4) 1)))) Q := by
  simp only [k0_part37_eq_skeleton]; unfold k0_part37_skel
  simp only [semSignalWord, semWaitWord, Prog.lift, Prog.bind_op, Prog.bind_ret, Prog.pure_eq_ret, wp_deviceId]
  refine st_ldsb0 m c K KS 3 0 _ (by decide +kernel) (fun _ => ?_)
  refine st_put m c K KS 3 4 _ (by decide +kernel) (X_sum m 3 (by decide) c 3).symm ?_
  refine st_credit m c K KS 3 3 _ ((show ∀ c : Dev nD, (⟨k0_dev37 c, k0_dev37_lt c⟩ : Dev nD) = src c 3 by decide +kernel) c) _ rfl _ (by decide +kernel) ?_
  refine st_take m c K KS 3 2 _ rfl _ (by decide +kernel) ?_
  refine st_sendA m c K KS 3 4 _ ((show ∀ c : Dev nD, (⟨k0_dev38 c, k0_dev38_lt c⟩ : Dev nD) = dst c 3 by decide +kernel) c) _ (by decide +kernel) ?_
  refine st_loaded m c K KS 0 5 _ (by decide +kernel) ?_
  exact st_ret m c K KS _ _ (h _)

theorem part38 (v2 v909 : BitVec 32) {Q : PUnit → sProp 𝕄} (h : St m c K KS g38 ⊢ Q ⟨⟩) :
    St m c K KS g37 ⊢ run c (k0_part38 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v909) Q := by
  simp only [k0_part38_eq_skeleton]; unfold k0_part38_skel
  simp only [semSignalWord, semWaitWord, Prog.lift, Prog.bind_op, Prog.bind_ret, Prog.pure_eq_ret, wp_deviceId]
  refine st_load m c K KS 0 6 _ ((show ∀ c : Dev nD, k0_off2 c 5#32 = xOff c 0 6 by decide +kernel) c) _ (by decide +kernel) ?_
  refine st_ldxb m c K KS 0 1 5 _ (by decide +kernel) ?_
  refine st_ldw1b m c K KS (funext fun a => by fin_cases a <;> rfl) _ (by decide +kernel) ?_
  refine st_ldpt0 m c K KS 0 _ (by decide +kernel) (fun _ => ?_)
  refine st_part m c K KS 0 5 _ (by decide +kernel) rfl ?_
  refine st_loaded m c K KS 1 5 _ (by decide +kernel) ?_
  exact st_ret m c K KS _ _ h

theorem part39 (v7 : BitVec 32) {Q : PUnit → sProp 𝕄} (h : St m c K KS g39 ⊢ Q ⟨⟩) :
    St m c K KS g38 ⊢ run c (k0_part39 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7) Q := by
  simp only [k0_part39_eq_skeleton]; unfold k0_part39_skel
  simp only [semSignalWord, semWaitWord, Prog.lift, Prog.bind_op, Prog.bind_ret, Prog.pure_eq_ret, wp_deviceId]
  refine st_load m c K KS 1 6 _ ((show ∀ c : Dev nD, k0_off3 c 5#32 = xOff c 1 6 by decide +kernel) c) _ (by decide +kernel) ?_
  refine st_ldxb m c K KS 1 1 5 _ (by decide +kernel) ?_
  refine st_ldw1b m c K KS (funext fun a => by fin_cases a <;> rfl) _ (by decide +kernel) ?_
  refine st_ldpt0 m c K KS 1 _ (by decide +kernel) (fun _ => ?_)
  refine st_part m c K KS 1 5 _ (by decide +kernel) rfl ?_
  refine st_recv m c K KS 0 4 _ (by decide +kernel) ?_
  exact st_ret m c K KS _ _ h

theorem part40 (v5 v7 : BitVec 32) {Q : PUnit → sProp 𝕄} (h : St m c K KS g40 ⊢ Q ⟨⟩) :
    St m c K KS g39 ⊢ run c (k0_part40 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part40_eq_skeleton]; unfold k0_part40_skel
  simp only [semSignalWord, semWaitWord, Prog.lift, Prog.bind_op, Prog.bind_ret, Prog.pure_eq_ret, wp_deviceId]
  refine st_waitA m c K KS 0 3 _ (by decide +kernel) ?_
  refine st_ldcm m c K KS 0 0 4 _ (by decide +kernel) ?_
  refine st_ldpt m c K KS 0 0 5 _ (by decide +kernel) ?_
  refine st_ldsb0 m c K KS 0 1 _ (by decide +kernel) (fun _ => ?_)
  refine st_put m c K KS 0 5 _ (by decide +kernel) (X_sum m 4 (by decide) c 0).symm ?_
  refine st_credit m c K KS 0 4 _ ((show ∀ c : Dev nD, (⟨k0_dev39 c, k0_dev39_lt c⟩ : Dev nD) = src c 0 by decide +kernel) c) _ rfl _ (by decide +kernel) ?_
  refine st_take m c K KS 0 3 _ rfl _ (by decide +kernel) ?_
  refine st_sendA m c K KS 0 5 _ ((show ∀ c : Dev nD, (⟨k0_dev40 c, k0_dev40_lt c⟩ : Dev nD) = dst c 0 by decide +kernel) c) _ (by decide +kernel) ?_
  exact st_ret m c K KS _ _ h

theorem part41 (v5 : BitVec 32) {Q : PUnit → sProp 𝕄} (h : St m c K KS g41 ⊢ Q ⟨⟩) :
    St m c K KS g40 ⊢ run c (k0_part41 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v5) Q := by
  simp only [k0_part41_eq_skeleton]; unfold k0_part41_skel
  simp only [semSignalWord, semWaitWord, Prog.lift, Prog.bind_op, Prog.bind_ret, Prog.pure_eq_ret, wp_deviceId]
  refine st_recv m c K KS 1 4 _ (by decide +kernel) ?_
  refine st_waitA m c K KS 1 3 _ (by decide +kernel) ?_
  refine st_ldcm m c K KS 1 0 4 _ (by decide +kernel) ?_
  refine st_ldpt m c K KS 1 0 5 _ (by decide +kernel) ?_
  refine st_ldsb0 m c K KS 1 1 _ (by decide +kernel) (fun _ => ?_)
  refine st_put m c K KS 1 5 _ (by decide +kernel) (X_sum m 4 (by decide) c 1).symm ?_
  exact st_ret m c K KS _ _ h

theorem part42 (v5 v7 : BitVec 32) {Q : PUnit → sProp 𝕄} (h : St m c K KS g42 ⊢ Q ⟨⟩) :
    St m c K KS g41 ⊢ run c (k0_part42 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part42_eq_skeleton]; unfold k0_part42_skel
  simp only [semSignalWord, semWaitWord, Prog.lift, Prog.bind_op, Prog.bind_ret, Prog.pure_eq_ret, wp_deviceId]
  refine st_credit m c K KS 1 4 _ ((show ∀ c : Dev nD, (⟨k0_dev41 c, k0_dev41_lt c⟩ : Dev nD) = src c 1 by decide +kernel) c) _ rfl _ (by decide +kernel) ?_
  refine st_take m c K KS 1 3 _ rfl _ (by decide +kernel) ?_
  refine st_sendA m c K KS 1 5 _ ((show ∀ c : Dev nD, (⟨k0_dev42 c, k0_dev42_lt c⟩ : Dev nD) = dst c 1 by decide +kernel) c) _ (by decide +kernel) ?_
  refine st_recv m c K KS 2 4 _ (by decide +kernel) ?_
  exact st_ret m c K KS _ _ h

theorem part43 (v5 v7 : BitVec 32) {Q : PUnit → sProp 𝕄} (h : St m c K KS g43 ⊢ Q ⟨⟩) :
    St m c K KS g42 ⊢ run c (k0_part43 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part43_eq_skeleton]; unfold k0_part43_skel
  simp only [semSignalWord, semWaitWord, Prog.lift, Prog.bind_op, Prog.bind_ret, Prog.pure_eq_ret, wp_deviceId]
  refine st_waitA m c K KS 2 3 _ (by decide +kernel) ?_
  refine st_ldcm m c K KS 2 0 4 _ (by decide +kernel) ?_
  refine st_ldpt m c K KS 0 1 5 _ (by decide +kernel) ?_
  refine st_ldsb0 m c K KS 2 1 _ (by decide +kernel) (fun _ => ?_)
  refine st_put m c K KS 2 5 _ (by decide +kernel) (X_sum m 4 (by decide) c 2).symm ?_
  refine st_credit m c K KS 2 4 _ ((show ∀ c : Dev nD, (⟨k0_dev43 c, k0_dev43_lt c⟩ : Dev nD) = src c 2 by decide +kernel) c) _ rfl _ (by decide +kernel) ?_
  refine st_take m c K KS 2 3 _ rfl _ (by decide +kernel) ?_
  exact st_ret m c K KS _ _ h

theorem part44 (v5 : BitVec 32) {Q : (FVec F S256x1024 .bf16) → sProp 𝕄} (h : St m c K KS g44 ⊢ Q ((k0_pay43 (X m 4 (src c 3) 3) (half (part m c 1 5) 1)))) :
    St m c K KS g43 ⊢ run c (k0_part44 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part44_eq_skeleton]; unfold k0_part44_skel
  simp only [semSignalWord, semWaitWord, Prog.lift, Prog.bind_op, Prog.bind_ret, Prog.pure_eq_ret, wp_deviceId]
  refine st_sendA m c K KS 2 5 _ ((show ∀ c : Dev nD, (⟨k0_dev44 c, k0_dev44_lt c⟩ : Dev nD) = dst c 2 by decide +kernel) c) _ (by decide +kernel) ?_
  refine st_recv m c K KS 3 4 _ (by decide +kernel) ?_
  refine st_waitA m c K KS 3 3 _ (by decide +kernel) ?_
  refine st_ldcm m c K KS 3 0 4 _ (by decide +kernel) ?_
  refine st_ldpt m c K KS 1 1 5 _ (by decide +kernel) ?_
  exact st_ret m c K KS _ _ h

theorem part45 (v2 v5 v7 : BitVec 32) {Q : (BitVec 32) → sProp 𝕄} (h : ∀ u0 : BitVec 32, St m c K KS g45 ⊢ Q u0) :
    St m c K KS g44 ⊢ run c (k0_part45 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7 ((k0_pay43 (X m 4 (src c 3) 3) (half (part m c 1 5) 1)))) Q := by
  simp only [k0_part45_eq_skeleton]; unfold k0_part45_skel
  simp only [semSignalWord, semWaitWord, Prog.lift, Prog.bind_op, Prog.bind_ret, Prog.pure_eq_ret, wp_deviceId]
  refine st_ldsb0 m c K KS 3 1 _ (by decide +kernel) (fun _ => ?_)
  refine st_put m c K KS 3 5 _ (by decide +kernel) (X_sum m 4 (by decide) c 3).symm ?_
  refine st_credit m c K KS 3 4 _ ((show ∀ c : Dev nD, (⟨k0_dev45 c, k0_dev45_lt c⟩ : Dev nD) = src c 3 by decide +kernel) c) _ rfl _ (by decide +kernel) ?_
  refine st_take m c K KS 3 3 _ rfl _ (by decide +kernel) ?_
  refine st_sendA m c K KS 3 5 _ ((show ∀ c : Dev nD, (⟨k0_dev46 c, k0_dev46_lt c⟩ : Dev nD) = dst c 3 by decide +kernel) c) _ (by decide +kernel) ?_
  refine st_loaded m c K KS 0 6 _ (by decide +kernel) ?_
  exact st_ret m c K KS _ _ (h _)

theorem part46 (v2 v1100 : BitVec 32) {Q : PUnit → sProp 𝕄} (h : St m c K KS g46 ⊢ Q ⟨⟩) :
    St m c K KS g45 ⊢ run c (k0_part46 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v1100) Q := by
  simp only [k0_part46_eq_skeleton]; unfold k0_part46_skel
  simp only [semSignalWord, semWaitWord, Prog.lift, Prog.bind_op, Prog.bind_ret, Prog.pure_eq_ret, wp_deviceId]
  refine st_load m c K KS 0 7 _ ((show ∀ c : Dev nD, k0_off2 c 6#32 = xOff c 0 7 by decide +kernel) c) _ (by decide +kernel) ?_
  refine st_ldxb m c K KS 0 0 6 _ (by decide +kernel) ?_
  refine st_ldw1b m c K KS (funext fun a => by fin_cases a <;> rfl) _ (by decide +kernel) ?_
  refine st_ldpt0 m c K KS 0 _ (by decide +kernel) (fun _ => ?_)
  refine st_part m c K KS 0 6 _ (by decide +kernel) rfl ?_
  refine st_loaded m c K KS 1 6 _ (by decide +kernel) ?_
  exact st_ret m c K KS _ _ h

theorem part47 (v7 : BitVec 32) {Q : PUnit → sProp 𝕄} (h : St m c K KS g47 ⊢ Q ⟨⟩) :
    St m c K KS g46 ⊢ run c (k0_part47 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7) Q := by
  simp only [k0_part47_eq_skeleton]; unfold k0_part47_skel
  simp only [semSignalWord, semWaitWord, Prog.lift, Prog.bind_op, Prog.bind_ret, Prog.pure_eq_ret, wp_deviceId]
  refine st_load m c K KS 1 7 _ ((show ∀ c : Dev nD, k0_off3 c 6#32 = xOff c 1 7 by decide +kernel) c) _ (by decide +kernel) ?_
  refine st_ldxb m c K KS 1 0 6 _ (by decide +kernel) ?_
  refine st_ldw1b m c K KS (funext fun a => by fin_cases a <;> rfl) _ (by decide +kernel) ?_
  refine st_ldpt0 m c K KS 1 _ (by decide +kernel) (fun _ => ?_)
  refine st_part m c K KS 1 6 _ (by decide +kernel) rfl ?_
  refine st_recv m c K KS 0 5 _ (by decide +kernel) ?_
  exact st_ret m c K KS _ _ h

theorem part48 (v5 v7 : BitVec 32) {Q : PUnit → sProp 𝕄} (h : St m c K KS g48 ⊢ Q ⟨⟩) :
    St m c K KS g47 ⊢ run c (k0_part48 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part48_eq_skeleton]; unfold k0_part48_skel
  simp only [semSignalWord, semWaitWord, Prog.lift, Prog.bind_op, Prog.bind_ret, Prog.pure_eq_ret, wp_deviceId]
  refine st_waitA m c K KS 0 4 _ (by decide +kernel) ?_
  refine st_ldcm m c K KS 0 1 5 _ (by decide +kernel) ?_
  refine st_ldpt m c K KS 0 0 6 _ (by decide +kernel) ?_
  refine st_ldsb0 m c K KS 0 0 _ (by decide +kernel) (fun _ => ?_)
  refine st_put m c K KS 0 6 _ (by decide +kernel) (X_sum m 5 (by decide) c 0).symm ?_
  refine st_credit m c K KS 0 5 _ ((show ∀ c : Dev nD, (⟨k0_dev47 c, k0_dev47_lt c⟩ : Dev nD) = src c 0 by decide +kernel) c) _ rfl _ (by decide +kernel) ?_
  refine st_take m c K KS 0 4 _ rfl _ (by decide +kernel) ?_
  refine st_sendA m c K KS 0 6 _ ((show ∀ c : Dev nD, (⟨k0_dev48 c, k0_dev48_lt c⟩ : Dev nD) = dst c 0 by decide +kernel) c) _ (by decide +kernel) ?_
  exact st_ret m c K KS _ _ h

theorem part49 (v5 : BitVec 32) {Q : PUnit → sProp 𝕄} (h : St m c K KS g49 ⊢ Q ⟨⟩) :
    St m c K KS g48 ⊢ run c (k0_part49 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v5) Q := by
  simp only [k0_part49_eq_skeleton]; unfold k0_part49_skel
  simp only [semSignalWord, semWaitWord, Prog.lift, Prog.bind_op, Prog.bind_ret, Prog.pure_eq_ret, wp_deviceId]
  refine st_recv m c K KS 1 5 _ (by decide +kernel) ?_
  refine st_waitA m c K KS 1 4 _ (by decide +kernel) ?_
  refine st_ldcm m c K KS 1 1 5 _ (by decide +kernel) ?_
  refine st_ldpt m c K KS 1 0 6 _ (by decide +kernel) ?_
  refine st_ldsb0 m c K KS 1 0 _ (by decide +kernel) (fun _ => ?_)
  refine st_put m c K KS 1 6 _ (by decide +kernel) (X_sum m 5 (by decide) c 1).symm ?_
  exact st_ret m c K KS _ _ h

theorem part50 (v5 v7 : BitVec 32) {Q : PUnit → sProp 𝕄} (h : St m c K KS g50 ⊢ Q ⟨⟩) :
    St m c K KS g49 ⊢ run c (k0_part50 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part50_eq_skeleton]; unfold k0_part50_skel
  simp only [semSignalWord, semWaitWord, Prog.lift, Prog.bind_op, Prog.bind_ret, Prog.pure_eq_ret, wp_deviceId]
  refine st_credit m c K KS 1 5 _ ((show ∀ c : Dev nD, (⟨k0_dev49 c, k0_dev49_lt c⟩ : Dev nD) = src c 1 by decide +kernel) c) _ rfl _ (by decide +kernel) ?_
  refine st_take m c K KS 1 4 _ rfl _ (by decide +kernel) ?_
  refine st_sendA m c K KS 1 6 _ ((show ∀ c : Dev nD, (⟨k0_dev50 c, k0_dev50_lt c⟩ : Dev nD) = dst c 1 by decide +kernel) c) _ (by decide +kernel) ?_
  refine st_recv m c K KS 2 5 _ (by decide +kernel) ?_
  exact st_ret m c K KS _ _ h

theorem part51 (v5 v7 : BitVec 32) {Q : PUnit → sProp 𝕄} (h : St m c K KS g51 ⊢ Q ⟨⟩) :
    St m c K KS g50 ⊢ run c (k0_part51 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part51_eq_skeleton]; unfold k0_part51_skel
  simp only [semSignalWord, semWaitWord, Prog.lift, Prog.bind_op, Prog.bind_ret, Prog.pure_eq_ret, wp_deviceId]
  refine st_waitA m c K KS 2 4 _ (by decide +kernel) ?_
  refine st_ldcm m c K KS 2 1 5 _ (by decide +kernel) ?_
  refine st_ldpt m c K KS 0 1 6 _ (by decide +kernel) ?_
  refine st_ldsb0 m c K KS 2 0 _ (by decide +kernel) (fun _ => ?_)
  refine st_put m c K KS 2 6 _ (by decide +kernel) (X_sum m 5 (by decide) c 2).symm ?_
  refine st_credit m c K KS 2 5 _ ((show ∀ c : Dev nD, (⟨k0_dev51 c, k0_dev51_lt c⟩ : Dev nD) = src c 2 by decide +kernel) c) _ rfl _ (by decide +kernel) ?_
  refine st_take m c K KS 2 4 _ rfl _ (by decide +kernel) ?_
  exact st_ret m c K KS _ _ h

end

end Cert.Ring
-- ==== Proof.Parts4.lean ====
/- Parts 52 to 64 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part52 (v5 : BitVec 32) {Q : (FVec F S256x1024 .bf16) → sProp 𝕄} (h : St m c K KS g52 ⊢ Q ((k0_pay50 (X m 5 (src c 3) 3) (half (part m c 1 6) 1)))) :
    St m c K KS g51 ⊢ run c (k0_part52 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part52_eq_skeleton]; unfold k0_part52_skel
  simp only [semSignalWord, semWaitWord, Prog.lift, Prog.bind_op, Prog.bind_ret, Prog.pure_eq_ret, wp_deviceId]
  refine st_sendA m c K KS 2 6 _ ((show ∀ c : Dev nD, (⟨k0_dev52 c, k0_dev52_lt c⟩ : Dev nD) = dst c 2 by decide +kernel) c) _ (by decide +kernel) ?_
  refine st_recv m c K KS 3 5 _ (by decide +kernel) ?_
  refine st_waitA m c K KS 3 4 _ (by decide +kernel) ?_
  refine st_ldcm m c K KS 3 1 5 _ (by decide +kernel) ?_
  refine st_ldpt m c K KS 1 1 6 _ (by decide +kernel) ?_
  exact st_ret m c K KS _ _ h

theorem part53 (v5 v7 : BitVec 32) {Q : (Σ' (v1289 : FVec F S512x1024 .bf16), Vec F S1024x1024 .bf16) → sProp 𝕄} (h : St m c K KS g53 ⊢ Q ⟨(k0_pay52 (xblk m c 0 7)), ((w1v m c))⟩) :
    St m c K KS g52 ⊢ run c (k0_part53 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 ((k0_pay50 (X m 5 (src c 3) 3) (half (part m c 1 6) 1)))) Q := by
  simp only [k0_part53_eq_skeleton]; unfold k0_part53_skel
  simp only [semSignalWord, semWaitWord, Prog.lift, Prog.bind_op, Prog.bind_ret, Prog.pure_eq_ret, wp_deviceId]
  refine st_ldsb0 m c K KS 3 0 _ (by decide +kernel) (fun _ => ?_)
  refine st_put m c K KS 3 6 _ (by decide +kernel) (X_sum m 5 (by decide) c 3).symm ?_
  refine st_credit m c K KS 3 5 _ ((show ∀ c : Dev nD, (⟨k0_dev53 c, k0_dev53_lt c⟩ : Dev nD) = src c 3 by decide +kernel) c) _ rfl _ (by decide +kernel) ?_
  refine st_take m c K KS 3 4 _ rfl _ (by decide +kernel) ?_
  refine st_sendA m c K KS 3 6 _ ((show ∀ c : Dev nD, (⟨k0_dev54 c, k0_dev54_lt c⟩ : Dev nD) = dst c 3 by decide +kernel) c) _ (by decide +kernel) ?_
  refine st_loaded m c K KS 0 7 _ (by decide +kernel) ?_
  refine st_ldxb m c K KS 0 1 7 _ (by decide +kernel) ?_
  refine st_ldw1b m c K KS (funext fun a => by fin_cases a <;> rfl) _ (by decide +kernel) ?_
  exact st_ret m c K KS _ _ h

theorem part54 (v7 : BitVec 32) {Q : PUnit → sProp 𝕄} (h : St m c K KS g54 ⊢ Q ⟨⟩) :
    St m c K KS g53 ⊢ run c (k0_part54 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7 (k0_pay52 (xblk m c 0 7)) ((w1v m c))) Q := by
  simp only [k0_part54_eq_skeleton]; unfold k0_part54_skel
  simp only [semSignalWord, semWaitWord, Prog.lift, Prog.bind_op, Prog.bind_ret, Prog.pure_eq_ret, wp_deviceId]
  refine st_ldpt0 m c K KS 0 _ (by decide +kernel) (fun _ => ?_)
  refine st_part m c K KS 0 7 _ (by decide +kernel) rfl ?_
  refine st_loaded m c K KS 1 7 _ (by decide +kernel) ?_
  refine st_ldxb m c K KS 1 1 7 _ (by decide +kernel) ?_
  refine st_ldw1b m c K KS (funext fun a => by fin_cases a <;> rfl) _ (by decide +kernel) ?_
  refine st_ldpt0 m c K KS 1 _ (by decide +kernel) (fun _ => ?_)
  refine st_part m c K KS 1 7 _ (by decide +kernel) rfl ?_
  exact st_ret m c K KS _ _ h

theorem part55 (v5 : BitVec 32) {Q : PUnit → sProp 𝕄} (h : St m c K KS g55 ⊢ Q ⟨⟩) :
    St m c K KS g54 ⊢ run c (k0_part55 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part55_eq_skeleton]; unfold k0_part55_skel
  simp only [semSignalWord, semWaitWord, Prog.lift, Prog.bind_op, Prog.bind_ret, Prog.pure_eq_ret, wp_deviceId]
  refine st_recv m c K KS 0 6 _ (by decide +kernel) ?_
  refine st_waitA m c K KS 0 5 _ (by decide +kernel) ?_
  refine st_ldcm m c K KS 0 0 6 _ (by decide +kernel) ?_
  refine st_ldpt m c K KS 0 0 7 _ (by decide +kernel) ?_
  refine st_ldsb0 m c K KS 0 1 _ (by decide +kernel) (fun _ => ?_)
  refine st_put m c K KS 0 7 _ (by decide +kernel) (X_sum m 6 (by decide) c 0).symm ?_
  refine st_credit m c K KS 0 6 _ ((show ∀ c : Dev nD, (⟨k0_dev55 c, k0_dev55_lt c⟩ : Dev nD) = src c 0 by decide +kernel) c) _ rfl _ (by decide +kernel) ?_
  exact st_ret m c K KS _ _ h

theorem part56 (v7 : BitVec 32) {Q : PUnit → sProp 𝕄} (h : St m c K KS g56 ⊢ Q ⟨⟩) :
    St m c K KS g55 ⊢ run c (k0_part56 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7) Q := by
  simp only [k0_part56_eq_skeleton]; unfold k0_part56_skel
  simp only [semSignalWord, semWaitWord, Prog.lift, Prog.bind_op, Prog.bind_ret, Prog.pure_eq_ret, wp_deviceId]
  refine st_recv m c K KS 1 6 _ (by decide +kernel) ?_
  refine st_waitA m c K KS 1 5 _ (by decide +kernel) ?_
  refine st_ldcm m c K KS 1 0 6 _ (by decide +kernel) ?_
  refine st_ldpt m c K KS 1 0 7 _ (by decide +kernel) ?_
  refine st_ldsb0 m c K KS 1 1 _ (by decide +kernel) (fun _ => ?_)
  refine st_put m c K KS 1 7 _ (by decide +kernel) (X_sum m 6 (by decide) c 1).symm ?_
  refine st_credit m c K KS 1 6 _ ((show ∀ c : Dev nD, (⟨k0_dev56 c, k0_dev56_lt c⟩ : Dev nD) = src c 1 by decide +kernel) c) _ rfl _ (by decide +kernel) ?_
  exact st_ret m c K KS _ _ h

theorem part57 (v5 v7 : BitVec 32) {Q : PUnit → sProp 𝕄} (h : St m c K KS g57 ⊢ Q ⟨⟩) :
    St m c K KS g56 ⊢ run c (k0_part57 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v5 v7) Q := by
  simp only [k0_part57_eq_skeleton]; unfold k0_part57_skel
  simp only [semSignalWord, semWaitWord, Prog.lift, Prog.bind_op, Prog.bind_ret, Prog.pure_eq_ret, wp_deviceId]
  refine st_recv m c K KS 2 6 _ (by decide +kernel) ?_
  refine st_waitA m c K KS 2 5 _ (by decide +kernel) ?_
  refine st_ldcm m c K KS 2 0 6 _ (by decide +kernel) ?_
  refine st_ldpt m c K KS 0 1 7 _ (by decide +kernel) ?_
  refine st_ldsb0 m c K KS 2 1 _ (by decide +kernel) (fun _ => ?_)
  refine st_put m c K KS 2 7 _ (by decide +kernel) (X_sum m 6 (by decide) c 2).symm ?_
  exact st_ret m c K KS _ _ h

theorem part58 (v5 : BitVec 32) {Q : (FVec F S256x1024 .bf16) → sProp 𝕄} (h : St m c K KS g58 ⊢ Q ((k0_pay58 (X m 6 (src c 3) 3) (half (part m c 1 7) 1)))) :
    St m c K KS g57 ⊢ run c (k0_part58 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5) Q := by
  simp only [k0_part58_eq_skeleton]; unfold k0_part58_skel
  simp only [semSignalWord, semWaitWord, Prog.lift, Prog.bind_op, Prog.bind_ret, Prog.pure_eq_ret, wp_deviceId]
  refine st_credit m c K KS 2 6 _ ((show ∀ c : Dev nD, (⟨k0_dev57 c, k0_dev57_lt c⟩ : Dev nD) = src c 2 by decide +kernel) c) _ rfl _ (by decide +kernel) ?_
  refine st_recv m c K KS 3 6 _ (by decide +kernel) ?_
  refine st_waitA m c K KS 3 5 _ (by decide +kernel) ?_
  refine st_ldcm m c K KS 3 0 6 _ (by decide +kernel) ?_
  refine st_ldpt m c K KS 1 1 7 _ (by decide +kernel) ?_
  refine st_ldsb0 m c K KS 3 1 _ (by decide +kernel) (fun _ => ?_)
  exact st_ret m c K KS _ _ h

theorem part59 (v7 : BitVec 32) {Q : (FVec F S256x1024 .bf16) → sProp 𝕄} (h : St m c K KS g59 ⊢ Q ((k0_pay60 (X m 7 c 0)))) :
    St m c K KS g58 ⊢ run c (k0_part59 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7 ((k0_pay58 (X m 6 (src c 3) 3) (half (part m c 1 7) 1)))) Q := by
  simp only [k0_part59_eq_skeleton]; unfold k0_part59_skel
  simp only [semSignalWord, semWaitWord, Prog.lift, Prog.bind_op, Prog.bind_ret, Prog.pure_eq_ret, wp_deviceId]
  refine st_put m c K KS 3 7 _ (by decide +kernel) (X_sum m 6 (by decide) c 3).symm ?_
  refine st_credit m c K KS 3 6 _ ((show ∀ c : Dev nD, (⟨k0_dev58 c, k0_dev58_lt c⟩ : Dev nD) = src c 3 by decide +kernel) c) _ rfl _ (by decide +kernel) ?_
  refine st_take m c K KS 0 5 _ rfl _ (by decide +kernel) ?_
  refine st_sendA m c K KS 0 7 _ ((show ∀ c : Dev nD, (⟨k0_dev59 c, k0_dev59_lt c⟩ : Dev nD) = dst c 0 by decide +kernel) c) _ (by decide +kernel) ?_
  refine st_waitA m c K KS 0 6 _ (by decide +kernel) ?_
  refine st_ldsb m c K KS 0 1 7 _ (by decide +kernel) ?_
  exact st_ret m c K KS _ _ h

theorem part60 (v5 v26 : BitVec 32) {Q : (Vec F S1x1x256x1024 .bf16) → sProp 𝕄} (h : St m c K KS g60 ⊢ Q ((X m 7 c 1))) :
    St m c K KS g59 ⊢ run c (k0_part60 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v26 ((k0_pay60 (X m 7 c 0)))) Q := by
  simp only [k0_part60_eq_skeleton]; unfold k0_part60_skel
  simp only [semSignalWord, semWaitWord, Prog.lift, Prog.bind_op, Prog.bind_ret, Prog.pure_eq_ret, wp_deviceId]
  refine st_ldw2b m c K KS (funext fun a => by fin_cases a <;> rfl) _ (by decide +kernel) ?_
  refine st_ldout m c K KS _ (fun _ => ?_)
  refine st_out m c K KS 0 0 0 _ (by decide +kernel) _ ((show ∀ c : Dev nD, k0_off4 c 1#32 0#32 = oOff c 0 0 by decide +kernel) c) rfl ?_
  refine st_take m c K KS 1 5 _ rfl _ (by decide +kernel) ?_
  refine st_sendA m c K KS 1 7 _ ((show ∀ c : Dev nD, (⟨k0_dev60 c, k0_dev60_lt c⟩ : Dev nD) = dst c 1 by decide +kernel) c) _ (by decide +kernel) ?_
  refine st_waitA m c K KS 1 6 _ (by decide +kernel) ?_
  refine st_ldsb m c K KS 1 1 7 _ (by decide +kernel) ?_
  exact st_ret m c K KS _ _ h

theorem part61 (v7 v29 : BitVec 32) {Q : PUnit → sProp 𝕄} (h : St m c K KS g61 ⊢ Q ⟨⟩) :
    St m c K KS g60 ⊢ run c (k0_part61 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7 v29 ((X m 7 c 1))) Q := by
  simp only [k0_part61_eq_skeleton]; unfold k0_part61_skel
  simp only [semSignalWord, semWaitWord, Prog.lift, Prog.bind_op, Prog.bind_ret, Prog.pure_eq_ret, wp_deviceId]
  refine st_ldw2b m c K KS (funext fun a => by fin_cases a <;> rfl) _ (by decide +kernel) ?_
  refine st_ldout m c K KS _ (fun _ => ?_)
  refine st_out m c K KS 1 1 0 _ (by decide +kernel) _ ((show ∀ c : Dev nD, k0_off5 c 1#32 512#32 = oOff c 1 0 by decide +kernel) c) rfl ?_
  refine st_take m c K KS 2 5 _ rfl _ (by decide +kernel) ?_
  refine st_sendA m c K KS 2 7 _ ((show ∀ c : Dev nD, (⟨k0_dev61 c, k0_dev61_lt c⟩ : Dev nD) = dst c 2 by decide +kernel) c) _ (by decide +kernel) ?_
  refine st_waitA m c K KS 2 6 _ (by decide +kernel) ?_
  exact st_ret m c K KS _ _ h

theorem part62 (v5 v31 : BitVec 32) {Q : PUnit → sProp 𝕄} (h : St m c K KS g62 ⊢ Q ⟨⟩) :
    St m c K KS g61 ⊢ run c (k0_part62 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v31) Q := by
  simp only [k0_part62_eq_skeleton]; unfold k0_part62_skel
  simp only [semSignalWord, semWaitWord, Prog.lift, Prog.bind_op, Prog.bind_ret, Prog.pure_eq_ret, wp_deviceId]
  refine st_ldsb m c K KS 2 1 7 _ (by decide +kernel) ?_
  refine st_ldw2b m c K KS (funext fun a => by fin_cases a <;> rfl) _ (by decide +kernel) ?_
  refine st_ldout m c K KS _ (fun _ => ?_)
  refine st_out m c K KS 2 2 0 _ (by decide +kernel) _ ((show ∀ c : Dev nD, k0_off4 c 1#32 256#32 = oOff c 2 0 by decide +kernel) c) rfl ?_
  refine st_take m c K KS 3 5 _ rfl _ (by decide +kernel) ?_
  refine st_sendA m c K KS 3 7 _ ((show ∀ c : Dev nD, (⟨k0_dev62 c, k0_dev62_lt c⟩ : Dev nD) = dst c 3 by decide +kernel) c) _ (by decide +kernel) ?_
  exact st_ret m c K KS _ _ h

theorem part63 (v7 v34 : BitVec 32) {Q : PUnit → sProp 𝕄} (h : St m c K KS g63 ⊢ Q ⟨⟩) :
    St m c K KS g62 ⊢ run c (k0_part63 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7 v34) Q := by
  simp only [k0_part63_eq_skeleton]; unfold k0_part63_skel
  simp only [semSignalWord, semWaitWord, Prog.lift, Prog.bind_op, Prog.bind_ret, Prog.pure_eq_ret, wp_deviceId]
  refine st_waitA m c K KS 3 6 _ (by decide +kernel) ?_
  refine st_ldsb m c K KS 3 1 7 _ (by decide +kernel) ?_
  refine st_ldw2b m c K KS (funext fun a => by fin_cases a <;> rfl) _ (by decide +kernel) ?_
  refine st_ldout m c K KS _ (fun _ => ?_)
  refine st_out m c K KS 3 3 0 _ (by decide +kernel) _ ((show ∀ c : Dev nD, k0_off5 c 1#32 768#32 = oOff c 3 0 by decide +kernel) c) rfl ?_
  refine st_recv m c K KS 0 7 _ (by decide +kernel) ?_
  refine st_waitA m c K KS 0 7 _ (by decide +kernel) ?_
  exact st_ret m c K KS _ _ h

theorem part64 (v2 v5 v7 : BitVec 32) {Q : PUnit → sProp 𝕄} (h : St m c K KS g64 ⊢ Q ⟨⟩) :
    St m c K KS g63 ⊢ run c (k0_part64 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part64_eq_skeleton]; unfold k0_part64_skel
  simp only [semSignalWord, semWaitWord, Prog.lift, Prog.bind_op, Prog.bind_ret, Prog.pure_eq_ret, wp_deviceId]
  refine st_take m c K KS 0 6 _ rfl _ (by decide +kernel) ?_
  refine st_sendB m c K KS 0 7 _ ((show ∀ c : Dev nD, (⟨k0_dev63 c, k0_dev63_lt c⟩ : Dev nD) = dst c 0 by decide +kernel) c) _ (by decide +kernel) ?_
  refine st_ldcm m c K KS 0 1 7 _ (by decide +kernel) ?_
  refine st_ldw2b m c K KS (funext fun a => by fin_cases a <;> rfl) _ (by decide +kernel) ?_
  refine st_ldout m c K KS _ (fun _ => ?_)
  refine st_out m c K KS 4 0 1 _ (by decide +kernel) _ ((show ∀ c : Dev nD, k0_off5 c 0#32 0#32 = oOff c 0 1 by decide +kernel) c) (oval_copy m c 7 (by decide) 0) ?_
  exact st_ret m c K KS _ _ h

end

end Cert.Ring
-- ==== Proof.Parts5.lean ====
/- Parts 65 to 77 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part65 (v2 v5 : BitVec 32) {Q : (BitVec 32) → sProp 𝕄} (h : ∀ u0 : BitVec 32, St m c K KS g65 ⊢ Q u0) :
    St m c K KS g64 ⊢ run c (k0_part65 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5) Q := by
  simp only [k0_part65_eq_skeleton]; unfold k0_part65_skel
  simp only [semSignalWord, semWaitWord, Prog.lift, Prog.bind_op, Prog.bind_ret, Prog.pure_eq_ret, wp_deviceId]
  refine st_recv m c K KS 1 7 _ (by decide +kernel) ?_
  refine st_waitA m c K KS 1 7 _ (by decide +kernel) ?_
  refine st_take m c K KS 1 6 _ rfl _ (by decide +kernel) ?_
  refine st_sendB m c K KS 1 7 _ ((show ∀ c : Dev nD, (⟨k0_dev64 c, k0_dev64_lt c⟩ : Dev nD) = dst c 1 by decide +kernel) c) _ (by decide +kernel) ?_
  exact st_ret m c K KS _ _ (h _)

theorem part66 (v7 v1568 : BitVec 32) {Q : PUnit → sProp 𝕄} (h : St m c K KS g66 ⊢ Q ⟨⟩) :
    St m c K KS g65 ⊢ run c (k0_part66 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v7 v1568) Q := by
  simp only [k0_part66_eq_skeleton]; unfold k0_part66_skel
  simp only [semSignalWord, semWaitWord, Prog.lift, Prog.bind_op, Prog.bind_ret, Prog.pure_eq_ret, wp_deviceId]
  refine st_ldcm m c K KS 1 1 7 _ (by decide +kernel) ?_
  refine st_ldw2b m c K KS (funext fun a => by fin_cases a <;> rfl) _ (by decide +kernel) ?_
  refine st_ldout m c K KS _ (fun _ => ?_)
  refine st_out m c K KS 5 1 1 _ (by decide +kernel) _ ((show ∀ c : Dev nD, k0_off4 c 0#32 512#32 = oOff c 1 1 by decide +kernel) c) (oval_copy m c 7 (by decide) 1) ?_
  refine st_recv m c K KS 2 7 _ (by decide +kernel) ?_
  refine st_waitA m c K KS 2 7 _ (by decide +kernel) ?_
  refine st_take m c K KS 2 6 _ rfl _ (by decide +kernel) ?_
  exact st_ret m c K KS _ _ h

theorem part67 (v2 v5 v7 : BitVec 32) {Q : PUnit → sProp 𝕄} (h : St m c K KS g67 ⊢ Q ⟨⟩) :
    St m c K KS g66 ⊢ run c (k0_part67 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part67_eq_skeleton]; unfold k0_part67_skel
  simp only [semSignalWord, semWaitWord, Prog.lift, Prog.bind_op, Prog.bind_ret, Prog.pure_eq_ret, wp_deviceId]
  refine st_sendB m c K KS 2 7 _ ((show ∀ c : Dev nD, (⟨k0_dev65 c, k0_dev65_lt c⟩ : Dev nD) = dst c 2 by decide +kernel) c) _ (by decide +kernel) ?_
  refine st_ldcm m c K KS 2 1 7 _ (by decide +kernel) ?_
  refine st_ldw2b m c K KS (funext fun a => by fin_cases a <;> rfl) _ (by decide +kernel) ?_
  refine st_ldout m c K KS _ (fun _ => ?_)
  refine st_out m c K KS 6 2 1 _ (by decide +kernel) _ ((show ∀ c : Dev nD, k0_off5 c 0#32 256#32 = oOff c 2 1 by decide +kernel) c) (oval_copy m c 7 (by decide) 2) ?_
  exact st_ret m c K KS _ _ h

theorem part68 (v2 v5 : BitVec 32) {Q : (BitVec 32) → sProp 𝕄} (h : ∀ u0 : BitVec 32, St m c K KS g68 ⊢ Q u0) :
    St m c K KS g67 ⊢ run c (k0_part68 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5) Q := by
  simp only [k0_part68_eq_skeleton]; unfold k0_part68_skel
  simp only [semSignalWord, semWaitWord, Prog.lift, Prog.bind_op, Prog.bind_ret, Prog.pure_eq_ret, wp_deviceId]
  refine st_recv m c K KS 3 7 _ (by decide +kernel) ?_
  refine st_waitA m c K KS 3 7 _ (by decide +kernel) ?_
  refine st_take m c K KS 3 6 _ rfl _ (by decide +kernel) ?_
  refine st_sendB m c K KS 3 7 _ ((show ∀ c : Dev nD, (⟨k0_dev66 c, k0_dev66_lt c⟩ : Dev nD) = dst c 3 by decide +kernel) c) _ (by decide +kernel) ?_
  exact st_ret m c K KS _ _ (h _)

theorem part69 (v5 v7 v1637 : BitVec 32) {Q : PUnit → sProp 𝕄} (h : St m c K KS g69 ⊢ Q ⟨⟩) :
    St m c K KS g68 ⊢ run c (k0_part69 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v1637) Q := by
  simp only [k0_part69_eq_skeleton]; unfold k0_part69_skel
  simp only [semSignalWord, semWaitWord, Prog.lift, Prog.bind_op, Prog.bind_ret, Prog.pure_eq_ret, wp_deviceId]
  refine st_ldcm m c K KS 3 1 7 _ (by decide +kernel) ?_
  refine st_ldw2b m c K KS (funext fun a => by fin_cases a <;> rfl) _ (by decide +kernel) ?_
  refine st_ldout m c K KS _ (fun _ => ?_)
  refine st_out m c K KS 7 3 1 _ (by decide +kernel) _ ((show ∀ c : Dev nD, k0_off4 c 0#32 768#32 = oOff c 3 1 by decide +kernel) c) (oval_copy m c 7 (by decide) 3) ?_
  refine st_recv m c K KS 0 8 _ (by decide +kernel) ?_
  refine st_waitB m c K KS 0 7 _ (by decide +kernel) ?_
  exact st_ret m c K KS _ _ h

theorem part70 (v2 v5 v7 : BitVec 32) {Q : (BitVec 32) → sProp 𝕄} (h : ∀ u0 : BitVec 32, St m c K KS g70 ⊢ Q u0) :
    St m c K KS g69 ⊢ run c (k0_part70 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part70_eq_skeleton]; unfold k0_part70_skel
  simp only [semSignalWord, semWaitWord, Prog.lift, Prog.bind_op, Prog.bind_ret, Prog.pure_eq_ret, wp_deviceId]
  refine st_credit m c K KS 0 7 _ ((show ∀ c : Dev nD, (⟨k0_dev67 c, k0_dev67_lt c⟩ : Dev nD) = src c 0 by decide +kernel) c) _ rfl _ (by decide +kernel) ?_
  refine st_take m c K KS 0 7 _ rfl _ (by decide +kernel) ?_
  refine st_sendB m c K KS 0 8 _ ((show ∀ c : Dev nD, (⟨k0_dev68 c, k0_dev68_lt c⟩ : Dev nD) = dst c 0 by decide +kernel) c) _ (by decide +kernel) ?_
  refine st_ldcm m c K KS 0 0 8 _ (by decide +kernel) ?_
  refine st_ldw2b m c K KS (funext fun a => by fin_cases a <;> rfl) _ (by decide +kernel) ?_
  refine st_ldout m c K KS _ (fun _ => ?_)
  refine st_out m c K KS 8 0 2 _ (by decide +kernel) _ ((show ∀ c : Dev nD, k0_off5 c 1#32 0#32 = oOff c 0 2 by decide +kernel) c) (oval_copy m c 8 (by decide) 0) ?_
  exact st_ret m c K KS _ _ (h _)

theorem part71 (v5 v7 v1683 : BitVec 32) {Q : PUnit → sProp 𝕄} (h : St m c K KS g71 ⊢ Q ⟨⟩) :
    St m c K KS g70 ⊢ run c (k0_part71 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v1683) Q := by
  simp only [k0_part71_eq_skeleton]; unfold k0_part71_skel
  simp only [semSignalWord, semWaitWord, Prog.lift, Prog.bind_op, Prog.bind_ret, Prog.pure_eq_ret, wp_deviceId]
  refine st_recv m c K KS 1 8 _ (by decide +kernel) ?_
  refine st_waitB m c K KS 1 7 _ (by decide +kernel) ?_
  refine st_credit m c K KS 1 7 _ ((show ∀ c : Dev nD, (⟨k0_dev69 c, k0_dev69_lt c⟩ : Dev nD) = src c 1 by decide +kernel) c) _ rfl _ (by decide +kernel) ?_
  refine st_take m c K KS 1 7 _ rfl _ (by decide +kernel) ?_
  exact st_ret m c K KS _ _ h

theorem part72 (v2 v7 : BitVec 32) {Q : PUnit → sProp 𝕄} (h : St m c K KS g72 ⊢ Q ⟨⟩) :
    St m c K KS g71 ⊢ run c (k0_part72 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7) Q := by
  simp only [k0_part72_eq_skeleton]; unfold k0_part72_skel
  simp only [semSignalWord, semWaitWord, Prog.lift, Prog.bind_op, Prog.bind_ret, Prog.pure_eq_ret, wp_deviceId]
  refine st_sendB m c K KS 1 8 _ ((show ∀ c : Dev nD, (⟨k0_dev70 c, k0_dev70_lt c⟩ : Dev nD) = dst c 1 by decide +kernel) c) _ (by decide +kernel) ?_
  refine st_ldcm m c K KS 1 0 8 _ (by decide +kernel) ?_
  refine st_ldw2b m c K KS (funext fun a => by fin_cases a <;> rfl) _ (by decide +kernel) ?_
  refine st_ldout m c K KS _ (fun _ => ?_)
  refine st_out m c K KS 9 1 2 _ (by decide +kernel) _ ((show ∀ c : Dev nD, k0_off4 c 1#32 512#32 = oOff c 1 2 by decide +kernel) c) (oval_copy m c 8 (by decide) 1) ?_
  refine st_recv m c K KS 2 8 _ (by decide +kernel) ?_
  exact st_ret m c K KS _ _ h

theorem part73 (v2 v5 v7 : BitVec 32) {Q : (FVec F S256x512 .f32) → sProp 𝕄} (h : St m c K KS g73 ⊢ Q ((k0_pay71 (X m 8 (src c 2) 2) (w2v m c)))) :
    St m c K KS g72 ⊢ run c (k0_part73 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part73_eq_skeleton]; unfold k0_part73_skel
  simp only [semSignalWord, semWaitWord, Prog.lift, Prog.bind_op, Prog.bind_ret, Prog.pure_eq_ret, wp_deviceId]
  refine st_waitB m c K KS 2 7 _ (by decide +kernel) ?_
  refine st_credit m c K KS 2 7 _ ((show ∀ c : Dev nD, (⟨k0_dev71 c, k0_dev71_lt c⟩ : Dev nD) = src c 2 by decide +kernel) c) _ rfl _ (by decide +kernel) ?_
  refine st_take m c K KS 2 7 _ rfl _ (by decide +kernel) ?_
  refine st_sendB m c K KS 2 8 _ ((show ∀ c : Dev nD, (⟨k0_dev72 c, k0_dev72_lt c⟩ : Dev nD) = dst c 2 by decide +kernel) c) _ (by decide +kernel) ?_
  refine st_ldcm m c K KS 2 0 8 _ (by decide +kernel) ?_
  refine st_ldw2b m c K KS (funext fun a => by fin_cases a <;> rfl) _ (by decide +kernel) ?_
  exact st_ret m c K KS _ _ h

theorem part74 (v5 v7 : BitVec 32) {Q : PUnit → sProp 𝕄} (h : St m c K KS g74 ⊢ Q ⟨⟩) :
    St m c K KS g73 ⊢ run c (k0_part74 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 ((k0_pay71 (X m 8 (src c 2) 2) (w2v m c)))) Q := by
  simp only [k0_part74_eq_skeleton]; unfold k0_part74_skel
  simp only [semSignalWord, semWaitWord, Prog.lift, Prog.bind_op, Prog.bind_ret, Prog.pure_eq_ret, wp_deviceId]
  refine st_ldout m c K KS _ (fun _ => ?_)
  refine st_out m c K KS 10 2 2 _ (by decide +kernel) _ ((show ∀ c : Dev nD, k0_off5 c 1#32 256#32 = oOff c 2 2 by decide +kernel) c) (oval_copy m c 8 (by decide) 2) ?_
  refine st_recv m c K KS 3 8 _ (by decide +kernel) ?_
  refine st_waitB m c K KS 3 7 _ (by decide +kernel) ?_
  refine st_credit m c K KS 3 7 _ ((show ∀ c : Dev nD, (⟨k0_dev73 c, k0_dev73_lt c⟩ : Dev nD) = src c 3 by decide +kernel) c) _ rfl _ (by decide +kernel) ?_
  refine st_take m c K KS 3 7 _ rfl _ (by decide +kernel) ?_
  exact st_ret m c K KS _ _ h

theorem part75 (v2 v7 : BitVec 32) {Q : PUnit → sProp 𝕄} (h : St m c K KS g75 ⊢ Q ⟨⟩) :
    St m c K KS g74 ⊢ run c (k0_part75 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7) Q := by
  simp only [k0_part75_eq_skeleton]; unfold k0_part75_skel
  simp only [semSignalWord, semWaitWord, Prog.lift, Prog.bind_op, Prog.bind_ret, Prog.pure_eq_ret, wp_deviceId]
  refine st_sendB m c K KS 3 8 _ ((show ∀ c : Dev nD, (⟨k0_dev74 c, k0_dev74_lt c⟩ : Dev nD) = dst c 3 by decide +kernel) c) _ (by decide +kernel) ?_
  refine st_ldcm m c K KS 3 0 8 _ (by decide +kernel) ?_
  refine st_ldw2b m c K KS (funext fun a => by fin_cases a <;> rfl) _ (by decide +kernel) ?_
  refine st_ldout m c K KS _ (fun _ => ?_)
  refine st_out m c K KS 11 3 2 _ (by decide +kernel) _ ((show ∀ c : Dev nD, k0_off4 c 1#32 768#32 = oOff c 3 2 by decide +kernel) c) (oval_copy m c 8 (by decide) 3) ?_
  refine st_recv m c K KS 0 9 _ (by decide +kernel) ?_
  exact st_ret m c K KS _ _ h

theorem part76 (v2 v5 v7 : BitVec 32) {Q : (Σ' (v1820 : BitVec 32), FVec F S256x1024 .bf16) → sProp 𝕄} (h : ∀ u0 : BitVec 32, St m c K KS g76 ⊢ Q ⟨u0, (k0_pay73 (X m 9 (src c 0) 0))⟩) :
    St m c K KS g75 ⊢ run c (k0_part76 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part76_eq_skeleton]; unfold k0_part76_skel
  simp only [semSignalWord, semWaitWord, Prog.lift, Prog.bind_op, Prog.bind_ret, Prog.pure_eq_ret, wp_deviceId]
  refine st_waitB m c K KS 0 8 _ (by decide +kernel) ?_
  refine st_credit m c K KS 0 8 _ ((show ∀ c : Dev nD, (⟨k0_dev75 c, k0_dev75_lt c⟩ : Dev nD) = src c 0 by decide +kernel) c) _ rfl _ (by decide +kernel) ?_
  refine st_take m c K KS 0 8 _ rfl _ (by decide +kernel) ?_
  refine st_sendB m c K KS 0 9 _ ((show ∀ c : Dev nD, (⟨k0_dev76 c, k0_dev76_lt c⟩ : Dev nD) = dst c 0 by decide +kernel) c) _ (by decide +kernel) ?_
  refine st_ldcm m c K KS 0 1 9 _ (by decide +kernel) ?_
  exact st_ret m c K KS _ _ (h _)

theorem part77 (v5 v7 v1820 : BitVec 32) {Q : PUnit → sProp 𝕄} (h : St m c K KS g77 ⊢ Q ⟨⟩) :
    St m c K KS g76 ⊢ run c (k0_part77 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v1820 (k0_pay73 (X m 9 (src c 0) 0))) Q := by
  simp only [k0_part77_eq_skeleton]; unfold k0_part77_skel
  simp only [semSignalWord, semWaitWord, Prog.lift, Prog.bind_op, Prog.bind_ret, Prog.pure_eq_ret, wp_deviceId]
  refine st_ldw2b m c K KS (funext fun a => by fin_cases a <;> rfl) _ (by decide +kernel) ?_
  refine st_ldout m c K KS _ (fun _ => ?_)
  refine st_out m c K KS 12 0 3 _ (by decide +kernel) _ ((show ∀ c : Dev nD, k0_off5 c 2#32 0#32 = oOff c 0 3 by decide +kernel) c) (oval_copy m c 9 (by decide) 0) ?_
  refine st_recv m c K KS 1 9 _ (by decide +kernel) ?_
  refine st_waitB m c K KS 1 8 _ (by decide +kernel) ?_
  refine st_credit m c K KS 1 8 _ ((show ∀ c : Dev nD, (⟨k0_dev77 c, k0_dev77_lt c⟩ : Dev nD) = src c 1 by decide +kernel) c) _ rfl _ (by decide +kernel) ?_
  refine st_take m c K KS 1 8 _ rfl _ (by decide +kernel) ?_
  exact st_ret m c K KS _ _ h

end

end Cert.Ring
-- ==== Proof.Parts6.lean ====
/- Parts 78 to 90 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part78 (v2 v5 v7 : BitVec 32) {Q : PUnit → sProp 𝕄} (h : St m c K KS g78 ⊢ Q ⟨⟩) :
    St m c K KS g77 ⊢ run c (k0_part78 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part78_eq_skeleton]; unfold k0_part78_skel
  simp only [semSignalWord, semWaitWord, Prog.lift, Prog.bind_op, Prog.bind_ret, Prog.pure_eq_ret, wp_deviceId]
  refine st_sendB m c K KS 1 9 _ ((show ∀ c : Dev nD, (⟨k0_dev78 c, k0_dev78_lt c⟩ : Dev nD) = dst c 1 by decide +kernel) c) _ (by decide +kernel) ?_
  refine st_ldcm m c K KS 1 1 9 _ (by decide +kernel) ?_
  refine st_ldw2b m c K KS (funext fun a => by fin_cases a <;> rfl) _ (by decide +kernel) ?_
  refine st_ldout m c K KS _ (fun _ => ?_)
  refine st_out m c K KS 13 1 3 _ (by decide +kernel) _ ((show ∀ c : Dev nD, k0_off4 c 2#32 512#32 = oOff c 1 3 by decide +kernel) c) (oval_copy m c 9 (by decide) 1) ?_
  exact st_ret m c K KS _ _ h

theorem part79 (v2 v5 v7 : BitVec 32) {Q : (Σ' (v1891 : BitVec 32), BitVec 32) → sProp 𝕄} (h : ∀ u0 u1 : BitVec 32, St m c K KS g79 ⊢ Q ⟨u0, u1⟩) :
    St m c K KS g78 ⊢ run c (k0_part79 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part79_eq_skeleton]; unfold k0_part79_skel
  simp only [semSignalWord, semWaitWord, Prog.lift, Prog.bind_op, Prog.bind_ret, Prog.pure_eq_ret, wp_deviceId]
  refine st_recv m c K KS 2 9 _ (by decide +kernel) ?_
  refine st_waitB m c K KS 2 8 _ (by decide +kernel) ?_
  refine st_credit m c K KS 2 8 _ ((show ∀ c : Dev nD, (⟨k0_dev79 c, k0_dev79_lt c⟩ : Dev nD) = src c 2 by decide +kernel) c) _ rfl _ (by decide +kernel) ?_
  refine st_take m c K KS 2 8 _ rfl _ (by decide +kernel) ?_
  refine st_sendB m c K KS 2 9 _ ((show ∀ c : Dev nD, (⟨k0_dev80 c, k0_dev80_lt c⟩ : Dev nD) = dst c 2 by decide +kernel) c) _ (by decide +kernel) ?_
  exact st_ret m c K KS _ _ (h _ _)

theorem part80 (v5 v1891 c2_i32_2537 : BitVec 32) {Q : PUnit → sProp 𝕄} (h : St m c K KS g80 ⊢ Q ⟨⟩) :
    St m c K KS g79 ⊢ run c (k0_part80 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v1891 c2_i32_2537) Q := by
  simp only [k0_part80_eq_skeleton]; unfold k0_part80_skel
  simp only [semSignalWord, semWaitWord, Prog.lift, Prog.bind_op, Prog.bind_ret, Prog.pure_eq_ret, wp_deviceId]
  refine st_ldcm m c K KS 2 1 9 _ (by decide +kernel) ?_
  refine st_ldw2b m c K KS (funext fun a => by fin_cases a <;> rfl) _ (by decide +kernel) ?_
  refine st_ldout m c K KS _ (fun _ => ?_)
  refine st_out m c K KS 14 2 3 _ (by decide +kernel) _ ((show ∀ c : Dev nD, k0_off5 c 2#32 256#32 = oOff c 2 3 by decide +kernel) c) (oval_copy m c 9 (by decide) 2) ?_
  refine st_recv m c K KS 3 9 _ (by decide +kernel) ?_
  exact st_ret m c K KS _ _ h

theorem part81 (v2 v5 v7 : BitVec 32) {Q : PUnit → sProp 𝕄} (h : St m c K KS g81 ⊢ Q ⟨⟩) :
    St m c K KS g80 ⊢ run c (k0_part81 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part81_eq_skeleton]; unfold k0_part81_skel
  simp only [semSignalWord, semWaitWord, Prog.lift, Prog.bind_op, Prog.bind_ret, Prog.pure_eq_ret, wp_deviceId]
  refine st_waitB m c K KS 3 8 _ (by decide +kernel) ?_
  refine st_credit m c K KS 3 8 _ ((show ∀ c : Dev nD, (⟨k0_dev81 c, k0_dev81_lt c⟩ : Dev nD) = src c 3 by decide +kernel) c) _ rfl _ (by decide +kernel) ?_
  refine st_take m c K KS 3 8 _ rfl _ (by decide +kernel) ?_
  refine st_sendB m c K KS 3 9 _ ((show ∀ c : Dev nD, (⟨k0_dev82 c, k0_dev82_lt c⟩ : Dev nD) = dst c 3 by decide +kernel) c) _ (by decide +kernel) ?_
  refine st_ldcm m c K KS 3 1 9 _ (by decide +kernel) ?_
  refine st_ldw2b m c K KS (funext fun a => by fin_cases a <;> rfl) _ (by decide +kernel) ?_
  refine st_ldout m c K KS _ (fun _ => ?_)
  refine st_out m c K KS 15 3 3 _ (by decide +kernel) _ ((show ∀ c : Dev nD, k0_off4 c 2#32 768#32 = oOff c 3 3 by decide +kernel) c) (oval_copy m c 9 (by decide) 3) ?_
  exact st_ret m c K KS _ _ h

theorem part82 (v5 v7 : BitVec 32) {Q : PUnit → sProp 𝕄} (h : St m c K KS g82 ⊢ Q ⟨⟩) :
    St m c K KS g81 ⊢ run c (k0_part82 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7) Q := by
  simp only [k0_part82_eq_skeleton]; unfold k0_part82_skel
  simp only [semSignalWord, semWaitWord, Prog.lift, Prog.bind_op, Prog.bind_ret, Prog.pure_eq_ret, wp_deviceId]
  refine st_recv m c K KS 0 10 _ (by decide +kernel) ?_
  refine st_waitB m c K KS 0 9 _ (by decide +kernel) ?_
  refine st_credit m c K KS 0 9 _ ((show ∀ c : Dev nD, (⟨k0_dev83 c, k0_dev83_lt c⟩ : Dev nD) = src c 0 by decide +kernel) c) _ rfl _ (by decide +kernel) ?_
  refine st_take m c K KS 0 9 _ rfl _ (by decide +kernel) ?_
  exact st_ret m c K KS _ _ h

theorem part83 (v2 v5 : BitVec 32) {Q : PUnit → sProp 𝕄} (h : St m c K KS g83 ⊢ Q ⟨⟩) :
    St m c K KS g82 ⊢ run c (k0_part83 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5) Q := by
  simp only [k0_part83_eq_skeleton]; unfold k0_part83_skel
  simp only [semSignalWord, semWaitWord, Prog.lift, Prog.bind_op, Prog.bind_ret, Prog.pure_eq_ret, wp_deviceId]
  refine st_sendB m c K KS 0 10 _ ((show ∀ c : Dev nD, (⟨k0_dev84 c, k0_dev84_lt c⟩ : Dev nD) = dst c 0 by decide +kernel) c) _ (by decide +kernel) ?_
  refine st_ldcm m c K KS 0 0 10 _ (by decide +kernel) ?_
  refine st_ldw2b m c K KS (funext fun a => by fin_cases a <;> rfl) _ (by decide +kernel) ?_
  refine st_ldout m c K KS _ (fun _ => ?_)
  refine st_out m c K KS 16 0 4 _ (by decide +kernel) _ ((show ∀ c : Dev nD, k0_off5 c 3#32 0#32 = oOff c 0 4 by decide +kernel) c) (oval_copy m c 10 (by decide) 0) ?_
  refine st_recv m c K KS 1 10 _ (by decide +kernel) ?_
  exact st_ret m c K KS _ _ h

theorem part84 (v2 v5 v7 : BitVec 32) {Q : (Σ' (v2006 : FVec F S256x512 .f32), BitVec 32) → sProp 𝕄} (h : ∀ u1 : BitVec 32, St m c K KS g84 ⊢ Q ⟨(k0_pay79 (X m 10 (src c 1) 1) (w2v m c)), u1⟩) :
    St m c K KS g83 ⊢ run c (k0_part84 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part84_eq_skeleton]; unfold k0_part84_skel
  simp only [semSignalWord, semWaitWord, Prog.lift, Prog.bind_op, Prog.bind_ret, Prog.pure_eq_ret, wp_deviceId]
  refine st_waitB m c K KS 1 9 _ (by decide +kernel) ?_
  refine st_credit m c K KS 1 9 _ ((show ∀ c : Dev nD, (⟨k0_dev85 c, k0_dev85_lt c⟩ : Dev nD) = src c 1 by decide +kernel) c) _ rfl _ (by decide +kernel) ?_
  refine st_take m c K KS 1 9 _ rfl _ (by decide +kernel) ?_
  refine st_sendB m c K KS 1 10 _ ((show ∀ c : Dev nD, (⟨k0_dev86 c, k0_dev86_lt c⟩ : Dev nD) = dst c 1 by decide +kernel) c) _ (by decide +kernel) ?_
  refine st_ldcm m c K KS 1 0 10 _ (by decide +kernel) ?_
  refine st_ldw2b m c K KS (funext fun a => by fin_cases a <;> rfl) _ (by decide +kernel) ?_
  exact st_ret m c K KS _ _ (h _)

theorem part85 (v5 v7 v2007 : BitVec 32) {Q : PUnit → sProp 𝕄} (h : St m c K KS g85 ⊢ Q ⟨⟩) :
    St m c K KS g84 ⊢ run c (k0_part85 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 (k0_pay79 (X m 10 (src c 1) 1) (w2v m c)) v2007) Q := by
  simp only [k0_part85_eq_skeleton]; unfold k0_part85_skel
  simp only [semSignalWord, semWaitWord, Prog.lift, Prog.bind_op, Prog.bind_ret, Prog.pure_eq_ret, wp_deviceId]
  refine st_ldout m c K KS _ (fun _ => ?_)
  refine st_out m c K KS 17 1 4 _ (by decide +kernel) _ ((show ∀ c : Dev nD, k0_off4 c 3#32 512#32 = oOff c 1 4 by decide +kernel) c) (oval_copy m c 10 (by decide) 1) ?_
  refine st_recv m c K KS 2 10 _ (by decide +kernel) ?_
  refine st_waitB m c K KS 2 9 _ (by decide +kernel) ?_
  refine st_credit m c K KS 2 9 _ ((show ∀ c : Dev nD, (⟨k0_dev87 c, k0_dev87_lt c⟩ : Dev nD) = src c 2 by decide +kernel) c) _ rfl _ (by decide +kernel) ?_
  refine st_take m c K KS 2 9 _ rfl _ (by decide +kernel) ?_
  exact st_ret m c K KS _ _ h

theorem part86 (v2 v5 v7 : BitVec 32) {Q : PUnit → sProp 𝕄} (h : St m c K KS g86 ⊢ Q ⟨⟩) :
    St m c K KS g85 ⊢ run c (k0_part86 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part86_eq_skeleton]; unfold k0_part86_skel
  simp only [semSignalWord, semWaitWord, Prog.lift, Prog.bind_op, Prog.bind_ret, Prog.pure_eq_ret, wp_deviceId]
  refine st_sendB m c K KS 2 10 _ ((show ∀ c : Dev nD, (⟨k0_dev88 c, k0_dev88_lt c⟩ : Dev nD) = dst c 2 by decide +kernel) c) _ (by decide +kernel) ?_
  refine st_ldcm m c K KS 2 0 10 _ (by decide +kernel) ?_
  refine st_ldw2b m c K KS (funext fun a => by fin_cases a <;> rfl) _ (by decide +kernel) ?_
  refine st_ldout m c K KS _ (fun _ => ?_)
  refine st_out m c K KS 18 2 4 _ (by decide +kernel) _ ((show ∀ c : Dev nD, k0_off5 c 3#32 256#32 = oOff c 2 4 by decide +kernel) c) (oval_copy m c 10 (by decide) 2) ?_
  exact st_ret m c K KS _ _ h

theorem part87 (v2 v5 v7 : BitVec 32) {Q : (BitVec 32) → sProp 𝕄} (h : ∀ u0 : BitVec 32, St m c K KS g87 ⊢ Q u0) :
    St m c K KS g86 ⊢ run c (k0_part87 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part87_eq_skeleton]; unfold k0_part87_skel
  simp only [semSignalWord, semWaitWord, Prog.lift, Prog.bind_op, Prog.bind_ret, Prog.pure_eq_ret, wp_deviceId]
  refine st_recv m c K KS 3 10 _ (by decide +kernel) ?_
  refine st_waitB m c K KS 3 9 _ (by decide +kernel) ?_
  refine st_credit m c K KS 3 9 _ ((show ∀ c : Dev nD, (⟨k0_dev89 c, k0_dev89_lt c⟩ : Dev nD) = src c 3 by decide +kernel) c) _ rfl _ (by decide +kernel) ?_
  refine st_take m c K KS 3 9 _ rfl _ (by decide +kernel) ?_
  refine st_sendB m c K KS 3 10 _ ((show ∀ c : Dev nD, (⟨k0_dev90 c, k0_dev90_lt c⟩ : Dev nD) = dst c 3 by decide +kernel) c) _ (by decide +kernel) ?_
  exact st_ret m c K KS _ _ (h _)

theorem part88 (v5 v7 v2075 : BitVec 32) {Q : PUnit → sProp 𝕄} (h : St m c K KS g88 ⊢ Q ⟨⟩) :
    St m c K KS g87 ⊢ run c (k0_part88 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v2075) Q := by
  simp only [k0_part88_eq_skeleton]; unfold k0_part88_skel
  simp only [semSignalWord, semWaitWord, Prog.lift, Prog.bind_op, Prog.bind_ret, Prog.pure_eq_ret, wp_deviceId]
  refine st_ldcm m c K KS 3 0 10 _ (by decide +kernel) ?_
  refine st_ldw2b m c K KS (funext fun a => by fin_cases a <;> rfl) _ (by decide +kernel) ?_
  refine st_ldout m c K KS _ (fun _ => ?_)
  refine st_out m c K KS 19 3 4 _ (by decide +kernel) _ ((show ∀ c : Dev nD, k0_off4 c 3#32 768#32 = oOff c 3 4 by decide +kernel) c) (oval_copy m c 10 (by decide) 3) ?_
  refine st_recv m c K KS 0 11 _ (by decide +kernel) ?_
  refine st_waitB m c K KS 0 10 _ (by decide +kernel) ?_
  exact st_ret m c K KS _ _ h

theorem part89 (v2 v5 v7 : BitVec 32) {Q : (BitVec 32) → sProp 𝕄} (h : ∀ u0 : BitVec 32, St m c K KS g89 ⊢ Q u0) :
    St m c K KS g88 ⊢ run c (k0_part89 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part89_eq_skeleton]; unfold k0_part89_skel
  simp only [semSignalWord, semWaitWord, Prog.lift, Prog.bind_op, Prog.bind_ret, Prog.pure_eq_ret, wp_deviceId]
  refine st_credit m c K KS 0 10 _ ((show ∀ c : Dev nD, (⟨k0_dev91 c, k0_dev91_lt c⟩ : Dev nD) = src c 0 by decide +kernel) c) _ rfl _ (by decide +kernel) ?_
  refine st_take m c K KS 0 10 _ rfl _ (by decide +kernel) ?_
  refine st_sendB m c K KS 0 11 _ ((show ∀ c : Dev nD, (⟨k0_dev92 c, k0_dev92_lt c⟩ : Dev nD) = dst c 0 by decide +kernel) c) _ (by decide +kernel) ?_
  refine st_ldcm m c K KS 0 1 11 _ (by decide +kernel) ?_
  refine st_ldw2b m c K KS (funext fun a => by fin_cases a <;> rfl) _ (by decide +kernel) ?_
  refine st_ldout m c K KS _ (fun _ => ?_)
  refine st_out m c K KS 20 0 5 _ (by decide +kernel) _ ((show ∀ c : Dev nD, k0_off5 c 4#32 0#32 = oOff c 0 5 by decide +kernel) c) (oval_copy m c 11 (by decide) 0) ?_
  exact st_ret m c K KS _ _ (h _)

theorem part90 (v5 v7 v2121 : BitVec 32) {Q : PUnit → sProp 𝕄} (h : St m c K KS g90 ⊢ Q ⟨⟩) :
    St m c K KS g89 ⊢ run c (k0_part90 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v2121) Q := by
  simp only [k0_part90_eq_skeleton]; unfold k0_part90_skel
  simp only [semSignalWord, semWaitWord, Prog.lift, Prog.bind_op, Prog.bind_ret, Prog.pure_eq_ret, wp_deviceId]
  refine st_recv m c K KS 1 11 _ (by decide +kernel) ?_
  refine st_waitB m c K KS 1 10 _ (by decide +kernel) ?_
  refine st_credit m c K KS 1 10 _ ((show ∀ c : Dev nD, (⟨k0_dev93 c, k0_dev93_lt c⟩ : Dev nD) = src c 1 by decide +kernel) c) _ rfl _ (by decide +kernel) ?_
  refine st_take m c K KS 1 10 _ rfl _ (by decide +kernel) ?_
  exact st_ret m c K KS _ _ h

end

end Cert.Ring
-- ==== Proof.Parts7.lean ====
/- Parts 91 to 104 of the kernel, each from its state to the next. -/
module

public import proofs.«01_k».proof.Proof.States

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part91 (v2 v7 : BitVec 32) {Q : PUnit → sProp 𝕄} (h : St m c K KS g91 ⊢ Q ⟨⟩) :
    St m c K KS g90 ⊢ run c (k0_part91 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7) Q := by
  simp only [k0_part91_eq_skeleton]; unfold k0_part91_skel
  simp only [semSignalWord, semWaitWord, Prog.lift, Prog.bind_op, Prog.bind_ret, Prog.pure_eq_ret, wp_deviceId]
  refine st_sendB m c K KS 1 11 _ ((show ∀ c : Dev nD, (⟨k0_dev94 c, k0_dev94_lt c⟩ : Dev nD) = dst c 1 by decide +kernel) c) _ (by decide +kernel) ?_
  refine st_ldcm m c K KS 1 1 11 _ (by decide +kernel) ?_
  refine st_ldw2b m c K KS (funext fun a => by fin_cases a <;> rfl) _ (by decide +kernel) ?_
  refine st_ldout m c K KS _ (fun _ => ?_)
  refine st_out m c K KS 21 1 5 _ (by decide +kernel) _ ((show ∀ c : Dev nD, k0_off4 c 4#32 512#32 = oOff c 1 5 by decide +kernel) c) (oval_copy m c 11 (by decide) 1) ?_
  refine st_recv m c K KS 2 11 _ (by decide +kernel) ?_
  exact st_ret m c K KS _ _ h

theorem part92 (v2 v5 v7 : BitVec 32) {Q : (FVec F S256x512 .f32) → sProp 𝕄} (h : St m c K KS g92 ⊢ Q ((k0_pay84 (X m 11 (src c 2) 2) (w2v m c)))) :
    St m c K KS g91 ⊢ run c (k0_part92 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part92_eq_skeleton]; unfold k0_part92_skel
  simp only [semSignalWord, semWaitWord, Prog.lift, Prog.bind_op, Prog.bind_ret, Prog.pure_eq_ret, wp_deviceId]
  refine st_waitB m c K KS 2 10 _ (by decide +kernel) ?_
  refine st_credit m c K KS 2 10 _ ((show ∀ c : Dev nD, (⟨k0_dev95 c, k0_dev95_lt c⟩ : Dev nD) = src c 2 by decide +kernel) c) _ rfl _ (by decide +kernel) ?_
  refine st_take m c K KS 2 10 _ rfl _ (by decide +kernel) ?_
  refine st_sendB m c K KS 2 11 _ ((show ∀ c : Dev nD, (⟨k0_dev96 c, k0_dev96_lt c⟩ : Dev nD) = dst c 2 by decide +kernel) c) _ (by decide +kernel) ?_
  refine st_ldcm m c K KS 2 1 11 _ (by decide +kernel) ?_
  refine st_ldw2b m c K KS (funext fun a => by fin_cases a <;> rfl) _ (by decide +kernel) ?_
  exact st_ret m c K KS _ _ h

theorem part93 (v5 v7 : BitVec 32) {Q : PUnit → sProp 𝕄} (h : St m c K KS g93 ⊢ Q ⟨⟩) :
    St m c K KS g92 ⊢ run c (k0_part93 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 ((k0_pay84 (X m 11 (src c 2) 2) (w2v m c)))) Q := by
  simp only [k0_part93_eq_skeleton]; unfold k0_part93_skel
  simp only [semSignalWord, semWaitWord, Prog.lift, Prog.bind_op, Prog.bind_ret, Prog.pure_eq_ret, wp_deviceId]
  refine st_ldout m c K KS _ (fun _ => ?_)
  refine st_out m c K KS 22 2 5 _ (by decide +kernel) _ ((show ∀ c : Dev nD, k0_off5 c 4#32 256#32 = oOff c 2 5 by decide +kernel) c) (oval_copy m c 11 (by decide) 2) ?_
  refine st_recv m c K KS 3 11 _ (by decide +kernel) ?_
  refine st_waitB m c K KS 3 10 _ (by decide +kernel) ?_
  refine st_credit m c K KS 3 10 _ ((show ∀ c : Dev nD, (⟨k0_dev97 c, k0_dev97_lt c⟩ : Dev nD) = src c 3 by decide +kernel) c) _ rfl _ (by decide +kernel) ?_
  refine st_take m c K KS 3 10 _ rfl _ (by decide +kernel) ?_
  exact st_ret m c K KS _ _ h

theorem part94 (v2 v7 : BitVec 32) {Q : PUnit → sProp 𝕄} (h : St m c K KS g94 ⊢ Q ⟨⟩) :
    St m c K KS g93 ⊢ run c (k0_part94 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7) Q := by
  simp only [k0_part94_eq_skeleton]; unfold k0_part94_skel
  simp only [semSignalWord, semWaitWord, Prog.lift, Prog.bind_op, Prog.bind_ret, Prog.pure_eq_ret, wp_deviceId]
  refine st_sendB m c K KS 3 11 _ ((show ∀ c : Dev nD, (⟨k0_dev98 c, k0_dev98_lt c⟩ : Dev nD) = dst c 3 by decide +kernel) c) _ (by decide +kernel) ?_
  refine st_ldcm m c K KS 3 1 11 _ (by decide +kernel) ?_
  refine st_ldw2b m c K KS (funext fun a => by fin_cases a <;> rfl) _ (by decide +kernel) ?_
  refine st_ldout m c K KS _ (fun _ => ?_)
  refine st_out m c K KS 23 3 5 _ (by decide +kernel) _ ((show ∀ c : Dev nD, k0_off4 c 4#32 768#32 = oOff c 3 5 by decide +kernel) c) (oval_copy m c 11 (by decide) 3) ?_
  refine st_recv m c K KS 0 12 _ (by decide +kernel) ?_
  exact st_ret m c K KS _ _ h

theorem part95 (v2 v5 v7 : BitVec 32) {Q : (Σ' (v2258 : BitVec 32), FVec F S256x1024 .bf16) → sProp 𝕄} (h : ∀ u0 : BitVec 32, St m c K KS g95 ⊢ Q ⟨u0, (k0_pay86 (X m 12 (src c 0) 0))⟩) :
    St m c K KS g94 ⊢ run c (k0_part95 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part95_eq_skeleton]; unfold k0_part95_skel
  simp only [semSignalWord, semWaitWord, Prog.lift, Prog.bind_op, Prog.bind_ret, Prog.pure_eq_ret, wp_deviceId]
  refine st_waitB m c K KS 0 11 _ (by decide +kernel) ?_
  refine st_credit m c K KS 0 11 _ ((show ∀ c : Dev nD, (⟨k0_dev99 c, k0_dev99_lt c⟩ : Dev nD) = src c 0 by decide +kernel) c) _ rfl _ (by decide +kernel) ?_
  refine st_take m c K KS 0 11 _ rfl _ (by decide +kernel) ?_
  refine st_sendB m c K KS 0 12 _ ((show ∀ c : Dev nD, (⟨k0_dev100 c, k0_dev100_lt c⟩ : Dev nD) = dst c 0 by decide +kernel) c) _ (by decide +kernel) ?_
  refine st_ldcm m c K KS 0 0 12 _ (by decide +kernel) ?_
  exact st_ret m c K KS _ _ (h _)

theorem part96 (v5 v7 v2258 : BitVec 32) {Q : PUnit → sProp 𝕄} (h : St m c K KS g96 ⊢ Q ⟨⟩) :
    St m c K KS g95 ⊢ run c (k0_part96 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v7 v2258 (k0_pay86 (X m 12 (src c 0) 0))) Q := by
  simp only [k0_part96_eq_skeleton]; unfold k0_part96_skel
  simp only [semSignalWord, semWaitWord, Prog.lift, Prog.bind_op, Prog.bind_ret, Prog.pure_eq_ret, wp_deviceId]
  refine st_ldw2b m c K KS (funext fun a => by fin_cases a <;> rfl) _ (by decide +kernel) ?_
  refine st_ldout m c K KS _ (fun _ => ?_)
  refine st_out m c K KS 24 0 6 _ (by decide +kernel) _ ((show ∀ c : Dev nD, k0_off5 c 5#32 0#32 = oOff c 0 6 by decide +kernel) c) (oval_copy m c 12 (by decide) 0) ?_
  refine st_recv m c K KS 1 12 _ (by decide +kernel) ?_
  refine st_waitB m c K KS 1 11 _ (by decide +kernel) ?_
  refine st_credit m c K KS 1 11 _ ((show ∀ c : Dev nD, (⟨k0_dev101 c, k0_dev101_lt c⟩ : Dev nD) = src c 1 by decide +kernel) c) _ rfl _ (by decide +kernel) ?_
  refine st_take m c K KS 1 11 _ rfl _ (by decide +kernel) ?_
  exact st_ret m c K KS _ _ h

theorem part97 (v2 v5 v7 : BitVec 32) {Q : PUnit → sProp 𝕄} (h : St m c K KS g97 ⊢ Q ⟨⟩) :
    St m c K KS g96 ⊢ run c (k0_part97 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part97_eq_skeleton]; unfold k0_part97_skel
  simp only [semSignalWord, semWaitWord, Prog.lift, Prog.bind_op, Prog.bind_ret, Prog.pure_eq_ret, wp_deviceId]
  refine st_sendB m c K KS 1 12 _ ((show ∀ c : Dev nD, (⟨k0_dev102 c, k0_dev102_lt c⟩ : Dev nD) = dst c 1 by decide +kernel) c) _ (by decide +kernel) ?_
  refine st_ldcm m c K KS 1 0 12 _ (by decide +kernel) ?_
  refine st_ldw2b m c K KS (funext fun a => by fin_cases a <;> rfl) _ (by decide +kernel) ?_
  refine st_ldout m c K KS _ (fun _ => ?_)
  refine st_out m c K KS 25 1 6 _ (by decide +kernel) _ ((show ∀ c : Dev nD, k0_off4 c 5#32 512#32 = oOff c 1 6 by decide +kernel) c) (oval_copy m c 12 (by decide) 1) ?_
  exact st_ret m c K KS _ _ h

theorem part98 (v2 v5 v7 : BitVec 32) {Q : (Σ' (v2329 : BitVec 32), BitVec 32) → sProp 𝕄} (h : ∀ u0 u1 : BitVec 32, St m c K KS g98 ⊢ Q ⟨u0, u1⟩) :
    St m c K KS g97 ⊢ run c (k0_part98 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part98_eq_skeleton]; unfold k0_part98_skel
  simp only [semSignalWord, semWaitWord, Prog.lift, Prog.bind_op, Prog.bind_ret, Prog.pure_eq_ret, wp_deviceId]
  refine st_recv m c K KS 2 12 _ (by decide +kernel) ?_
  refine st_waitB m c K KS 2 11 _ (by decide +kernel) ?_
  refine st_credit m c K KS 2 11 _ ((show ∀ c : Dev nD, (⟨k0_dev103 c, k0_dev103_lt c⟩ : Dev nD) = src c 2 by decide +kernel) c) _ rfl _ (by decide +kernel) ?_
  refine st_take m c K KS 2 11 _ rfl _ (by decide +kernel) ?_
  refine st_sendB m c K KS 2 12 _ ((show ∀ c : Dev nD, (⟨k0_dev104 c, k0_dev104_lt c⟩ : Dev nD) = dst c 2 by decide +kernel) c) _ (by decide +kernel) ?_
  exact st_ret m c K KS _ _ (h _ _)

theorem part99 (v5 v2329 c5_i32_3167 : BitVec 32) {Q : PUnit → sProp 𝕄} (h : St m c K KS g99 ⊢ Q ⟨⟩) :
    St m c K KS g98 ⊢ run c (k0_part99 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v2329 c5_i32_3167) Q := by
  simp only [k0_part99_eq_skeleton]; unfold k0_part99_skel
  simp only [semSignalWord, semWaitWord, Prog.lift, Prog.bind_op, Prog.bind_ret, Prog.pure_eq_ret, wp_deviceId]
  refine st_ldcm m c K KS 2 0 12 _ (by decide +kernel) ?_
  refine st_ldw2b m c K KS (funext fun a => by fin_cases a <;> rfl) _ (by decide +kernel) ?_
  refine st_ldout m c K KS _ (fun _ => ?_)
  refine st_out m c K KS 26 2 6 _ (by decide +kernel) _ ((show ∀ c : Dev nD, k0_off5 c 5#32 256#32 = oOff c 2 6 by decide +kernel) c) (oval_copy m c 12 (by decide) 2) ?_
  refine st_recv m c K KS 3 12 _ (by decide +kernel) ?_
  exact st_ret m c K KS _ _ h

theorem part100 (v2 v5 v7 : BitVec 32) {Q : PUnit → sProp 𝕄} (h : St m c K KS g100 ⊢ Q ⟨⟩) :
    St m c K KS g99 ⊢ run c (k0_part100 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v7) Q := by
  simp only [k0_part100_eq_skeleton]; unfold k0_part100_skel
  simp only [semSignalWord, semWaitWord, Prog.lift, Prog.bind_op, Prog.bind_ret, Prog.pure_eq_ret, wp_deviceId]
  refine st_waitB m c K KS 3 11 _ (by decide +kernel) ?_
  refine st_credit m c K KS 3 11 _ ((show ∀ c : Dev nD, (⟨k0_dev105 c, k0_dev105_lt c⟩ : Dev nD) = src c 3 by decide +kernel) c) _ rfl _ (by decide +kernel) ?_
  refine st_take m c K KS 3 11 _ rfl _ (by decide +kernel) ?_
  refine st_sendB m c K KS 3 12 _ ((show ∀ c : Dev nD, (⟨k0_dev106 c, k0_dev106_lt c⟩ : Dev nD) = dst c 3 by decide +kernel) c) _ (by decide +kernel) ?_
  refine st_ldcm m c K KS 3 0 12 _ (by decide +kernel) ?_
  refine st_ldw2b m c K KS (funext fun a => by fin_cases a <;> rfl) _ (by decide +kernel) ?_
  refine st_ldout m c K KS _ (fun _ => ?_)
  refine st_out m c K KS 27 3 6 _ (by decide +kernel) _ ((show ∀ c : Dev nD, k0_off4 c 5#32 768#32 = oOff c 3 6 by decide +kernel) c) (oval_copy m c 12 (by decide) 3) ?_
  exact st_ret m c K KS _ _ h

theorem part101 (v2 v7 : BitVec 32) {Q : PUnit → sProp 𝕄} (h : St m c K KS g101 ⊢ Q ⟨⟩) :
    St m c K KS g100 ⊢ run c (k0_part101 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7) Q := by
  simp only [k0_part101_eq_skeleton]; unfold k0_part101_skel
  simp only [semSignalWord, semWaitWord, Prog.lift, Prog.bind_op, Prog.bind_ret, Prog.pure_eq_ret, wp_deviceId]
  refine st_recv m c K KS 0 13 _ (by decide +kernel) ?_
  refine st_waitB m c K KS 0 12 _ (by decide +kernel) ?_
  refine st_ldcm m c K KS 0 1 13 _ (by decide +kernel) ?_
  refine st_ldw2b m c K KS (funext fun a => by fin_cases a <;> rfl) _ (by decide +kernel) ?_
  refine st_ldout m c K KS _ (fun _ => ?_)
  refine st_out m c K KS 28 0 7 _ (by decide +kernel) _ ((show ∀ c : Dev nD, k0_off5 c 6#32 0#32 = oOff c 0 7 by decide +kernel) c) (oval_copy m c 13 (by decide) 0) ?_
  exact st_ret m c K KS _ _ h

theorem part102 (v2 v5 : BitVec 32) {Q : (FVec F S256x512 .f32) → sProp 𝕄} (h : St m c K KS g102 ⊢ Q ((k0_pay92 (X m 13 (src c 1) 1) (w2v m c)))) :
    St m c K KS g101 ⊢ run c (k0_part102 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v2 v5) Q := by
  simp only [k0_part102_eq_skeleton]; unfold k0_part102_skel
  simp only [semSignalWord, semWaitWord, Prog.lift, Prog.bind_op, Prog.bind_ret, Prog.pure_eq_ret, wp_deviceId]
  refine st_recv m c K KS 1 13 _ (by decide +kernel) ?_
  refine st_waitB m c K KS 1 12 _ (by decide +kernel) ?_
  refine st_ldcm m c K KS 1 1 13 _ (by decide +kernel) ?_
  refine st_ldw2b m c K KS (funext fun a => by fin_cases a <;> rfl) _ (by decide +kernel) ?_
  exact st_ret m c K KS _ _ h

theorem part103 (v2 v7 : BitVec 32) {Q : (Σ' (v2445 : FVec F S256x512 .f32), BitVec 32) → sProp 𝕄} (h : ∀ u1 : BitVec 32, St m c K KS g103 ⊢ Q ⟨(k0_pay93 (X m 13 (src c 2) 2) (w2v m c)), u1⟩) :
    St m c K KS g102 ⊢ run c (k0_part103 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v7 ((k0_pay92 (X m 13 (src c 1) 1) (w2v m c)))) Q := by
  simp only [k0_part103_eq_skeleton]; unfold k0_part103_skel
  simp only [semSignalWord, semWaitWord, Prog.lift, Prog.bind_op, Prog.bind_ret, Prog.pure_eq_ret, wp_deviceId]
  refine st_ldout m c K KS _ (fun _ => ?_)
  refine st_out m c K KS 29 1 7 _ (by decide +kernel) _ ((show ∀ c : Dev nD, k0_off4 c 6#32 512#32 = oOff c 1 7 by decide +kernel) c) (oval_copy m c 13 (by decide) 1) ?_
  refine st_recv m c K KS 2 13 _ (by decide +kernel) ?_
  refine st_waitB m c K KS 2 12 _ (by decide +kernel) ?_
  refine st_ldcm m c K KS 2 1 13 _ (by decide +kernel) ?_
  refine st_ldw2b m c K KS (funext fun a => by fin_cases a <;> rfl) _ (by decide +kernel) ?_
  exact st_ret m c K KS _ _ (h _)

theorem part104 (v2 v5 v2446 : BitVec 32) {Q : (Σ' (v2465 : BitVec 32), FVec F S256x512 .f32) → sProp 𝕄} (h : ∀ u0 : BitVec 32, St m c K KS g104 ⊢ Q ⟨u0, (k0_pay94 (X m 13 (src c 3) 3) (w2v m c))⟩) :
    St m c K KS g103 ⊢ run c (k0_part104 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 (k0_pay93 (X m 13 (src c 2) 2) (w2v m c)) v2446) Q := by
  simp only [k0_part104_eq_skeleton]; unfold k0_part104_skel
  simp only [semSignalWord, semWaitWord, Prog.lift, Prog.bind_op, Prog.bind_ret, Prog.pure_eq_ret, wp_deviceId]
  refine st_ldout m c K KS _ (fun _ => ?_)
  refine st_out m c K KS 30 2 7 _ (by decide +kernel) _ ((show ∀ c : Dev nD, k0_off5 c 6#32 256#32 = oOff c 2 7 by decide +kernel) c) (oval_copy m c 13 (by decide) 2) ?_
  refine st_recv m c K KS 3 13 _ (by decide +kernel) ?_
  refine st_waitB m c K KS 3 12 _ (by decide +kernel) ?_
  refine st_ldcm m c K KS 3 1 13 _ (by decide +kernel) ?_
  refine st_ldw2b m c K KS (funext fun a => by fin_cases a <;> rfl) _ (by decide +kernel) ?_
  exact st_ret m c K KS _ _ (h _)

end

end Cert.Ring
-- ==== Proof.Body.lean ====
/- The whole body of the kernel. -/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

set_option maxRecDepth 4000

section
variable (c : Dev nD) (K : Dev nD × Kd → ℕ) (KS : Key → ℕ)

theorem part105 {Q : (Σ' (d0 : Dev nD) (v2 : BitVec 32) (v5 : BitVec 32) (v7 : BitVec 32) (v29 : BitVec 32) (v31 : BitVec 32) (v34 : BitVec 32), Vec F S1x1x256x1024 .bf16) → sProp 𝕄}
    (h : ∀ u1 u2 u3 u4 u5 u6 : BitVec 32, St m c K KS g60 ⊢ Q ⟨c, u1, u2, u3, u4, u5, u6, (X m 7 c 1)⟩) :
    St m c K KS g0 ⊢ run c (k0_part105 xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) Q := by
  rw [k0_part105_eq_skeleton]; unfold k0_part105_skel
  refine st_bind m c K KS _ _ _ (part1 m c K KS (fun _ _ _ _ _ => ?_))
  refine st_bind m c K KS _ _ _ (part2 m c K KS _ _ (fun _ _ _ _ => ?_))
  refine st_bind m c K KS _ _ _ (part3 m c K KS _ ?_)
  refine st_bind m c K KS _ _ _ (part4 m c K KS _ _ (fun _ _ => ?_))
  refine st_bind m c K KS _ _ _ (part5 m c K KS _ _ ?_)
  refine st_bind m c K KS _ _ _ (part6 m c K KS _ ?_)
  refine st_bind m c K KS _ _ _ (part7 m c K KS _ (fun _ _ => ?_))
  refine st_bind m c K KS _ _ _ (part8 m c K KS _ _ _ ?_)
  refine st_bind m c K KS _ _ _ (part9 m c K KS _ _ ?_)
  refine st_bind m c K KS _ _ _ (part10 m c K KS _ _ (fun _ _ => ?_))
  refine st_bind m c K KS _ _ _ (part11 m c K KS _ _ _ _ (fun _ => ?_))
  refine st_bind m c K KS _ _ _ (part12 m c K KS _ _ _ ?_)
  refine st_bind m c K KS _ _ _ (part13 m c K KS _ _ _ (fun _ => ?_))
  refine st_bind m c K KS _ _ _ (part14 m c K KS _ _ ?_)
  refine st_bind m c K KS _ _ _ (part15 m c K KS _ ?_)
  refine st_bind m c K KS _ _ _ (part16 m c K KS _ _ ?_)
  refine st_bind m c K KS _ _ _ (part17 m c K KS _ ?_)
  refine st_bind m c K KS _ _ _ (part18 m c K KS _ _ ?_)
  refine st_bind m c K KS _ _ _ (part19 m c K KS _ _ ?_)
  refine st_bind m c K KS _ _ _ (part20 m c K KS _ ?_)
  refine st_bind m c K KS _ _ _ (part21 m c K KS _ _ _ (fun _ => ?_))
  refine st_bind m c K KS _ _ _ (part22 m c K KS _ _ ?_)
  refine st_bind m c K KS _ _ _ (part23 m c K KS _ ?_)
  refine st_bind m c K KS _ _ _ (part24 m c K KS _ _ ?_)
  refine st_bind m c K KS _ _ _ (part25 m c K KS _ ?_)
  refine st_bind m c K KS _ _ _ (part26 m c K KS _ _ ?_)
  refine st_bind m c K KS _ _ _ (part27 m c K KS _ _ ?_)
  refine st_bind m c K KS _ _ _ (part28 m c K KS _ ?_)
  refine st_bind m c K KS _ _ _ (part29 m c K KS _ _ _ (fun _ => ?_))
  refine st_bind m c K KS _ _ _ (part30 m c K KS _ _ ?_)
  refine st_bind m c K KS _ _ _ (part31 m c K KS _ ?_)
  refine st_bind m c K KS _ _ _ (part32 m c K KS _ _ ?_)
  refine st_bind m c K KS _ _ _ (part33 m c K KS _ ?_)
  refine st_bind m c K KS _ _ _ (part34 m c K KS _ _ ?_)
  refine st_bind m c K KS _ _ _ (part35 m c K KS _ _ ?_)
  refine st_bind m c K KS _ _ _ (part36 m c K KS _ ?_)
  refine st_bind m c K KS _ _ _ (part37 m c K KS _ _ _ (fun _ => ?_))
  refine st_bind m c K KS _ _ _ (part38 m c K KS _ _ ?_)
  refine st_bind m c K KS _ _ _ (part39 m c K KS _ ?_)
  refine st_bind m c K KS _ _ _ (part40 m c K KS _ _ ?_)
  refine st_bind m c K KS _ _ _ (part41 m c K KS _ ?_)
  refine st_bind m c K KS _ _ _ (part42 m c K KS _ _ ?_)
  refine st_bind m c K KS _ _ _ (part43 m c K KS _ _ ?_)
  refine st_bind m c K KS _ _ _ (part44 m c K KS _ ?_)
  refine st_bind m c K KS _ _ _ (part45 m c K KS _ _ _ (fun _ => ?_))
  refine st_bind m c K KS _ _ _ (part46 m c K KS _ _ ?_)
  refine st_bind m c K KS _ _ _ (part47 m c K KS _ ?_)
  refine st_bind m c K KS _ _ _ (part48 m c K KS _ _ ?_)
  refine st_bind m c K KS _ _ _ (part49 m c K KS _ ?_)
  refine st_bind m c K KS _ _ _ (part50 m c K KS _ _ ?_)
  refine st_bind m c K KS _ _ _ (part51 m c K KS _ _ ?_)
  refine st_bind m c K KS _ _ _ (part52 m c K KS _ ?_)
  refine st_bind m c K KS _ _ _ (part53 m c K KS _ _ ?_)
  refine st_bind m c K KS _ _ _ (part54 m c K KS _ ?_)
  refine st_bind m c K KS _ _ _ (part55 m c K KS _ ?_)
  refine st_bind m c K KS _ _ _ (part56 m c K KS _ ?_)
  refine st_bind m c K KS _ _ _ (part57 m c K KS _ _ ?_)
  refine st_bind m c K KS _ _ _ (part58 m c K KS _ ?_)
  refine st_bind m c K KS _ _ _ (part59 m c K KS _ ?_)
  refine st_bind m c K KS _ _ _ (part60 m c K KS _ _ ?_)
  exact st_ret m c K KS _ _ (h _ _ _ _ _ _)

/-- The body of the kernel on device `c`, from its first state to its last. -/
theorem body {Q : PUnit → sProp 𝕄} (h : St m c K KS g105 ⊢ Q ⟨⟩) :
    St m c K KS g0 ⊢ run c (cc0_body xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) Q := by
  rw [cc0_body_eq_skeleton]; unfold cc0_body_skel
  refine st_bind m c K KS _ _ _ (part105 m c K KS (fun _ _ _ _ _ _ => ?_))
  refine st_bind m c K KS _ _ _ (part61 m c K KS _ _ ?_)
  refine st_bind m c K KS _ _ _ (part62 m c K KS _ _ ?_)
  refine st_bind m c K KS _ _ _ (part63 m c K KS _ _ ?_)
  refine st_bind m c K KS _ _ _ (part64 m c K KS _ _ _ ?_)
  refine st_bind m c K KS _ _ _ (part65 m c K KS _ _ (fun _ => ?_))
  refine st_bind m c K KS _ _ _ (part66 m c K KS _ _ ?_)
  refine st_bind m c K KS _ _ _ (part67 m c K KS _ _ _ ?_)
  refine st_bind m c K KS _ _ _ (part68 m c K KS _ _ (fun _ => ?_))
  refine st_bind m c K KS _ _ _ (part69 m c K KS _ _ _ ?_)
  refine st_bind m c K KS _ _ _ (part70 m c K KS _ _ _ (fun _ => ?_))
  refine st_bind m c K KS _ _ _ (part71 m c K KS _ _ _ ?_)
  refine st_bind m c K KS _ _ _ (part72 m c K KS _ _ ?_)
  refine st_bind m c K KS _ _ _ (part73 m c K KS _ _ _ ?_)
  refine st_bind m c K KS _ _ _ (part74 m c K KS _ _ ?_)
  refine st_bind m c K KS _ _ _ (part75 m c K KS _ _ ?_)
  refine st_bind m c K KS _ _ _ (part76 m c K KS _ _ _ (fun _ => ?_))
  refine st_bind m c K KS _ _ _ (part77 m c K KS _ _ _ ?_)
  refine st_bind m c K KS _ _ _ (part78 m c K KS _ _ _ ?_)
  refine st_bind m c K KS _ _ _ (part79 m c K KS _ _ _ (fun _ _ => ?_))
  refine st_bind m c K KS _ _ _ (part80 m c K KS _ _ _ ?_)
  refine st_bind m c K KS _ _ _ (part81 m c K KS _ _ _ ?_)
  refine st_bind m c K KS _ _ _ (part82 m c K KS _ _ ?_)
  refine st_bind m c K KS _ _ _ (part83 m c K KS _ _ ?_)
  refine st_bind m c K KS _ _ _ (part84 m c K KS _ _ _ (fun _ => ?_))
  refine st_bind m c K KS _ _ _ (part85 m c K KS _ _ _ ?_)
  refine st_bind m c K KS _ _ _ (part86 m c K KS _ _ _ ?_)
  refine st_bind m c K KS _ _ _ (part87 m c K KS _ _ _ (fun _ => ?_))
  refine st_bind m c K KS _ _ _ (part88 m c K KS _ _ _ ?_)
  refine st_bind m c K KS _ _ _ (part89 m c K KS _ _ _ (fun _ => ?_))
  refine st_bind m c K KS _ _ _ (part90 m c K KS _ _ _ ?_)
  refine st_bind m c K KS _ _ _ (part91 m c K KS _ _ ?_)
  refine st_bind m c K KS _ _ _ (part92 m c K KS _ _ _ ?_)
  refine st_bind m c K KS _ _ _ (part93 m c K KS _ _ ?_)
  refine st_bind m c K KS _ _ _ (part94 m c K KS _ _ ?_)
  refine st_bind m c K KS _ _ _ (part95 m c K KS _ _ _ (fun _ => ?_))
  refine st_bind m c K KS _ _ _ (part96 m c K KS _ _ _ ?_)
  refine st_bind m c K KS _ _ _ (part97 m c K KS _ _ _ ?_)
  refine st_bind m c K KS _ _ _ (part98 m c K KS _ _ _ (fun _ _ => ?_))
  refine st_bind m c K KS _ _ _ (part99 m c K KS _ _ _ ?_)
  refine st_bind m c K KS _ _ _ (part100 m c K KS _ _ _ ?_)
  refine st_bind m c K KS _ _ _ (part101 m c K KS _ _ ?_)
  refine st_bind m c K KS _ _ _ (part102 m c K KS _ _ ?_)
  refine st_bind m c K KS _ _ _ (part103 m c K KS _ _ (fun _ => ?_))
  refine st_bind m c K KS _ _ _ (part104 m c K KS _ _ _ (fun _ => ?_))
  simp only [Prog.lift, Prog.bind_op, Prog.bind_ret, Prog.pure_eq_ret]
  refine st_ldout m c K KS _ (fun _ => ?_)
  refine st_out m c K KS 31 3 7 _ (by decide +kernel) _ ((show ∀ c : Dev nD, k0_off4 c 6#32 768#32 = oOff c 3 7 by decide +kernel) c) (oval_copy m c 13 (by decide) 3) ?_
  exact st_ret m c K KS _ _ h

end

end Cert.Ring
-- ==== Proof.Run.lean ====
/- The run of the kernel on all devices. -/
module

public import proofs.«01_k».proof.Proof.Finish
public import proofs.«01_k».proof.Proof.Body
public import proofs.«01_k».proof.Proof.Gen.KernelIdeal.Points
public import Idealize.ShloMosaic.Lib.Pipeline.CollectiveSegs
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : Mem F)

/-! ## The result, index by index -/

/-- The flow that computes row `r` of the result, and the number of the block that holds it. -/
def oF (r : ℕ) : Fin 4 := fl4 (r / 512 % 2 + 2 * (r / 256 % 2))
def oJ (c : Dev nD) (r : ℕ) : ℕ := if r / 512 % 2 = 0 then (c.val + 9 - r / 1024) % 8 else (r / 1024 + 9 - c.val) % 8
/-- The place of an index of the result inside its block. -/
def oIn (i : S8192x512.Idx) : S256x512.Idx := fun a => match a with
  | 0 => ⟨(i 0).val % 256, Nat.mod_lt _ (by decide)⟩
  | 1 => i 1
/-- The result on device `c`. -/
def outC (c : Dev nD) : S8192x512.Idx → Elt F .f32 := fun i => oval m c (oF (i 0).val) (oJ c (i 0).val) (oIn i)

theorem oJ_lt (c : Dev nD) (r : ℕ) : oJ c r < 8 := by unfold oJ; split <;> exact Nat.mod_lt _ (by decide)
theorem oF_di (r : ℕ) : (di (oF r)).val = r / 512 % 2 := by
  have h1 : r / 512 % 2 < 2 := Nat.mod_lt _ (by decide)
  have h2 : r / 256 % 2 < 2 := Nat.mod_lt _ (by decide)
  unfold oF
  exact (show ∀ a b : Fin 2, (di (fl4 (a.val + 2 * b.val))).val = a.val by decide) ⟨_, h1⟩ ⟨_, h2⟩
theorem oF_sub (r : ℕ) : (sub (oF r)).val = r / 256 % 2 := by
  have h1 : r / 512 % 2 < 2 := Nat.mod_lt _ (by decide)
  have h2 : r / 256 % 2 < 2 := Nat.mod_lt _ (by decide)
  unfold oF
  exact (show ∀ a b : Fin 2, (sub (fl4 (a.val + 2 * b.val))).val = b.val by decide) ⟨_, h1⟩ ⟨_, h2⟩
theorem oF_chk (c : Dev nD) (r : ℕ) (hr : r < 8192) : ochk c (oF r) (oJ c r) = r / 1024 := by
  have hd := oF_di r
  have hc : c.val < 8 := c.isLt
  unfold ochk oJ
  split
  · rename_i h; rw [h] at hd
    have hd' : r / 512 % 2 = 0 := hd.symm
    rw [if_pos hd']; omega
  · rename_i h; rw [h] at hd
    have hd' : r / 512 % 2 = 1 := hd.symm
    rw [if_neg (by omega)]; omega

theorem oRd_emb (c : Dev nD) (i : S8192x512.Idx) : (oRd c (oF (i 0).val) (oJ c (i 0).val)).emb (oIn i) = i := by
  have hr : (i 0).val < 8192 := (i 0).isLt
  have h := oF_chk c _ hr
  have h1 := oF_di (i 0).val
  have h2 := oF_sub (i 0).val
  funext a
  apply Fin.ext
  fin_cases a
  · show 1024 * ochk c (oF (i 0).val) (oJ c (i 0).val) + 512 * (di (oF (i 0).val)).val + 256 * (sub (oF (i 0).val)).val + 1 * ((i 0).val % 256) = (i 0).val
    rw [h, h1, h2]; omega
  · show 0 + 1 * (i 1).val = (i 1).val
    omega

theorem outC_of (c : Dev nD) (g : Buf (Elt F) (oA.view.loc (c : Thread nD τ))) (h : OutOk m c 32 g) : g = outC m c := by
  funext i
  have hj := oJ_lt c (i 0).val
  have hf := (oF (i 0).val).isLt
  have hn : fl4 ((oF (i 0).val).val + 4 * oJ c (i 0).val) = oF (i 0).val := by
    apply Fin.ext; show ((oF (i 0).val).val + 4 * oJ c (i 0).val) % 4 = _; omega
  have hq : ((oF (i 0).val).val + 4 * oJ c (i 0).val) / 4 = oJ c (i 0).val := by omega
  have e := h ((oF (i 0).val).val + 4 * oJ c (i 0).val) (by omega)
  rw [hn, hq] at e
  have e2 := congrFun e (oIn i)
  show g i = oval m c (oF (i 0).val) (oJ c (i 0).val) (oIn i)
  rw [← e2]
  show g i = g ((oRd c (oF (i 0).val) (oJ c (i 0).val)).emb (oIn i))
  rw [oRd_emb]

theorem blk2_emb (x : S8192x512.Idx) : (win0_2.blk (0 : Fin 1)).view.emb x = x := by
  funext a
  apply Fin.ext
  fin_cases a
  · show 0 * 8192 + 1 * (x 0).val = (x 0).val; omega
  · show 0 * 512 + 1 * (x 1).val = (x 1).val; omega
theorem blk0_emb (x : S1024x1024.Idx) : (win0_0.blk (0 : Fin 1)).view.emb x = x := by
  funext a
  apply Fin.ext
  fin_cases a
  · show 0 * 1024 + 1 * (x 0).val = (x 0).val; omega
  · show 0 * 1024 + 1 * (x 1).val = (x 1).val; omega
theorem blk1_emb (x : S1024x512.Idx) : (win0_1.blk (0 : Fin 1)).view.emb x = x := by
  funext a
  apply Fin.ext
  fin_cases a
  · show 0 * 1024 + 1 * (x 0).val = (x 0).val; omega
  · show 0 * 512 + 1 * (x 1).val = (x 1).val; omega
theorem w1in_eq (c : Dev nD) : w1in m c = m ((c : Thread nD τ).loc main_arg1) := by
  funext x
  show m ((c : Thread nD τ).loc main_arg1) ((win0_0.blk (0 : Fin 1)).view.emb x) = _
  rw [blk0_emb]
theorem w2in_eq (c : Dev nD) : w2in m c = m ((c : Thread nD τ).loc main_arg2) := by
  funext x
  show m ((c : Thread nD τ).loc main_arg2) ((win0_1.blk (0 : Fin 1)).view.emb x) = _
  rw [blk1_emb]

/-! ## The data of the launch -/

def Φ₀ (c : Dev nD) : sProp 𝕄 := iprop(start m c ∗ bufs c)
def Φ₁ (c : Dev nD) : sProp 𝕄 := iprop(xPts m c ∗ bufs c ∗ (bigSep Finset.univ fun k : Kd => semVal (cell c k) 0))

def dats (_ : Fin 1) (c : Dev nD) : Pipeline.Dat τ (Elt F) ℕ ℕ UU ℕ cfg0 c where
  A w := m ((cfg0.win w).arr.view.loc (c : Thread nD τ))
  after w _ := match w with
    | ⟨0, _⟩ => w1in m c
    | ⟨1, _⟩ => w2in m c
    | ⟨2, _⟩ => outC m c
  Φ t := match t with
    | ⟨0, _⟩ => Φ₀ m c
    | ⟨_ + 1, _⟩ => Φ₁ m c
  q _ := fullShare
  owed t := match t with
    | ⟨0, _⟩ => owedFrom c 0
    | ⟨_ + 1, _⟩ => 0

theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt 0 t0_0.succ ∗ stg c cc0_stg0_0 (w1in m c) ∗ stg c cc0_stg1_0 (w2in m c) ∗ stg c cc0_stg2_0 (outC m c))

theorem post_of (c : Dev nD) : done m c ⊢ bodyPost m c := by
  unfold done bodyPost Φ₁ Pipeline.Dat.owesAt Pipeline.owesWithin
  rw [show (dats m 0 c).owed t0_0.succ = 0 from rfl, owedFrom_end]
  iintro ⟨Hx, Hb, Hk, Hw1, Hw2, ⟨%g, %hg, Ho⟩, ⟨%W, HO⟩⟩
  isplitl [Hx Hb Hk]
  · isplitl [Hx]; · iexact Hx
    isplitl [Hb]; · iexact Hb
    iexact Hk
  isplitl [HO]
  · iexists W
    isplitr; · ipureintro; exact fun _ _ => Or.inl trivial
    iexact HO
  isplitl [Hw1]
  · iexists _; isplitr; · (ipureintro; rfl)
    iexact Hw1
  isplitl [Hw2]
  · iexists _; isplitr; · (ipureintro; rfl)
    iexact Hw2
  iexists g; isplitr; · (ipureintro; exact outC_of m c g hg)
  iexact Ho

theorem sound (c : Dev nD) : bodyPre m c ⊢ run c (cc0_body xA (Memref.isWhole_whole _) w1A (Memref.isWhole_whole _) w2A (Memref.isWhole_whole _) oA (Memref.isWhole_whole _) xbA (Memref.isWhole_whole _) ptA (Memref.isWhole_whole _) sbA (Memref.isWhole_whole _) cmA (Memref.isWhole_whole _) w1bA (Memref.isWhole_whole _) w2bA (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) (fun _ => bodyPost m c) := by
  unfold bodyPre Φ₀ start G'
  iintro ⟨⟨⟨⟨%K, %KS, HG, Hl⟩, Hcr, Hlev, Hx⟩, Hb⟩, HO, ⟨%d0, %g0, %h0, Hw1⟩, ⟨%d1, %g1, %h1, Hw2⟩, ⟨%d2, %g2, -, Ho⟩⟩
  have e0 : g0 = w1in m c := by rw [h0]; unfold Pipeline.Dat.before; rw [if_pos (fetch0_0 t0_0)]; rfl
  have e1 : g1 = w2in m c := by rw [h1]; unfold Pipeline.Dat.before; rw [if_pos (fetch0_1 t0_0)]; rfl
  subst e0
  subst e1
  unfold Pipeline.Dat.owesAt Pipeline.owesWithin
  rw [show (dats m 0 c).owed t0_0.castSucc = owedFrom c 0 from rfl]
  icases HO with ⟨%W, -, HO⟩
  imod (st_start m c K KS W) $$ [HG Hl Hcr Hlev Hx Hb Hw1 Hw2 Ho HO] with HS
  · isplitl [HG]; · iexact HG
    isplitl [Hl]; · iexact Hl
    isplitl [Hcr]; · iexact Hcr
    isplitl [Hlev]; · iexact Hlev
    isplitl [Hx]; · iexact Hx
    isplitl [Hb]; · iexact Hb
    isplitl [Hw1]; · iexact Hw1
    isplitl [Hw2]; · iexact Hw2
    isplitl [Ho]; · iexists g2; iexact Ho
    iexists W; iexact HO
  iapply (wp_fupd (Q := fun _ => bodyPost m c) _)
  iapply (body m c K KS (Q := fun _ => iprop(|={Set.univ}=> bodyPost m c)) ((st_end m c K KS).trans (BI.fupd_mono (post_of m c))))
  iexact HS

set_option maxRecDepth 100000 in
theorem body_obligation (c : Dev nD) : Pipeline.BodyObligation (dats m 0 c) (defs₀ (F := F)) 𝒱₀ 0 Set.univ := fun t => by
  rw [fin_N0 t]
  rw [bigSep_W0, bigSep_W0]
  simp only [owns_whole_eq]
  exact sound m c

/-! ## The launch -/

theorem share_eq (c : Dev nD) (w : Fin cfg0.W) : (dats m 0 c).share w = fullShare := by unfold Pipeline.Dat.share; split <;> rfl

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hb⟩
  isplitl [Hs]; · iexact Hs
  iexact Hb

/-- What is left of a device's state beside its semaphores and buffers. -/
def rest (c : Dev nD) : sProp 𝕄 := iprop(unscopedSems0 c ∗ xPts m c)

theorem phi1_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = Φ₁ m c from rfl, scopedRest0_eq]
  unfold Φ₁ rest bufs
  rw [unscopedSems0_eq, sems0_eq]
  iintro ⟨Hx, Hb, HB, Hk⟩
  isplitl [Hx HB]
  · isplitl [HB]; · iexact HB
    iexact Hx
  isplitl [Hk]; · iexact Hk
  iexact Hb

theorem waits (c : Dev nD) : (levAts L lv : sProp 𝕄) ⊢ Pipeline.cellsWaits cfgs (dats m) 0 0 c :=
  Pipeline.cellsWaits_intro cfgs (dats m) 0 0 c fun w s t => by
    rcases t with ⟨_ | n, ht⟩
    · exact mayWait c 0 _ 0 (by decide) (by decide)
    · show _ ⊢ MayWait (c : Thread nD τ) _ 0 0
      rw [← owedFrom_end c]
      exact mayWait c 106 _ 0 (by decide) (by decide)

/-! ## The run -/

def s₀ : MemSt nD τ sig (Elt F) := ⟨m, fun _ => 0, ρ⟩

theorem arr_out (c : Dev nD) : (dats m 0 c).arrAt (2 : Fin 3) cfg0.N = outC m c :=
  Pipeline.Dat.arrAt_eq_of_cover (dats m 0 c) (2 : Fin 3) (outC m c)
    (fun t _ => by
      rw [fin_N0 t]
      funext x
      show outC m c _ = outC m c ((win0_2.blk (0 : Fin 1)).view.emb x)
      rw [blk2_emb])
    (fun i => ⟨t0_0, flush0_2 _, by
      have h := ((cfg0.win (2 : Fin 3)).blk t0_0).view.emb_mem_set i
      rwa [show ((cfg0.win (2 : Fin 3)).blk t0_0).view.emb i = i from blk2_emb i] at h⟩)

set_option maxRecDepth 100000 in
/-- From any memory with zero counters every fair execution terminates; at the end each device's result holds `outC`,
    its arguments are unchanged and every semaphore counter is at zero. -/
theorem run_main : θ_run defs (onTc (τ := τ) (main (F := F))) (s₀ m ρ) (fun r =>
    (∀ c : Dev nD, r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owedFrom d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold rest
      iintro ⟨⟨Hu, Hx⟩, -, HSI⟩
      ihave %hx := (SI_pointsTo_agree (st := s') (ℓ := (c : Thread nD τ).loc main_arg0) (I := Finset.univ) (q := fullShare)
        (f := (xin m c : Buf (Elt F) ((c : Thread nD τ).loc main_arg0)))) $$ [HSI Hx]
      · isplitl [HSI]; · iexact HSI
        iexact Hx
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hx i (Finset.mem_univ i)⟩
      iexact HSI)
    (hQ := fun s h hs => ⟨fun c => ⟨((h c).1 (2 : Fin 3)).trans (arr_out m c), (h c).2.2.2,
      ((h c).1 (0 : Fin 3)).trans ((dats m 0 c).arrAt_in (0 : Fin 3) rfl _),
      ((h c).1 (1 : Fin 3)).trans ((dats m 0 c).arrAt_in (1 : Fin 3) rfl _)⟩, sem_eq_zero hs fun c => (h c).2.2.1⟩)

end Cert.Ring
-- ==== Proof.Frames.lean ====
/- What the launch theorem says of each program: its arguments are kept and its counters end at zero. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Ring

open Idealize.ShloMosaic Idealize.ShloMosaic.TcCoe Idealize.SL.Sem

attribute [local instance] Cert.Kernel.Gen.facts Cert.KernelIdeal.Gen.facts Cert.ReferenceIdeal.Gen.facts

/-- The two programs have one table of bodies. -/
theorem bodies_eq : (Cert.Kernel.defs₀ : Defs _ _ _ (Elt Bits) _) = (Cert.KernelIdeal.defs₀ : Defs _ _ _ (Elt Bits) _) :=
  congrArg Defs.onTc (by
    funext l x
    rcases l with ⟨_ | n, hl⟩
    · rfl
    · exact absurd hl (Nat.not_lt.2 (Nat.le_add_left _ _)))
theorem defs_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  have h : θ_run Cert.KernelIdeal.defs (onTc (τ := Cert.KernelIdeal.τ) (Cert.KernelIdeal.main (F := Bits))) (s₀ m ρ) (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2))
      ∧ r.2.sem = fun _ => 0) :=
    (θ_run Cert.KernelIdeal.defs _ _).mono (fun _ h => ⟨fun c => (h.1 c).2, h.2⟩) (run_main (F := Bits) m ρ)
  exact Eq.mpr (congrArg (fun D => θ_run D (onTc (τ := Cert.KernelIdeal.τ) (Cert.KernelIdeal.main (F := Bits))) (s₀ m ρ) _) defs_eq) h

theorem frame_ideal : Cert.quiescent_KernelIdeal := fun m ρ _ =>
  (θ_run Cert.KernelIdeal.defs _ _).mono (fun _ h => ⟨fun c => (h.1 c).2, h.2⟩) (run_main (F := Ideal) m ρ)

/-- The reference is a sequence of host operations over a program without semaphores. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Ring
-- ==== Proof.Value.lean ====
/- The result of the kernel over the extended reals, as a sum over all devices. -/
module

public import proofs.«01_k».proof.Proof.Run
public import Idealize.ShloMosaic.Lib.MatmulPlain
public import Idealize.ShloMosaic.Lib.Pipeline.Value

@[expose] public section

noncomputable section

namespace Cert.Ring

open Cert.KernelIdeal Cert.KernelIdeal.Gen
open Idealize.ShloMosaic Idealize.ShloMosaic.TcCoe Idealize.ShloMosaic.ValueIdx
open scoped BigOperators

variable (m : Mem Ideal)

/-! ## One device's product -/

/-- The blocks that a device holds, as arrays of extended reals. -/
def xR (e : Dev nD) : S8192x1024.Idx → EReal := xin m e
def w1R (e : Dev nD) : S1024x1024.Idx → EReal := w1in m e
def w2R (e : Dev nD) : S1024x512.Idx → EReal := w2in m e

/-- Row `r`, column `n` of the product of device `e`'s block of the argument with its block of the first weights. -/
def prod (e : Dev nD) (r : Fin 8192) (n : Fin 1024) : EReal :=
  ∑ k : Fin 1024, xR m e (ix2 r k) * w1R m e (ix2 k n)

/-- The row of the argument that is row `q` of the half `h` of the block in direction `d` of chunk `k`. -/
def rowOf (k : ℕ) (hk : k < 8) (d h : Fin 2) (q : Fin 256) : Fin 8192 :=
  ⟨1024 * k + 512 * d.val + 256 * h.val + q.val, by have := d.isLt; have := h.isLt; have := q.isLt; omega⟩

theorem w1v_eq (c : Dev nD) : (w1v m c : S1024x1024.Idx → EReal) = w1R m c := by
  unfold w1v k0_pay1
  refine (shapeCast_self _ _).trans ?_
  exact shapeCast_self (w1R m c) _
theorem w2v_eq (c : Dev nD) : (w2v m c : S1024x512.Idx → EReal) = w2R m c := by
  unfold w2v k0_pay2
  refine (shapeCast_self _ _).trans ?_
  exact shapeCast_self (w2R m c) _
theorem xblk_cast (c : Dev nD) (d : Fin 2) (s : ℕ) (h : S1x1x512x1024.ShapeCasts S512x1024) :
    shapeCast S512x1024 (xblk m c d s) h = xch m c d s :=
  funext fun i => congrArg (xch m c d s) ((Shape.reshapeEquiv rank4.symm).symm_apply_apply i)

theorem dotA_eq : dot_S512x1024_S1024x1024_S512x1024_1_0_0_1_n_n = DotDims.plain 512 1024 1024 := rfl
theorem dotB_eq : dot_S256x1024_S1024x512_S256x512_1_0_0_1_n_n = DotDims.plain 256 1024 512 := rfl

/-- A load's product before it is laid out: rows by columns. -/
def mat (c : Dev nD) (d : Fin 2) (s : ℕ) : S512x1024.Idx → EReal :=
  matmul (F := Ideal) (φ₁ := .bf16) (φ₂ := .bf16) dot_S512x1024_S1024x1024_S512x1024_1_0_0_1_n_n none (xch m c d s : FVec Ideal S512x1024 .bf16) (w1v m c)
    (constant S512x1024 .f32 0x00000000#32)

theorem part_eq (c : Dev nD) (d : Fin 2) (s : ℕ) : part m c d s = shapeCast S1x512x1024 (mat m c d s) shapeCasts_S512x1024_S1x512x1024 := by
  unfold part k0_pay3 mat
  rw [xblk_cast]
  rfl

theorem mat_apply (c : Dev nD) (d : Fin 2) (s : ℕ) (q : Fin 512) (n : Fin 1024) (r : Fin 8192)
    (hr : r.val = 1024 * chk c d s + 512 * d.val + q.val) : mat m c d s (ix2 q n) = prod m c r n := by
  unfold mat prod
  rw [dotA_eq, w1v_eq]
  refine (Ideal.matmul_plain_apply (M := 512) (K := 1024) (N := 1024) none _ _ _ q n).trans ?_
  rw [show (constant (F := Ideal) S512x1024 .f32 0x00000000#32) (ix2 q n) = (0 : EReal) from Ideal.ofBits_zero_f32, zero_add]
  refine Finset.sum_congr rfl fun k _ => ?_
  have e : (xRd c d s).emb (ix2 q k) = ix2 r k := by
    funext a
    apply Fin.ext
    match a with
    | ⟨0, _⟩ => show 1024 * chk c d s + 512 * d.val + 1 * q.val = r.val; omega
    | ⟨1, _⟩ => show 0 + 1 * k.val = k.val; omega
  show xR m c ((xRd c d s).emb (ix2 q k)) * _ = _
  rw [e]

theorem half_apply (c : Dev nD) (d h : Fin 2) (s : ℕ) (q : Fin 256) (n : Fin 1024) :
    shapeCast S256x1024 (half (part m c d s) h) shapeCasts_S1x256x1024_S256x1024 (ix2 q n)
      = prod m c (rowOf (chk c d s) (chk_lt c d s) d h q) n := by
  have hq := q.isLt
  have hh := h.isLt
  refine (shapeCast_dropUnit_apply (n := 2) ![256, 1024] (half (part m c d s) h) shapeCasts_S1x256x1024_S256x1024 (ix2 q n)).trans ?_
  unfold half
  rw [part_eq]
  refine (shapeCast_addUnit_apply (n := 2) ![512, 1024] (mat m c d s) shapeCasts_S512x1024_S1x512x1024 _).trans ?_
  rw [← mat_apply m c d s ⟨256 * h.val + q.val, by omega⟩ n (rowOf (chk c d s) (chk_lt c d s) d h q) (by
    show 1024 * chk c d s + 512 * d.val + 256 * h.val + q.val = 1024 * chk c d s + 512 * d.val + (256 * h.val + q.val); omega)]
  refine congrArg (mat m c d s) ?_
  funext a
  apply Fin.ext
  match a with
  | ⟨0, _⟩ => show 256 * h.val + 1 * q.val = 256 * h.val + q.val; omega
  | ⟨1, _⟩ => show 0 + 1 * n.val = n.val; omega

/-! ## The sums on their way around the ring -/

/-- A block without its axes of length one. -/
abbrev flat (Z : S1x1x256x1024.Idx → EReal) : S256x1024.Idx → EReal := shapeCast S256x1024 Z shapeCasts_S1x1x256x1024_S256x1024

theorem flat_first (v : S1x256x1024.Idx → EReal) :
    flat (k0_pay4 (F := Ideal) v) = shapeCast S256x1024 v shapeCasts_S1x256x1024_S256x1024 := by
  unfold k0_pay4 flat
  exact shapeCast_shapeCast _ _ _
theorem flat_next (Z : S1x1x256x1024.Idx → EReal) (v : S1x256x1024.Idx → EReal) :
    flat (k0_pay12 (F := Ideal) Z v) = fun i => flat Z i + shapeCast S256x1024 v shapeCasts_S1x256x1024_S256x1024 i := by
  unfold k0_pay12 flat
  exact shapeCast_shapeCast _ _ _

/-- The device `i` places up the flow: it is numbered like the chunk of step `i`. -/
def up (c : Dev nD) (d : Fin 2) (i : ℕ) : Dev nD := ⟨chk c d i, chk_lt c d i⟩

theorem prv_val (c : Dev nD) : (prv c).val = (c.val + 7) % 8 := (show ∀ c : Dev nD, (prv c).val = (c.val + 7) % 8 by decide +kernel) c
theorem nxt_val (c : Dev nD) : (nxt c).val = (c.val + 1) % 8 := (show ∀ c : Dev nD, (nxt c).val = (c.val + 1) % 8 by decide +kernel) c
theorem chk_src (c : Dev nD) (f : Fin 4) (s : ℕ) : chk (src c f) (di f) s = chk c (di f) (s + 1) := by
  unfold chk src
  have h1 := prv_val c
  have h2 := nxt_val c
  rcases (show ∀ d : Fin 2, d = 0 ∨ d = 1 by decide) (di f) with h | h
  · rw [h]
    show ((prv c).val + 7 * s) % 8 = (c.val + 7 * (s + 1)) % 8
    rw [h1]; omega
  · rw [h]
    show ((nxt c).val + s) % 8 = (c.val + (s + 1)) % 8
    rw [h2]; omega
theorem up_src (c : Dev nD) (f : Fin 4) (s : ℕ) : up (src c f) (di f) s = up c (di f) (s + 1) := Fin.ext (chk_src c f s)
theorem up_zero (c : Dev nD) (d : Fin 2) : up c d 0 = c := by
  have hc : c.val < 8 := c.isLt
  apply Fin.ext
  show chk c d 0 = c.val
  unfold chk
  split <;> omega

theorem rowOf_congr {k k' : ℕ} (e : k = k') (hk : k < 8) (hk' : k' < 8) (d h : Fin 2) (q : Fin 256) : rowOf k hk d h q = rowOf k' hk' d h q := by
  subst e; rfl

/-- Up to transfer number 7 what a flow carries is the sum of the products of the devices it has passed. -/
theorem X_apply (s : ℕ) (hs : s ≤ 7) (c : Dev nD) (f : Fin 4) (q : Fin 256) (n : Fin 1024) :
    flat (X m s c f) (ix2 q n)
      = ∑ i ∈ Finset.range (s + 1), prod m (up c (di f) i) (rowOf (chk c (di f) s) (chk_lt c (di f) s) (di f) (sub f) q) n := by
  induction s generalizing c with
  | zero =>
    rw [X_zero, flat_first, half_apply, Finset.sum_range_one, up_zero]
  | succ s ih =>
    rw [X_sum m s (by omega), flat_next]
    show flat (X m s (src c f) f) (ix2 q n) + shapeCast S256x1024 (half (part m c (di f) (s + 1)) (sub f)) shapeCasts_S1x256x1024_S256x1024 (ix2 q n) = _
    rw [ih (by omega), half_apply, Finset.sum_range_succ' _ (s + 1), up_zero]
    refine congrArg (· + _) (Finset.sum_congr rfl fun i _ => ?_)
    rw [up_src, rowOf_congr (chk_src c f s)]

theorem up_bij (c : Dev nD) (d : Fin 2) : Function.Bijective (fun i : Fin 8 => up c d i.val) := by
  refine Finite.injective_iff_bijective.mp fun i j h => ?_
  have h' : chk c d i.val = chk c d j.val := congrArg Fin.val h
  have hi := i.isLt
  have hj := j.isLt
  apply Fin.ext
  unfold chk at h'
  split at h' <;> omega

/-- The whole sum. -/
def total (r : Fin 8192) (n : Fin 1024) : EReal := ∑ e : Dev nD, prod m e r n

theorem X_seven (c : Dev nD) (f : Fin 4) (q : Fin 256) (n : Fin 1024) :
    flat (X m 7 c f) (ix2 q n) = total m (rowOf (chk c (di f) 7) (chk_lt c (di f) 7) (di f) (sub f) q) n := by
  rw [X_apply m 7 (le_refl _), Finset.sum_range]
  exact (up_bij c (di f)).sum_comp (fun e => prod m e (rowOf (chk c (di f) 7) (chk_lt c (di f) 7) (di f) (sub f) q) n)

/-- After that it carries the finished sums, each of the chunk that was finished `j` places up the flow. -/
theorem X_late (j : ℕ) (c : Dev nD) (f : Fin 4) (q : Fin 256) (n : Fin 1024) :
    flat (X m (7 + j) c f) (ix2 q n) = total m (rowOf (chk c (di f) (7 + j)) (chk_lt c (di f) (7 + j)) (di f) (sub f) q) n := by
  induction j generalizing c with
  | zero => exact X_seven m c f q n
  | succ j ih =>
    rw [show 7 + (j + 1) = (7 + j) + 1 from rfl, X_copy m (7 + j) (by omega), ih, rowOf_congr (chk_src c f (7 + j))]

theorem ochk_chk (c : Dev nD) (f : Fin 4) (j : ℕ) : ochk c f j = chk c (di f) (7 + j) := by
  unfold ochk chk
  split <;> omega

/-! ## The result -/

theorem oval_apply (c : Dev nD) (f : Fin 4) (j : ℕ) (q : Fin 256) (n : Fin 512) :
    (oval m c f j (ix2 q n) : EReal)
      = ∑ k : Fin 1024, total m (rowOf (chk c (di f) (7 + j)) (chk_lt c (di f) (7 + j)) (di f) (sub f) q) k * w2R m c (ix2 k n) := by
  unfold oval k0_pay62
  rw [dotB_eq, w2v_eq]
  refine (Ideal.matmul_plain_apply (M := 256) (K := 1024) (N := 512) none _ _ _ q n).trans ?_
  rw [show (constant (F := Ideal) S256x512 .f32 0x00000000#32) (ix2 q n) = (0 : EReal) from Ideal.ofBits_zero_f32, zero_add]
  refine Finset.sum_congr rfl fun k _ => ?_
  exact congrArg (· * _) (X_late m j c f q k)

theorem outC_apply (c : Dev nD) (r : Fin 8192) (n : Fin 512) :
    (outC m c (ix2 r n) : EReal) = ∑ k : Fin 1024, total m r k * w2R m c (ix2 k n) := by
  have e := oRd_emb c (ix2 r n)
  have e0 := congrArg Fin.val (congrFun e 0)
  have e1 : 1024 * ochk c (oF r.val) (oJ c r.val) + 512 * (di (oF r.val)).val + 256 * (sub (oF r.val)).val + 1 * (r.val % 256) = r.val := e0
  have er : rowOf (chk c (di (oF r.val)) (7 + oJ c r.val)) (chk_lt c (di (oF r.val)) (7 + oJ c r.val)) (di (oF r.val)) (sub (oF r.val))
      ⟨r.val % 256, Nat.mod_lt _ (by decide)⟩ = r := by
    apply Fin.ext
    show 1024 * chk c (di (oF r.val)) (7 + oJ c r.val) + 512 * (di (oF r.val)).val + 256 * (sub (oF r.val)).val + r.val % 256 = r.val
    rw [← ochk_chk]; omega
  have hi : oIn (ix2 r n) = ix2 (⟨r.val % 256, Nat.mod_lt _ (by decide)⟩ : Fin 256) n := by
    funext a
    match a with
    | ⟨0, _⟩ => rfl
    | ⟨1, _⟩ => rfl
  show oval m c (oF r.val) (oJ c r.val) (oIn (ix2 r n)) = _
  rw [hi, oval_apply, er]

end Cert.Ring
-- ==== Proof.Algebraic.lean ====
/- The kernel computes its block of the reference, over the extended reals. -/
module

public import proofs.«01_k».proof.Proof.Frames
public import proofs.«01_k».proof.Proof.Value
public import Idealize.ShloMosaic.Lib.StackMember
public import Idealize.ShloMosaic.Lib.Layout

@[expose] public section

noncomputable section

namespace Cert.Ring

open Idealize.ShloMosaic Idealize.ShloMosaic.TcCoe Idealize.ShloMosaic.ValueIdx Idealize.SL.Sem
open scoped BigOperators

attribute [local instance] Cert.Kernel.Gen.facts Cert.KernelIdeal.Gen.facts Cert.ReferenceIdeal.Gen.facts

/-- The whole arrays. -/
abbrev SA : Shape := ⟨2, ![8192, 8192]⟩
abbrev SB : Shape := ⟨2, ![8192, 1024]⟩
abbrev SC : Shape := ⟨2, ![1024, 4096]⟩
abbrev SO : Shape := ⟨2, ![8192, 4096]⟩

/-- The reference's result as a function of the whole arrays. -/
def refOut (A : SA.Idx → EReal) (B : SB.Idx → EReal) (C : SC.Idx → EReal) : SO.Idx → EReal :=
  Host.dotGeneral (F := Ideal) (φ₁ := .f32) (φ₂ := .f32) Cert.ReferenceIdeal.dot_S8192x1024_S1024x4096_S8192x4096_1_0_0_1_n_n none
    (Host.dotGeneral (F := Ideal) (φ₁ := .f32) (φ₂ := .f32) Cert.ReferenceIdeal.dot_S8192x8192_S8192x1024_S8192x1024_1_0_0_1_n_n none A B) C

theorem dotC_eq : Cert.ReferenceIdeal.dot_S8192x8192_S8192x1024_S8192x1024_1_0_0_1_n_n = DotDims.plain 8192 8192 1024 := rfl
theorem dotD_eq : Cert.ReferenceIdeal.dot_S8192x1024_S1024x4096_S8192x4096_1_0_0_1_n_n = DotDims.plain 8192 1024 4096 := rfl

theorem refOut_apply (A : SA.Idx → EReal) (B : SB.Idx → EReal) (C : SC.Idx → EReal) (r : Fin 8192) (n : Fin 4096) :
    refOut A B C (ix2 r n) = ∑ k : Fin 1024, (∑ l : Fin 8192, A (ix2 r l) * B (ix2 l k)) * C (ix2 k n) := by
  unfold refOut
  rw [dotC_eq, dotD_eq]
  refine (StackMember.dotGeneral_plain_apply (m := 8192) (k := 1024) (n := 4096) none _ _ r n).trans ?_
  refine Finset.sum_congr rfl fun k _ => ?_
  rw [StackMember.dotGeneral_plain_apply (m := 8192) (k := 8192) (n := 1024) none A B r k]

/-- A sum over the contracted axis is the sum over the devices of the sums over their blocks. -/
theorem sum_blocks (g : Fin 8192 → EReal) :
    ∑ l : Fin 8192, g l = ∑ e : Fin 8, ∑ k : Fin 1024, g ⟨e.val * 1024 + k.val, by have := e.isLt; have := k.isLt; omega⟩ := by
  rw [← Finset.sum_product', Finset.univ_product_univ]
  refine (Fintype.sum_equiv (finProdFinEquiv (m := 8) (n := 1024)) _ g fun x => congrArg g (Fin.ext ?_)).symm
  show x.1.val * 1024 + x.2.val = x.2.val + 1024 * x.1.val
  omega

/-- Where the arguments are blocks of whole arrays, the finished sum is the whole product. -/
theorem total_eq (m : Mem Ideal) (A : SA.Idx → EReal) (B : SB.Idx → EReal)
    (hA : ∀ c : Fin 8, m ((c : Thread Cert.KernelIdeal.nD Cert.KernelIdeal.τ).loc Cert.KernelIdeal.main_arg0) = Layout.block ⟨2, ![8192, 1024]⟩ SA 1 8 c A)
    (hB : ∀ c : Fin 8, m ((c : Thread Cert.KernelIdeal.nD Cert.KernelIdeal.τ).loc Cert.KernelIdeal.main_arg1) = Layout.block ⟨2, ![1024, 1024]⟩ SB 0 8 c B)
    (r : Fin 8192) (n : Fin 1024) : total m r n = ∑ l : Fin 8192, A (ix2 r l) * B (ix2 l n) := by
  rw [sum_blocks]
  unfold total
  refine Finset.sum_congr rfl fun e _ => ?_
  unfold prod
  refine Finset.sum_congr rfl fun k _ => ?_
  have ha : xR m e (ix2 r k) = A (ix2 r ⟨e.val * 1024 + k.val, by have : e.val < 8 := e.isLt; have := k.isLt; omega⟩) := by
    refine (congrFun (hA e) (ix2 r k)).trans (congrArg A ?_)
    funext a
    apply Fin.ext
    match a with
    | ⟨0, _⟩ => rfl
    | ⟨1, _⟩ => rfl
  have hb : w1R m e (ix2 k n) = B (ix2 ⟨e.val * 1024 + k.val, by have : e.val < 8 := e.isLt; have := k.isLt; omega⟩ n) := by
    refine (congrFun ((w1in_eq m e).trans (hB e)) (ix2 k n)).trans (congrArg B ?_)
    funext a
    apply Fin.ext
    match a with
    | ⟨0, _⟩ => rfl
    | ⟨1, _⟩ => rfl
  rw [ha, hb]

theorem out_block (m : Mem Ideal) (A : SA.Idx → EReal) (B : SB.Idx → EReal) (C : SC.Idx → EReal)
    (hA : ∀ c : Fin 8, m ((c : Thread Cert.KernelIdeal.nD Cert.KernelIdeal.τ).loc Cert.KernelIdeal.main_arg0) = Layout.block ⟨2, ![8192, 1024]⟩ SA 1 8 c A)
    (hB : ∀ c : Fin 8, m ((c : Thread Cert.KernelIdeal.nD Cert.KernelIdeal.τ).loc Cert.KernelIdeal.main_arg1) = Layout.block ⟨2, ![1024, 1024]⟩ SB 0 8 c B)
    (hC : ∀ c : Fin 8, m ((c : Thread Cert.KernelIdeal.nD Cert.KernelIdeal.τ).loc Cert.KernelIdeal.main_arg2) = Layout.block ⟨2, ![1024, 512]⟩ SC 1 8 c C)
    (c : Fin 8) : (outC m c : Cert.KernelIdeal.S8192x512.Idx → EReal) = Layout.block ⟨2, ![8192, 512]⟩ SO 1 8 c (refOut A B C) := by
  funext i
  obtain ⟨r, n, rfl⟩ : ∃ (r : Fin 8192) (n : Fin 512), i = ix2 r n := ⟨i 0, i 1, eq_ix2 i⟩
  have hcn : c.val * 512 + n.val < 4096 := by have := c.isLt; have := n.isLt; omega
  refine (outC_apply m c r n).trans ?_
  have ho : Layout.block ⟨2, ![8192, 512]⟩ SO 1 8 c (refOut A B C) (by decide) (ix2 r n) = refOut A B C (ix2 r ⟨c.val * 512 + n.val, hcn⟩) := by
    refine congrArg (refOut A B C) ?_
    funext a
    apply Fin.ext
    match a with
    | ⟨0, _⟩ => rfl
    | ⟨1, _⟩ => rfl
  refine Eq.trans ?_ ho.symm
  rw [refOut_apply]
  refine Finset.sum_congr rfl fun k _ => ?_
  have hc : w2R m c (ix2 k n) = C (ix2 k ⟨c.val * 512 + n.val, hcn⟩) := by
    refine (congrFun ((w2in_eq m c).trans (hC c)) (ix2 k n)).trans (congrArg C ?_)
    funext a
    apply Fin.ext
    match a with
    | ⟨0, _⟩ => rfl
    | ⟨1, _⟩ => rfl
  rw [hc, total_eq m A B hA hB r k]

/-- Each device's result is its block of the reference's. -/
theorem value : Cert.algebraic_KernelIdeal_ReferenceIdeal := by
  intro m ρ m' ρ' _ hag
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨(h.1 c).1.trans ?_, (h.1 c).2⟩) (run_main (F := Ideal) m ρ)
    exact out_block m _ _ _ (fun c => (hag c).1) (fun c => (hag c).2.1) (fun c => (hag c).2.2) c
  · exact (θ_run Cert.ReferenceIdeal.defs _ _).mono (fun _ h => h 0) (Cert.ReferenceIdeal.Value.run (F := Ideal) m' ρ')

end Cert.Ring
-- ==== Proof.lean ====
/- The claims, put together: the frames and the value proved in the modules that this one imports. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.frame_kernel, Cert.Ring.frame_ideal, Cert.Ring.frame_ref, trivial, Cert.Ring.value⟩

end Cert.Proof

end
